-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scale_in_range [hPre_scale_in_range : Cert.Pre_scale_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_scale_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scale_in_range [hPre_scale_in_range : Cert.Pre_scale_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scale_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_scale_in_range [hKernelIdeal : Cert.KernelIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scale_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_scale_in_range [hReferenceIdeal : Cert.ReferenceIdeal.Facts] [hPre_scale_in_range : Cert.Pre_scale_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scale_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_scale_in_range [hKernelIdeal : Cert.KernelIdeal.Facts] [hReferenceIdeal : Cert.ReferenceIdeal.Facts] [hPre_scale_in_range : Cert.Pre_scale_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scale_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)) (v3 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_v6) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v712) = v0 c
          ∧ r.2.mem ((c.tc : Thread Cert.ReferenceIdeal.nD Cert.ReferenceIdeal.τ).loc Cert.ReferenceIdeal.main_v654) = v1 c
          ∧ r.2.mem ((c.tc : Thread Cert.ReferenceIdeal.nD Cert.ReferenceIdeal.τ).loc Cert.ReferenceIdeal.main_v715) = v2 c
          ∧ r.2.mem ((c.tc : Thread Cert.ReferenceIdeal.nD Cert.ReferenceIdeal.τ).loc Cert.ReferenceIdeal.main_v718) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_scale_in_range : Cert.Pre_scale_in_range.Facts),
    quiescent_Kernel (hKernel := hKernel)
    ∧ quiescent_KernelIdeal (hKernelIdeal := hKernelIdeal)
    ∧ quiescent_KernelIdeal_pre_scale_in_range (hKernelIdeal := hKernelIdeal) (hPre_scale_in_range := hPre_scale_in_range)
    ∧ quiescent_ReferenceIdeal (hReferenceIdeal := hReferenceIdeal)
    ∧ quiescent_ReferenceIdeal_pre_scale_in_range (hReferenceIdeal := hReferenceIdeal) (hPre_scale_in_range := hPre_scale_in_range)
    ∧ preserves_Kernel_KernelIdeal
    ∧ algebraic_KernelIdeal_ReferenceIdeal_pre_scale_in_range (hKernelIdeal := hKernelIdeal) (hReferenceIdeal := hReferenceIdeal) (hPre_scale_in_range := hPre_scale_in_range)
-- ==== Pre_scale_in_range.lean ====
abbrev S16x2048x5120 : Shape := ⟨3, ![16, 2048, 5120]⟩
abbrev S2 : Shape := ⟨1, ![2]⟩
abbrev S16x2048x160x32 : Shape := ⟨4, ![16, 2048, 160, 32]⟩
abbrev S_ : Shape := ⟨0, ![]⟩
abbrev S16x2048x160 : Shape := ⟨3, ![16, 2048, 160]⟩

class Facts : Prop where
  bitsLt_bf16_f32 : FTy.bits .bf16 < FTy.bits .f32
  shapeCasts_S16x2048x5120_S16x2048x160x32 : S16x2048x5120.ShapeCasts S16x2048x160x32
  reducesTo_S16x2048x160x32_S16x2048x160_d3 : S16x2048x160x32.ReducesTo [3] S16x2048x160
  h_S_ : 0 < S_.numel
  bcast_S_S16x2048x160 : S_.BroadcastsInDim S16x2048x160 (![] : Fin 0 → Fin S16x2048x160.rank)
  reducesTo_S16x2048x160_S_d0_1_2 : S16x2048x160.ReducesTo [0, 1, 2] S_

variable [Facts]

def fn {F : FTy → Type} [FloatOps F] (main_arg0 : FVec F S16x2048x5120 .bf16) (main_arg1 : IVec S2 32) : IVec S_ 1 :=
  let main_v0 : FVec F S16x2048x5120 .f32 := (extf .f32 · bitsLt_bf16_f32) main_arg0
  let main_v1 : FVec F S16x2048x5120 .f32 := Host.absf main_v0
  let main_v2 : FVec F S16x2048x160x32 .f32 := shapeCast S16x2048x160x32 main_v1 shapeCasts_S16x2048x5120_S16x2048x160x32
  let main_cst : FVec F S_ .f32 := constant S_ .f32 0xFF800000#32
  let main_v3 : FVec F S16x2048x160 .f32 := (fun x v => Host.reduce FloatOps.maximumf x v reducesTo_S16x2048x160x32_S16x2048x160_d3 h_S_) main_v2 main_cst
  let main_cst_0 : FVec F S_ .f32 := constant S_ .f32 0x00000000#32
  let main_v4 : FVec F S16x2048x160 .f32 := broadcastInDim S16x2048x160 ![] bcast_S_S16x2048x160 main_cst_0
  let main_v5 : IVec S16x2048x160 1 := cmpf .oeq main_v3 main_v4
  let main_cst_1 : FVec F S_ .f32 := constant S_ .f32 0x01000000#32
  let main_v6 : FVec F S16x2048x160 .f32 := broadcastInDim S16x2048x160 ![] bcast_S_S16x2048x160 main_cst_1
  let main_v7 : IVec S16x2048x160 1 := cmpf .oge main_v3 main_v6
  let main_cst_2 : FVec F S_ .f32 := constant S_ .f32 0x7F7F0000#32
  let main_v8 : FVec F S16x2048x160 .f32 := broadcastInDim S16x2048x160 ![] bcast_S_S16x2048x160 main_cst_2
  let main_v9 : IVec S16x2048x160 1 := cmpf .ole main_v3 main_v8
  let main_v10 : IVec S16x2048x160 1 := andi main_v7 main_v9
  let main_v11 : IVec S16x2048x160 1 := ori main_v5 main_v10
  let main_c : IVec S_ 1 := constantI S_ 1 1#1
  let main_v12 : IVec S_ 1 := (fun x v => Host.reduce IntOp.andi x v reducesTo_S16x2048x160_S_d0_1_2 h_S_) main_v11 main_c
  main_v12
-- ==== Kernel.lean ====
abbrev S16x2048x5120 : Shape := ⟨3, ![16, 2048, 5120]⟩
abbrev S2 : Shape := ⟨1, ![2]⟩
abbrev S256x256 : Shape := ⟨2, ![256, 256]⟩
abbrev S32768x5120 : Shape := ⟨2, ![32768, 5120]⟩
abbrev S32768x2560 : Shape := ⟨2, ![32768, 2560]⟩
abbrev S32768x160 : Shape := ⟨2, ![32768, 160]⟩
abbrev S8x5120 : Shape := ⟨2, ![8, 5120]⟩
abbrev S8x128 : Shape := ⟨2, ![8, 128]⟩
abbrev S256x5120 : Shape := ⟨2, ![256, 5120]⟩
abbrev S256x2560 : Shape := ⟨2, ![256, 2560]⟩
abbrev S256x160 : Shape := ⟨2, ![256, 160]⟩
abbrev S128x128 : Shape := ⟨2, ![128, 128]⟩
abbrev S2x160x128 : Shape := ⟨3, ![2, 160, 128]⟩
abbrev S1 : Shape := ⟨1, ![1]⟩
abbrev S8x256 : Shape := ⟨2, ![8, 256]⟩
abbrev S1x8x128 : Shape := ⟨3, ![1, 8, 128]⟩
abbrev S1x160x128 : Shape := ⟨3, ![1, 160, 128]⟩
abbrev S160x128 : Shape := ⟨2, ![160, 128]⟩
abbrev S128x160 : Shape := ⟨2, ![128, 160]⟩
abbrev S16x2048x2560 : Shape := ⟨3, ![16, 2048, 2560]⟩
abbrev S16x2048x160 : Shape := ⟨3, ![16, 2048, 160]⟩
abbrev S1x5120 : Shape := ⟨2, ![1, 5120]⟩
abbrev S5120 : Shape := ⟨1, ![5120]⟩
abbrev S_ : Shape := ⟨0, ![]⟩

abbrev nBuf : Space → Nat
  | .hbm => 14
  | .vmem => 12
  | .smem => 1
  | _ => 0

abbrev bufTy : (tb : Table) → Fin (tcTables nBuf tb) → BufTy
  | .hbm, ⟨0, _⟩ => ⟨S16x2048x5120, .bf16⟩
  | .hbm, ⟨1, _⟩ => ⟨S2, .i32⟩
  | .hbm, ⟨2, _⟩ => ⟨S256x256, .bf16⟩
  | .hbm, ⟨3, _⟩ => ⟨S32768x5120, .bf16⟩
  | .hbm, ⟨4, _⟩ => ⟨S32768x2560, .i8⟩
  | .hbm, ⟨5, _⟩ => ⟨S32768x160, .i8⟩
  | .hbm, ⟨6, _⟩ => ⟨S8x5120, .f32⟩
  | .hbm, ⟨7, _⟩ => ⟨S8x128, .f32⟩
  | .hbm, ⟨8, _⟩ => ⟨S16x2048x2560, .i8⟩
  | .hbm, ⟨9, _⟩ => ⟨S16x2048x160, .i8⟩
  | .hbm, ⟨10, _⟩ => ⟨S1x5120, .f32⟩
  | .hbm, ⟨11, _⟩ => ⟨S5120, .f32⟩
  | .hbm, ⟨12, _⟩ => ⟨S_, .f32⟩
  | .hbm, ⟨13, _⟩ => ⟨S_, .f32⟩
  | .local _ .vmem, ⟨0, _⟩ => ⟨S256x5120, .bf16⟩
  | .local _ .vmem, ⟨1, _⟩ => ⟨S256x5120, .bf16⟩
  | .local _ .vmem, ⟨2, _⟩ => ⟨S256x256, .bf16⟩
  | .local _ .vmem, ⟨3, _⟩ => ⟨S256x2560, .i8⟩
  | .local _ .vmem, ⟨4, _⟩ => ⟨S256x2560, .i8⟩
  | .local _ .vmem, ⟨5, _⟩ => ⟨S256x160, .i8⟩
  | .local _ .vmem, ⟨6, _⟩ => ⟨S256x160, .i8⟩
  | .local _ .vmem, ⟨7, _⟩ => ⟨S8x5120, .f32⟩
  | .local _ .vmem, ⟨8, _⟩ => ⟨S8x128, .f32⟩
  | .local _ .vmem, ⟨9, _⟩ => ⟨S256x256, .f32⟩
  | .local _ .vmem, ⟨10, _⟩ => ⟨S128x128, .i32⟩
  | .local _ .vmem, ⟨11, _⟩ => ⟨S2x160x128, .i32⟩
  | .local _ .smem, ⟨0, _⟩ => ⟨S2, .i32⟩
  | _, _ => ⟨S16x2048x5120, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![128], ![false]⟩

@[reducible] def k0_t1_loop : Scf.Loop 32 :=
  let c0_i32_22 : BitVec 32 := 0#32
  let c20_i32 : BitVec 32 := 20#32
  let v47 : BitVec 32 := Scalar.addi c0_i32_22 c20_i32
  let c1_i32 : BitVec 32 := 1#32
  ⟨c0_i32_22, v47, c1_i32⟩
def k0_mult1 (k0_t1 : Fin k0_t1_loop.trips) : BitVec 32 :=
  let c0_i32_22 : BitVec 32 := 0#32
  let c1_i32 : BitVec 32 := 1#32
  let arg11 : BitVec 32 := Scf.iv c0_i32_22 c1_i32 k0_t1
  let c256_i32 : BitVec 32 := 256#32
  let v63 : BitVec 32 := Scalar.muli arg11 c256_i32
  v63
def k0_off1 (k0_t1 : Fin k0_t1_loop.trips) : Fin 2 → Nat :=
  let c0_37 : Index := 0#32
  let c0_i32_22 : BitVec 32 := 0#32
  let c1_i32 : BitVec 32 := 1#32
  let arg11 : BitVec 32 := Scf.iv c0_i32_22 c1_i32 k0_t1
  let c256_i32 : BitVec 32 := 256#32
  let v63 : BitVec 32 := Scalar.muli arg11 c256_i32
  let v64 : BitVec 32 := v63
  let v65 : Index := Scalar.indexCast v64
  ![0, v65.toNat]
def k0_off2 (k0_t1 : Fin k0_t1_loop.trips) : Fin 2 → Nat :=
  let c0_38 : Index := 0#32
  let c0_i32_22 : BitVec 32 := 0#32
  let c1_i32 : BitVec 32 := 1#32
  let arg11 : BitVec 32 := Scf.iv c0_i32_22 c1_i32 k0_t1
  let c256_i32 : BitVec 32 := 256#32
  let v63 : BitVec 32 := Scalar.muli arg11 c256_i32
  let v64 : BitVec 32 := v63
  let v68 : Index := Scalar.indexCast v64
  ![0, v68.toNat]
def k0_mult2 (k0_t1 : Fin k0_t1_loop.trips) : BitVec 32 :=
  let c0_i32_22 : BitVec 32 := 0#32
  let c1_i32 : BitVec 32 := 1#32
  let arg11 : BitVec 32 := Scf.iv c0_i32_22 c1_i32 k0_t1
  let c8_i32_92 : BitVec 32 := 8#32
  let v244 : BitVec 32 := Scalar.muli arg11 c8_i32_92
  v244
def k0_off3 (k0_t1 : Fin k0_t1_loop.trips) : Fin 3 → Nat :=
  let c0_93 : Index := 0#32
  let c0_i32_22 : BitVec 32 := 0#32
  let c1_i32 : BitVec 32 := 1#32
  let arg11 : BitVec 32 := Scf.iv c0_i32_22 c1_i32 k0_t1
  let c8_i32_92 : BitVec 32 := 8#32
  let v244 : BitVec 32 := Scalar.muli arg11 c8_i32_92
  let v245 : BitVec 32 := v244
  let v246 : Index := Scalar.indexCast v245
  let c0_94 : Index := 0#32
  ![0, v246.toNat, 0]
@[reducible] def k0_t2_loop : Scf.Loop 32 :=
  let c0_i32_99 : BitVec 32 := 0#32
  let c8_i32_100 : BitVec 32 := 8#32
  let v262 : BitVec 32 := Scalar.addi c0_i32_99 c8_i32_100
  let c1_i32_101 : BitVec 32 := 1#32
  ⟨c0_i32_99, v262, c1_i32_101⟩
def k0_mult3 (k0_t2 : Fin k0_t2_loop.trips) : BitVec 32 :=
  let c0_i32_99 : BitVec 32 := 0#32
  let c1_i32_101 : BitVec 32 := 1#32
  let arg13 : BitVec 32 := Scf.iv c0_i32_99 c1_i32_101 k0_t2
  let c4_i32_373 : BitVec 32 := 4#32
  let v916 : BitVec 32 := Scalar.muli arg13 c4_i32_373
  let c0_i32_374 : BitVec 32 := 0#32
  let v917 : BitVec 32 := Scalar.addi v916 c0_i32_374
  let c8_i32_375 : BitVec 32 := 8#32
  let v918 : BitVec 32 := Scalar.muli v917 c8_i32_375
  v918
def k0_off4 (k0_t2 : Fin k0_t2_loop.trips) (c0_i32_374 : BitVec 32) : Fin 2 → Nat :=
  let c0_i32_99 : BitVec 32 := 0#32
  let c1_i32_101 : BitVec 32 := 1#32
  let arg13 : BitVec 32 := Scf.iv c0_i32_99 c1_i32_101 k0_t2
  let c4_i32_373 : BitVec 32 := 4#32
  let v916 : BitVec 32 := Scalar.muli arg13 c4_i32_373
  let v917 : BitVec 32 := Scalar.addi v916 c0_i32_374
  let c8_i32_375 : BitVec 32 := 8#32
  let v918 : BitVec 32 := Scalar.muli v917 c8_i32_375
  let v919 : BitVec 32 := v918
  let v920 : Index := Scalar.indexCast v919
  let c0_376 : Index := 0#32
  ![v920.toNat, 0]
def k0_mult4 (k0_t2 : Fin k0_t2_loop.trips) : BitVec 32 :=
  let c0_i32_99 : BitVec 32 := 0#32
  let c1_i32_101 : BitVec 32 := 1#32
  let arg13 : BitVec 32 := Scf.iv c0_i32_99 c1_i32_101 k0_t2
  let c4_i32_387 : BitVec 32 := 4#32
  let v954 : BitVec 32 := Scalar.muli arg13 c4_i32_387
  let c1_i32_388 : BitVec 32 := 1#32
  let v955 : BitVec 32 := Scalar.addi v954 c1_i32_388
  let c8_i32_389 : BitVec 32 := 8#32
  let v956 : BitVec 32 := Scalar.muli v955 c8_i32_389
  v956
def k0_mult5 (k0_t2 : Fin k0_t2_loop.trips) : BitVec 32 :=
  let c0_i32_99 : BitVec 32 := 0#32
  let c1_i32_101 : BitVec 32 := 1#32
  let arg13 : BitVec 32 := Scf.iv c0_i32_99 c1_i32_101 k0_t2
  let c4_i32_401 : BitVec 32 := 4#32
  let v992 : BitVec 32 := Scalar.muli arg13 c4_i32_401
  let c2_i32_402 : BitVec 32 := 2#32
  let v993 : BitVec 32 := Scalar.addi v992 c2_i32_402
  let c8_i32_403 : BitVec 32 := 8#32
  let v994 : BitVec 32 := Scalar.muli v993 c8_i32_403
  v994
def k0_mult6 (k0_t2 : Fin k0_t2_loop.trips) : BitVec 32 :=
  let c0_i32_99 : BitVec 32 := 0#32
  let c1_i32_101 : BitVec 32 := 1#32
  let arg13 : BitVec 32 := Scf.iv c0_i32_99 c1_i32_101 k0_t2
  let c4_i32_415 : BitVec 32 := 4#32
  let v1030 : BitVec 32 := Scalar.muli arg13 c4_i32_415
  let c3_i32 : BitVec 32 := 3#32
  let v1031 : BitVec 32 := Scalar.addi v1030 c3_i32
  let c8_i32_416 : BitVec 32 := 8#32
  let v1032 : BitVec 32 := Scalar.muli v1031 c8_i32_416
  v1032
def k0_off5 (k0_t2 : Fin k0_t2_loop.trips) (c0_i32_430 : BitVec 32) : Fin 2 → Nat :=
  let c2_i32_429 : BitVec 32 := 2#32
  let c0_i32_99 : BitVec 32 := 0#32
  let c1_i32_101 : BitVec 32 := 1#32
  let arg13 : BitVec 32 := Scf.iv c0_i32_99 c1_i32_101 k0_t2
  let v1071 : BitVec 32 := Scalar.muli c2_i32_429 arg13
  let v1072 : BitVec 32 := Scalar.addi v1071 c0_i32_430
  let v1073 : Index := Scalar.indexCast v1072
  let c0_431 : Index := 0#32
  ![v1073.toNat, 0]
def k0_mult7 (k0_t1 : Fin k0_t1_loop.trips) : BitVec 32 :=
  let c0_i32_22 : BitVec 32 := 0#32
  let c1_i32 : BitVec 32 := 1#32
  let arg11 : BitVec 32 := Scf.iv c0_i32_22 c1_i32 k0_t1
  let c128_i32_105 : BitVec 32 := 128#32
  let v266 : BitVec 32 := Scalar.muli arg11 c128_i32_105
  v266
def k0_off6 (k0_t1 : Fin k0_t1_loop.trips) : Fin 2 → Nat :=
  let c0_106 : Index := 0#32
  let c0_i32_22 : BitVec 32 := 0#32
  let c1_i32 : BitVec 32 := 1#32
  let arg11 : BitVec 32 := Scf.iv c0_i32_22 c1_i32 k0_t1
  let c128_i32_105 : BitVec 32 := 128#32
  let v266 : BitVec 32 := Scalar.muli arg11 c128_i32_105
  let v267 : BitVec 32 := v266
  let v268 : Index := Scalar.indexCast v267
  ![0, v268.toNat]
def k0_mult8 (k0_t1 : Fin k0_t1_loop.trips) : BitVec 32 :=
  let c0_i32_22 : BitVec 32 := 0#32
  let c1_i32 : BitVec 32 := 1#32
  let arg11 : BitVec 32 := Scf.iv c0_i32_22 c1_i32 k0_t1
  let c8_i32_193 : BitVec 32 := 8#32
  let v434 : BitVec 32 := Scalar.muli arg11 c8_i32_193
  v434
def k0_off7 (k0_t1 : Fin k0_t1_loop.trips) : Fin 3 → Nat :=
  let c1_194 : Index := 1#32
  let c0_i32_22 : BitVec 32 := 0#32
  let c1_i32 : BitVec 32 := 1#32
  let arg11 : BitVec 32 := Scf.iv c0_i32_22 c1_i32 k0_t1
  let c8_i32_193 : BitVec 32 := 8#32
  let v434 : BitVec 32 := Scalar.muli arg11 c8_i32_193
  let v435 : BitVec 32 := v434
  let v436 : Index := Scalar.indexCast v435
  let c0_195 : Index := 0#32
  ![1, v436.toNat, 0]
@[reducible] def k0_t3_loop : Scf.Loop 32 :=
  let c0_i32_201 : BitVec 32 := 0#32
  let c8_i32_202 : BitVec 32 := 8#32
  let v452 : BitVec 32 := Scalar.addi c0_i32_201 c8_i32_202
  let c1_i32_203 : BitVec 32 := 1#32
  ⟨c0_i32_201, v452, c1_i32_203⟩
def k0_mult9 (k0_t3 : Fin k0_t3_loop.trips) : BitVec 32 :=
  let c0_i32_201 : BitVec 32 := 0#32
  let c1_i32_203 : BitVec 32 := 1#32
  let arg13 : BitVec 32 := Scf.iv c0_i32_201 c1_i32_203 k0_t3
  let c4_i32_373 : BitVec 32 := 4#32
  let v916 : BitVec 32 := Scalar.muli arg13 c4_i32_373
  let c0_i32_374 : BitVec 32 := 0#32
  let v917 : BitVec 32 := Scalar.addi v916 c0_i32_374
  let c8_i32_375 : BitVec 32 := 8#32
  let v918 : BitVec 32 := Scalar.muli v917 c8_i32_375
  v918
def k0_off8 (k0_t3 : Fin k0_t3_loop.trips) (c0_i32_374 : BitVec 32) : Fin 2 → Nat :=
  let c0_i32_201 : BitVec 32 := 0#32
  let c1_i32_203 : BitVec 32 := 1#32
  let arg13 : BitVec 32 := Scf.iv c0_i32_201 c1_i32_203 k0_t3
  let c4_i32_373 : BitVec 32 := 4#32
  let v916 : BitVec 32 := Scalar.muli arg13 c4_i32_373
  let v917 : BitVec 32 := Scalar.addi v916 c0_i32_374
  let c8_i32_375 : BitVec 32 := 8#32
  let v918 : BitVec 32 := Scalar.muli v917 c8_i32_375
  let v919 : BitVec 32 := v918
  let v920 : Index := Scalar.indexCast v919
  let c128_376 : Index := 128#32
  ![v920.toNat, 128]
def k0_mult10 (k0_t3 : Fin k0_t3_loop.trips) : BitVec 32 :=
  let c0_i32_201 : BitVec 32 := 0#32
  let c1_i32_203 : BitVec 32 := 1#32
  let arg13 : BitVec 32 := Scf.iv c0_i32_201 c1_i32_203 k0_t3
  let c4_i32_387 : BitVec 32 := 4#32
  let v954 : BitVec 32 := Scalar.muli arg13 c4_i32_387
  let c1_i32_388 : BitVec 32 := 1#32
  let v955 : BitVec 32 := Scalar.addi v954 c1_i32_388
  let c8_i32_389 : BitVec 32 := 8#32
  let v956 : BitVec 32 := Scalar.muli v955 c8_i32_389
  v956
def k0_mult11 (k0_t3 : Fin k0_t3_loop.trips) : BitVec 32 :=
  let c0_i32_201 : BitVec 32 := 0#32
  let c1_i32_203 : BitVec 32 := 1#32
  let arg13 : BitVec 32 := Scf.iv c0_i32_201 c1_i32_203 k0_t3
  let c4_i32_401 : BitVec 32 := 4#32
  let v992 : BitVec 32 := Scalar.muli arg13 c4_i32_401
  let c2_i32_402 : BitVec 32 := 2#32
  let v993 : BitVec 32 := Scalar.addi v992 c2_i32_402
  let c8_i32_403 : BitVec 32 := 8#32
  let v994 : BitVec 32 := Scalar.muli v993 c8_i32_403
  v994
def k0_mult12 (k0_t3 : Fin k0_t3_loop.trips) : BitVec 32 :=
  let c0_i32_201 : BitVec 32 := 0#32
  let c1_i32_203 : BitVec 32 := 1#32
  let arg13 : BitVec 32 := Scf.iv c0_i32_201 c1_i32_203 k0_t3
  let c4_i32_415 : BitVec 32 := 4#32
  let v1030 : BitVec 32 := Scalar.muli arg13 c4_i32_415
  let c3_i32 : BitVec 32 := 3#32
  let v1031 : BitVec 32 := Scalar.addi v1030 c3_i32
  let c8_i32_416 : BitVec 32 := 8#32
  let v1032 : BitVec 32 := Scalar.muli v1031 c8_i32_416
  v1032
def k0_off9 (k0_t3 : Fin k0_t3_loop.trips) (c0_i32_430 : BitVec 32) : Fin 2 → Nat :=
  let c2_i32_429 : BitVec 32 := 2#32
  let c0_i32_201 : BitVec 32 := 0#32
  let c1_i32_203 : BitVec 32 := 1#32
  let arg13 : BitVec 32 := Scf.iv c0_i32_201 c1_i32_203 k0_t3
  let v1071 : BitVec 32 := Scalar.muli c2_i32_429 arg13
  let v1072 : BitVec 32 := Scalar.addi v1071 c0_i32_430
  let v1073 : Index := Scalar.indexCast v1072
  let c0_431 : Index := 0#32
  ![v1073.toNat, 0]
def k0_mult13 (k0_t1 : Fin k0_t1_loop.trips) : BitVec 32 :=
  let c0_i32_22 : BitVec 32 := 0#32
  let c1_i32 : BitVec 32 := 1#32
  let arg11 : BitVec 32 := Scf.iv c0_i32_22 c1_i32 k0_t1
  let c128_i32_207 : BitVec 32 := 128#32
  let v456 : BitVec 32 := Scalar.muli arg11 c128_i32_207
  v456
def k0_off10 (k0_t1 : Fin k0_t1_loop.trips) : Fin 2 → Nat :=
  let c128_208 : Index := 128#32
  let c0_i32_22 : BitVec 32 := 0#32
  let c1_i32 : BitVec 32 := 1#32
  let arg11 : BitVec 32 := Scf.iv c0_i32_22 c1_i32 k0_t1
  let c128_i32_207 : BitVec 32 := 128#32
  let v456 : BitVec 32 := Scalar.muli arg11 c128_i32_207
  let v457 : BitVec 32 := v456
  let v458 : Index := Scalar.indexCast v457
  ![128, v458.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x5120 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2560 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x160 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x5120 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S16x2048x5120 : Shape := ⟨3, ![16, 2048, 5120]⟩
abbrev S2 : Shape := ⟨1, ![2]⟩
abbrev S16x2048x160x8x4 : Shape := ⟨5, ![16, 2048, 160, 8, 4]⟩
abbrev S16x2048x4x8x160 : Shape := ⟨5, ![16, 2048, 4, 8, 160]⟩
abbrev S8 : Shape := ⟨1, ![8]⟩
abbrev S8x1 : Shape := ⟨2, ![8, 1]⟩
abbrev S160 : Shape := ⟨1, ![160]⟩
abbrev S1x160 : Shape := ⟨2, ![1, 160]⟩
abbrev S_ : Shape := ⟨0, ![]⟩
abbrev S8x160 : Shape := ⟨2, ![8, 160]⟩
abbrev S32768 : Shape := ⟨1, ![32768]⟩
abbrev S16x2048x1x1 : Shape := ⟨4, ![16, 2048, 1, 1]⟩
abbrev S1x1x8x160 : Shape := ⟨4, ![1, 1, 8, 160]⟩
abbrev S16x2048x8x160 : Shape := ⟨4, ![16, 2048, 8, 160]⟩
abbrev S1 : Shape := ⟨1, ![1]⟩
abbrev S16x2048x1x8x160 : Shape := ⟨5, ![16, 2048, 1, 8, 160]⟩
abbrev S16x2048x160 : Shape := ⟨3, ![16, 2048, 160]⟩
abbrev S16x2048x1x1x160 : Shape := ⟨5, ![16, 2048, 1, 1, 160]⟩
abbrev S16x2048x2x8x160 : Shape := ⟨5, ![16, 2048, 2, 8, 160]⟩
abbrev S16x2048x160x8x2 : Shape := ⟨5, ![16, 2048, 160, 8, 2]⟩
abbrev S16x2048x2560 : Shape := ⟨3, ![16, 2048, 2560]⟩
abbrev S4x8x160 : Shape := ⟨3, ![4, 8, 160]⟩
abbrev S160x8x4 : Shape := ⟨3, ![160, 8, 4]⟩
abbrev S5120 : Shape := ⟨1, ![5120]⟩

abbrev nBuf : Space → Nat
  | .hbm => 981
  | .vmem => 0
  | .smem => 0
  | _ => 0

abbrev hbmTy0_0 (i : Nat) : BufTy := match i % 128 with
  | 0 => ⟨S16x2048x5120, .bf16⟩
  | 1 => ⟨S2, .i32⟩
  | 2 => ⟨S16x2048x160x8x4, .bf16⟩
  | 3 => ⟨S16x2048x4x8x160, .bf16⟩
  | 4 => ⟨S8, .i32⟩
  | 5 => ⟨S8x1, .i32⟩
  | 6 => ⟨S160, .i32⟩
  | 7 => ⟨S1x160, .i32⟩
  | 8 => ⟨S_, .i32⟩
  | 9 => ⟨S1x160, .i32⟩
  | 10 => ⟨S1x160, .i32⟩
  | 11 => ⟨S8x160, .i32⟩
  | 12 => ⟨S8x160, .i32⟩
  | 13 => ⟨S8x160, .i32⟩
  | 14 => ⟨S32768, .i32⟩
  | 15 => ⟨S16x2048x1x1, .i32⟩
  | 16 => ⟨S_, .i32⟩
  | 17 => ⟨S16x2048x1x1, .i32⟩
  | 18 => ⟨S16x2048x1x1, .i32⟩
  | 19 => ⟨S1x1x8x160, .i32⟩
  | 20 => ⟨S16x2048x8x160, .i32⟩
  | 21 => ⟨S16x2048x8x160, .i32⟩
  | 22 => ⟨S16x2048x8x160, .i32⟩
  | 23 => ⟨S1, .i32⟩
  | 24 => ⟨S_, .i32⟩
  | 25 => ⟨S1, .i32⟩
  | 26 => ⟨S_, .i32⟩
  | 27 => ⟨S_, .i32⟩
  | 28 => ⟨S16x2048x8x160, .i32⟩
  | 29 => ⟨S16x2048x8x160, .i32⟩
  | 30 => ⟨S_, .i32⟩
  | 31 => ⟨S_, .i32⟩
  | 32 => ⟨S_, .i32⟩
  | 33 => ⟨S_, .i32⟩
  | 34 => ⟨S_, .i32⟩
  | 35 => ⟨S_, .i32⟩
  | 36 => ⟨S_, .i32⟩
  | 37 => ⟨S16x2048x8x160, .i32⟩
  | 38 => ⟨S16x2048x8x160, .i32⟩
  | 39 => ⟨S_, .i32⟩
  | 40 => ⟨S16x2048x8x160, .i32⟩
  | 41 => ⟨S16x2048x8x160, .i32⟩
  | 42 => ⟨S16x2048x8x160, .i32⟩
  | 43 => ⟨S16x2048x8x160, .i32⟩
  | 44 => ⟨S16x2048x8x160, .i32⟩
  | 45 => ⟨S16x2048x8x160, .i32⟩
  | 46 => ⟨S_, .i32⟩
  | 47 => ⟨S16x2048x8x160, .i32⟩
  | 48 => ⟨S16x2048x8x160, .i32⟩
  | 49 => ⟨S16x2048x8x160, .i32⟩
  | 50 => ⟨S16x2048x8x160, .i32⟩
  | 51 => ⟨S16x2048x8x160, .i32⟩
  | 52 => ⟨S_, .i32⟩
  | 53 => ⟨S16x2048x8x160, .i32⟩
  | 54 => ⟨S16x2048x8x160, .i32⟩
  | 55 => ⟨S16x2048x8x160, .i32⟩
  | 56 => ⟨S16x2048x8x160, .i32⟩
  | 57 => ⟨S16x2048x8x160, .i32⟩
  | 58 => ⟨S_, .i32⟩
  | 59 => ⟨S16x2048x8x160, .i32⟩
  | 60 => ⟨S16x2048x8x160, .i32⟩
  | 61 => ⟨S16x2048x8x160, .i32⟩
  | 62 => ⟨S_, .i32⟩
  | 63 => ⟨S16x2048x8x160, .i32⟩
  | 64 => ⟨S16x2048x8x160, .i32⟩
  | 65 => ⟨S16x2048x8x160, .i32⟩
  | 66 => ⟨S16x2048x8x160, .i32⟩
  | 67 => ⟨S_, .i32⟩
  | 68 => ⟨S16x2048x8x160, .i32⟩
  | 69 => ⟨S16x2048x8x160, .i32⟩
  | 70 => ⟨S16x2048x8x160, .i32⟩
  | 71 => ⟨S_, .i32⟩
  | 72 => ⟨S_, .i32⟩
  | 73 => ⟨S_, .i32⟩
  | 74 => ⟨S_, .i32⟩
  | 75 => ⟨S_, .i32⟩
  | 76 => ⟨S16x2048x8x160, .i32⟩
  | 77 => ⟨S16x2048x8x160, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S_, .i32⟩
  | 85 => ⟨S16x2048x8x160, .i32⟩
  | 86 => ⟨S16x2048x8x160, .i32⟩
  | 87 => ⟨S_, .i32⟩
  | 88 => ⟨S16x2048x8x160, .i32⟩
  | 89 => ⟨S16x2048x8x160, .i32⟩
  | 90 => ⟨S16x2048x8x160, .i32⟩
  | 91 => ⟨S16x2048x8x160, .i32⟩
  | 92 => ⟨S16x2048x8x160, .i32⟩
  | 93 => ⟨S16x2048x8x160, .i32⟩
  | 94 => ⟨S_, .i32⟩
  | 95 => ⟨S16x2048x8x160, .i32⟩
  | 96 => ⟨S16x2048x8x160, .i32⟩
  | 97 => ⟨S16x2048x8x160, .i32⟩
  | 98 => ⟨S16x2048x8x160, .i32⟩
  | 99 => ⟨S16x2048x8x160, .i32⟩
  | 100 => ⟨S_, .i32⟩
  | 101 => ⟨S16x2048x8x160, .i32⟩
  | 102 => ⟨S16x2048x8x160, .i32⟩
  | 103 => ⟨S16x2048x8x160, .i32⟩
  | 104 => ⟨S16x2048x8x160, .i32⟩
  | 105 => ⟨S16x2048x8x160, .i32⟩
  | 106 => ⟨S_, .i32⟩
  | 107 => ⟨S16x2048x8x160, .i32⟩
  | 108 => ⟨S16x2048x8x160, .i32⟩
  | 109 => ⟨S16x2048x8x160, .i32⟩
  | 110 => ⟨S_, .i32⟩
  | 111 => ⟨S16x2048x8x160, .i32⟩
  | 112 => ⟨S16x2048x8x160, .i32⟩
  | 113 => ⟨S16x2048x8x160, .i32⟩
  | 114 => ⟨S_, .i32⟩
  | 115 => ⟨S16x2048x8x160, .i32⟩
  | 116 => ⟨S16x2048x8x160, .i32⟩
  | 117 => ⟨S_, .i32⟩
  | 118 => ⟨S_, .i32⟩
  | 119 => ⟨S_, .i32⟩
  | 120 => ⟨S_, .i32⟩
  | 121 => ⟨S_, .i32⟩
  | 122 => ⟨S_, .i32⟩
  | 123 => ⟨S_, .i32⟩
  | 124 => ⟨S16x2048x8x160, .i32⟩
  | 125 => ⟨S16x2048x8x160, .i32⟩
  | 126 => ⟨S_, .i32⟩
  | 127 => ⟨S16x2048x8x160, .i32⟩
  | _ => ⟨S16x2048x5120, .bf16⟩

abbrev hbmTy0_1 (i : Nat) : BufTy := match i % 128 with
  | 0 => ⟨S16x2048x8x160, .i32⟩
  | 1 => ⟨S16x2048x8x160, .i32⟩
  | 2 => ⟨S16x2048x8x160, .i32⟩
  | 3 => ⟨S16x2048x8x160, .i32⟩
  | 4 => ⟨S16x2048x8x160, .i32⟩
  | 5 => ⟨S_, .i32⟩
  | 6 => ⟨S16x2048x8x160, .i32⟩
  | 7 => ⟨S16x2048x8x160, .i32⟩
  | 8 => ⟨S16x2048x8x160, .i32⟩
  | 9 => ⟨S16x2048x8x160, .i32⟩
  | 10 => ⟨S16x2048x8x160, .i32⟩
  | 11 => ⟨S_, .i32⟩
  | 12 => ⟨S16x2048x8x160, .i32⟩
  | 13 => ⟨S16x2048x8x160, .i32⟩
  | 14 => ⟨S16x2048x8x160, .i32⟩
  | 15 => ⟨S16x2048x8x160, .i32⟩
  | 16 => ⟨S16x2048x8x160, .i32⟩
  | 17 => ⟨S_, .i32⟩
  | 18 => ⟨S16x2048x8x160, .i32⟩
  | 19 => ⟨S16x2048x8x160, .i32⟩
  | 20 => ⟨S16x2048x8x160, .i32⟩
  | 21 => ⟨S_, .i32⟩
  | 22 => ⟨S16x2048x8x160, .i32⟩
  | 23 => ⟨S16x2048x8x160, .i32⟩
  | 24 => ⟨S16x2048x8x160, .i32⟩
  | 25 => ⟨S16x2048x8x160, .i32⟩
  | 26 => ⟨S16x2048x8x160, .i32⟩
  | 27 => ⟨S16x2048x8x160, .i32⟩
  | 28 => ⟨S16x2048x8x160, .i32⟩
  | 29 => ⟨S16x2048x8x160, .i32⟩
  | 30 => ⟨S16x2048x8x160, .i32⟩
  | 31 => ⟨S_, .i32⟩
  | 32 => ⟨S_, .i32⟩
  | 33 => ⟨S_, .i32⟩
  | 34 => ⟨S_, .i32⟩
  | 35 => ⟨S_, .i32⟩
  | 36 => ⟨S16x2048x8x160, .i32⟩
  | 37 => ⟨S16x2048x8x160, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S16x2048x8x160, .i32⟩
  | 46 => ⟨S16x2048x8x160, .i32⟩
  | 47 => ⟨S_, .i32⟩
  | 48 => ⟨S16x2048x8x160, .i32⟩
  | 49 => ⟨S16x2048x8x160, .i32⟩
  | 50 => ⟨S16x2048x8x160, .i32⟩
  | 51 => ⟨S16x2048x8x160, .i32⟩
  | 52 => ⟨S16x2048x8x160, .i32⟩
  | 53 => ⟨S16x2048x8x160, .i32⟩
  | 54 => ⟨S_, .i32⟩
  | 55 => ⟨S16x2048x8x160, .i32⟩
  | 56 => ⟨S16x2048x8x160, .i32⟩
  | 57 => ⟨S16x2048x8x160, .i32⟩
  | 58 => ⟨S16x2048x8x160, .i32⟩
  | 59 => ⟨S16x2048x8x160, .i32⟩
  | 60 => ⟨S_, .i32⟩
  | 61 => ⟨S16x2048x8x160, .i32⟩
  | 62 => ⟨S16x2048x8x160, .i32⟩
  | 63 => ⟨S16x2048x8x160, .i32⟩
  | 64 => ⟨S16x2048x8x160, .i32⟩
  | 65 => ⟨S16x2048x8x160, .i32⟩
  | 66 => ⟨S_, .i32⟩
  | 67 => ⟨S16x2048x8x160, .i32⟩
  | 68 => ⟨S16x2048x8x160, .i32⟩
  | 69 => ⟨S16x2048x8x160, .i32⟩
  | 70 => ⟨S_, .i32⟩
  | 71 => ⟨S16x2048x8x160, .i32⟩
  | 72 => ⟨S16x2048x8x160, .i32⟩
  | 73 => ⟨S16x2048x8x160, .i32⟩
  | 74 => ⟨S_, .i32⟩
  | 75 => ⟨S16x2048x8x160, .i32⟩
  | 76 => ⟨S16x2048x8x160, .i32⟩
  | 77 => ⟨S_, .i32⟩
  | 78 => ⟨S_, .i32⟩
  | 79 => ⟨S_, .i32⟩
  | 80 => ⟨S_, .i32⟩
  | 81 => ⟨S_, .i32⟩
  | 82 => ⟨S_, .i32⟩
  | 83 => ⟨S_, .i32⟩
  | 84 => ⟨S16x2048x8x160, .i32⟩
  | 85 => ⟨S16x2048x8x160, .i32⟩
  | 86 => ⟨S_, .i32⟩
  | 87 => ⟨S16x2048x8x160, .i32⟩
  | 88 => ⟨S16x2048x8x160, .i32⟩
  | 89 => ⟨S16x2048x8x160, .i32⟩
  | 90 => ⟨S16x2048x8x160, .i32⟩
  | 91 => ⟨S16x2048x8x160, .i32⟩
  | 92 => ⟨S16x2048x8x160, .i32⟩
  | 93 => ⟨S_, .i32⟩
  | 94 => ⟨S16x2048x8x160, .i32⟩
  | 95 => ⟨S16x2048x8x160, .i32⟩
  | 96 => ⟨S16x2048x8x160, .i32⟩
  | 97 => ⟨S16x2048x8x160, .i32⟩
  | 98 => ⟨S16x2048x8x160, .i32⟩
  | 99 => ⟨S_, .i32⟩
  | 100 => ⟨S16x2048x8x160, .i32⟩
  | 101 => ⟨S16x2048x8x160, .i32⟩
  | 102 => ⟨S16x2048x8x160, .i32⟩
  | 103 => ⟨S16x2048x8x160, .i32⟩
  | 104 => ⟨S16x2048x8x160, .i32⟩
  | 105 => ⟨S_, .i32⟩
  | 106 => ⟨S16x2048x8x160, .i32⟩
  | 107 => ⟨S16x2048x8x160, .i32⟩
  | 108 => ⟨S16x2048x8x160, .i32⟩
  | 109 => ⟨S_, .i32⟩
  | 110 => ⟨S16x2048x8x160, .i32⟩
  | 111 => ⟨S16x2048x8x160, .i32⟩
  | 112 => ⟨S16x2048x8x160, .i32⟩
  | 113 => ⟨S16x2048x8x160, .i32⟩
  | 114 => ⟨S16x2048x8x160, .i32⟩
  | 115 => ⟨S16x2048x8x160, .i32⟩
  | 116 => ⟨S16x2048x8x160, .i32⟩
  | 117 => ⟨S16x2048x8x160, .i32⟩
  | 118 => ⟨S16x2048x8x160, .i32⟩
  | 119 => ⟨S_, .i32⟩
  | 120 => ⟨S_, .i32⟩
  | 121 => ⟨S_, .i32⟩
  | 122 => ⟨S_, .i32⟩
  | 123 => ⟨S_, .i32⟩
  | 124 => ⟨S16x2048x8x160, .i32⟩
  | 125 => ⟨S16x2048x8x160, .i32⟩
  | 126 => ⟨S_, .i32⟩
  | 127 => ⟨S_, .i32⟩
  | _ => ⟨S16x2048x5120, .bf16⟩

abbrev hbmTy0_2 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S16x2048x8x160, .i32⟩
  | 6 => ⟨S16x2048x8x160, .i32⟩
  | 7 => ⟨S_, .i32⟩
  | 8 => ⟨S16x2048x8x160, .i32⟩
  | 9 => ⟨S16x2048x8x160, .i32⟩
  | 10 => ⟨S16x2048x8x160, .i32⟩
  | 11 => ⟨S16x2048x8x160, .i32⟩
  | 12 => ⟨S16x2048x8x160, .i32⟩
  | 13 => ⟨S16x2048x8x160, .i32⟩
  | 14 => ⟨S_, .i32⟩
  | 15 => ⟨S16x2048x8x160, .i32⟩
  | 16 => ⟨S16x2048x8x160, .i32⟩
  | 17 => ⟨S16x2048x8x160, .i32⟩
  | 18 => ⟨S16x2048x8x160, .i32⟩
  | 19 => ⟨S16x2048x8x160, .i32⟩
  | 20 => ⟨S_, .i32⟩
  | 21 => ⟨S16x2048x8x160, .i32⟩
  | 22 => ⟨S16x2048x8x160, .i32⟩
  | 23 => ⟨S16x2048x8x160, .i32⟩
  | 24 => ⟨S16x2048x8x160, .i32⟩
  | 25 => ⟨S16x2048x8x160, .i32⟩
  | 26 => ⟨S_, .i32⟩
  | 27 => ⟨S16x2048x8x160, .i32⟩
  | 28 => ⟨S16x2048x8x160, .i32⟩
  | 29 => ⟨S16x2048x8x160, .i32⟩
  | 30 => ⟨S_, .i32⟩
  | 31 => ⟨S16x2048x8x160, .i32⟩
  | 32 => ⟨S16x2048x8x160, .i32⟩
  | 33 => ⟨S16x2048x8x160, .i32⟩
  | 34 => ⟨S_, .i32⟩
  | 35 => ⟨S16x2048x8x160, .i32⟩
  | 36 => ⟨S16x2048x8x160, .i32⟩
  | 37 => ⟨S_, .i32⟩
  | 38 => ⟨S_, .i32⟩
  | 39 => ⟨S_, .i32⟩
  | 40 => ⟨S_, .i32⟩
  | 41 => ⟨S_, .i32⟩
  | 42 => ⟨S_, .i32⟩
  | 43 => ⟨S_, .i32⟩
  | 44 => ⟨S16x2048x8x160, .i32⟩
  | 45 => ⟨S16x2048x8x160, .i32⟩
  | 46 => ⟨S_, .i32⟩
  | 47 => ⟨S16x2048x8x160, .i32⟩
  | 48 => ⟨S16x2048x8x160, .i32⟩
  | 49 => ⟨S16x2048x8x160, .i32⟩
  | 50 => ⟨S16x2048x8x160, .i32⟩
  | 51 => ⟨S16x2048x8x160, .i32⟩
  | 52 => ⟨S16x2048x8x160, .i32⟩
  | 53 => ⟨S_, .i32⟩
  | 54 => ⟨S16x2048x8x160, .i32⟩
  | 55 => ⟨S16x2048x8x160, .i32⟩
  | 56 => ⟨S16x2048x8x160, .i32⟩
  | 57 => ⟨S16x2048x8x160, .i32⟩
  | 58 => ⟨S16x2048x8x160, .i32⟩
  | 59 => ⟨S_, .i32⟩
  | 60 => ⟨S16x2048x8x160, .i32⟩
  | 61 => ⟨S16x2048x8x160, .i32⟩
  | 62 => ⟨S16x2048x8x160, .i32⟩
  | 63 => ⟨S16x2048x8x160, .i32⟩
  | 64 => ⟨S16x2048x8x160, .i32⟩
  | 65 => ⟨S_, .i32⟩
  | 66 => ⟨S16x2048x8x160, .i32⟩
  | 67 => ⟨S16x2048x8x160, .i32⟩
  | 68 => ⟨S16x2048x8x160, .i32⟩
  | 69 => ⟨S_, .i32⟩
  | 70 => ⟨S16x2048x8x160, .i32⟩
  | 71 => ⟨S16x2048x8x160, .i32⟩
  | 72 => ⟨S16x2048x8x160, .i32⟩
  | 73 => ⟨S16x2048x8x160, .i32⟩
  | 74 => ⟨S16x2048x8x160, .i32⟩
  | 75 => ⟨S16x2048x8x160, .i32⟩
  | 76 => ⟨S16x2048x8x160, .i32⟩
  | 77 => ⟨S16x2048x8x160, .i32⟩
  | 78 => ⟨S16x2048x8x160, .i32⟩
  | 79 => ⟨S_, .i32⟩
  | 80 => ⟨S_, .i32⟩
  | 81 => ⟨S_, .i32⟩
  | 82 => ⟨S_, .i32⟩
  | 83 => ⟨S_, .i32⟩
  | 84 => ⟨S16x2048x8x160, .i32⟩
  | 85 => ⟨S16x2048x8x160, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S_, .i32⟩
  | 93 => ⟨S16x2048x8x160, .i32⟩
  | 94 => ⟨S16x2048x8x160, .i32⟩
  | 95 => ⟨S_, .i32⟩
  | 96 => ⟨S16x2048x8x160, .i32⟩
  | 97 => ⟨S16x2048x8x160, .i32⟩
  | 98 => ⟨S16x2048x8x160, .i32⟩
  | 99 => ⟨S16x2048x8x160, .i32⟩
  | 100 => ⟨S16x2048x8x160, .i32⟩
  | 101 => ⟨S16x2048x8x160, .i32⟩
  | 102 => ⟨S_, .i32⟩
  | 103 => ⟨S16x2048x8x160, .i32⟩
  | 104 => ⟨S16x2048x8x160, .i32⟩
  | 105 => ⟨S16x2048x8x160, .i32⟩
  | 106 => ⟨S16x2048x8x160, .i32⟩
  | 107 => ⟨S16x2048x8x160, .i32⟩
  | 108 => ⟨S_, .i32⟩
  | 109 => ⟨S16x2048x8x160, .i32⟩
  | 110 => ⟨S16x2048x8x160, .i32⟩
  | 111 => ⟨S16x2048x8x160, .i32⟩
  | 112 => ⟨S16x2048x8x160, .i32⟩
  | 113 => ⟨S16x2048x8x160, .i32⟩
  | 114 => ⟨S_, .i32⟩
  | 115 => ⟨S16x2048x8x160, .i32⟩
  | 116 => ⟨S16x2048x8x160, .i32⟩
  | 117 => ⟨S16x2048x8x160, .i32⟩
  | 118 => ⟨S_, .i32⟩
  | 119 => ⟨S16x2048x8x160, .i32⟩
  | 120 => ⟨S16x2048x8x160, .i32⟩
  | 121 => ⟨S16x2048x8x160, .i32⟩
  | 122 => ⟨S_, .i32⟩
  | 123 => ⟨S16x2048x8x160, .i32⟩
  | 124 => ⟨S16x2048x8x160, .i32⟩
  | 125 => ⟨S_, .i32⟩
  | 126 => ⟨S_, .i32⟩
  | 127 => ⟨S_, .i32⟩
  | _ => ⟨S16x2048x5120, .bf16⟩

abbrev hbmTy0_3 (i : Nat) : BufTy := match i % 128 with
  | 0 => ⟨S_, .i32⟩
  | 1 => ⟨S_, .i32⟩
  | 2 => ⟨S_, .i32⟩
  | 3 => ⟨S_, .i32⟩
  | 4 => ⟨S16x2048x8x160, .i32⟩
  | 5 => ⟨S16x2048x8x160, .i32⟩
  | 6 => ⟨S_, .i32⟩
  | 7 => ⟨S16x2048x8x160, .i32⟩
  | 8 => ⟨S16x2048x8x160, .i32⟩
  | 9 => ⟨S16x2048x8x160, .i32⟩
  | 10 => ⟨S16x2048x8x160, .i32⟩
  | 11 => ⟨S16x2048x8x160, .i32⟩
  | 12 => ⟨S16x2048x8x160, .i32⟩
  | 13 => ⟨S_, .i32⟩
  | 14 => ⟨S16x2048x8x160, .i32⟩
  | 15 => ⟨S16x2048x8x160, .i32⟩
  | 16 => ⟨S16x2048x8x160, .i32⟩
  | 17 => ⟨S16x2048x8x160, .i32⟩
  | 18 => ⟨S16x2048x8x160, .i32⟩
  | 19 => ⟨S_, .i32⟩
  | 20 => ⟨S16x2048x8x160, .i32⟩
  | 21 => ⟨S16x2048x8x160, .i32⟩
  | 22 => ⟨S16x2048x8x160, .i32⟩
  | 23 => ⟨S16x2048x8x160, .i32⟩
  | 24 => ⟨S16x2048x8x160, .i32⟩
  | 25 => ⟨S_, .i32⟩
  | 26 => ⟨S16x2048x8x160, .i32⟩
  | 27 => ⟨S16x2048x8x160, .i32⟩
  | 28 => ⟨S16x2048x8x160, .i32⟩
  | 29 => ⟨S_, .i32⟩
  | 30 => ⟨S16x2048x8x160, .i32⟩
  | 31 => ⟨S16x2048x8x160, .i32⟩
  | 32 => ⟨S16x2048x8x160, .i32⟩
  | 33 => ⟨S16x2048x8x160, .i32⟩
  | 34 => ⟨S16x2048x8x160, .i32⟩
  | 35 => ⟨S16x2048x8x160, .i32⟩
  | 36 => ⟨S16x2048x8x160, .i32⟩
  | 37 => ⟨S16x2048x8x160, .i32⟩
  | 38 => ⟨S16x2048x8x160, .i32⟩
  | 39 => ⟨S_, .i32⟩
  | 40 => ⟨S_, .i32⟩
  | 41 => ⟨S_, .i32⟩
  | 42 => ⟨S_, .i32⟩
  | 43 => ⟨S_, .i32⟩
  | 44 => ⟨S16x2048x8x160, .i32⟩
  | 45 => ⟨S16x2048x8x160, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S_, .i32⟩
  | 53 => ⟨S16x2048x8x160, .i32⟩
  | 54 => ⟨S16x2048x8x160, .i32⟩
  | 55 => ⟨S_, .i32⟩
  | 56 => ⟨S16x2048x8x160, .i32⟩
  | 57 => ⟨S16x2048x8x160, .i32⟩
  | 58 => ⟨S16x2048x8x160, .i32⟩
  | 59 => ⟨S16x2048x8x160, .i32⟩
  | 60 => ⟨S16x2048x8x160, .i32⟩
  | 61 => ⟨S16x2048x8x160, .i32⟩
  | 62 => ⟨S_, .i32⟩
  | 63 => ⟨S16x2048x8x160, .i32⟩
  | 64 => ⟨S16x2048x8x160, .i32⟩
  | 65 => ⟨S16x2048x8x160, .i32⟩
  | 66 => ⟨S16x2048x8x160, .i32⟩
  | 67 => ⟨S16x2048x8x160, .i32⟩
  | 68 => ⟨S_, .i32⟩
  | 69 => ⟨S16x2048x8x160, .i32⟩
  | 70 => ⟨S16x2048x8x160, .i32⟩
  | 71 => ⟨S16x2048x8x160, .i32⟩
  | 72 => ⟨S16x2048x8x160, .i32⟩
  | 73 => ⟨S16x2048x8x160, .i32⟩
  | 74 => ⟨S_, .i32⟩
  | 75 => ⟨S16x2048x8x160, .i32⟩
  | 76 => ⟨S16x2048x8x160, .i32⟩
  | 77 => ⟨S16x2048x8x160, .i32⟩
  | 78 => ⟨S_, .i32⟩
  | 79 => ⟨S16x2048x8x160, .i32⟩
  | 80 => ⟨S16x2048x8x160, .i32⟩
  | 81 => ⟨S16x2048x8x160, .i32⟩
  | 82 => ⟨S_, .i32⟩
  | 83 => ⟨S16x2048x8x160, .i32⟩
  | 84 => ⟨S16x2048x8x160, .i32⟩
  | 85 => ⟨S_, .i32⟩
  | 86 => ⟨S_, .i32⟩
  | 87 => ⟨S_, .i32⟩
  | 88 => ⟨S_, .i32⟩
  | 89 => ⟨S_, .i32⟩
  | 90 => ⟨S_, .i32⟩
  | 91 => ⟨S_, .i32⟩
  | 92 => ⟨S16x2048x8x160, .i32⟩
  | 93 => ⟨S16x2048x8x160, .i32⟩
  | 94 => ⟨S_, .i32⟩
  | 95 => ⟨S16x2048x8x160, .i32⟩
  | 96 => ⟨S16x2048x8x160, .i32⟩
  | 97 => ⟨S16x2048x8x160, .i32⟩
  | 98 => ⟨S16x2048x8x160, .i32⟩
  | 99 => ⟨S16x2048x8x160, .i32⟩
  | 100 => ⟨S16x2048x8x160, .i32⟩
  | 101 => ⟨S_, .i32⟩
  | 102 => ⟨S16x2048x8x160, .i32⟩
  | 103 => ⟨S16x2048x8x160, .i32⟩
  | 104 => ⟨S16x2048x8x160, .i32⟩
  | 105 => ⟨S16x2048x8x160, .i32⟩
  | 106 => ⟨S16x2048x8x160, .i32⟩
  | 107 => ⟨S_, .i32⟩
  | 108 => ⟨S16x2048x8x160, .i32⟩
  | 109 => ⟨S16x2048x8x160, .i32⟩
  | 110 => ⟨S16x2048x8x160, .i32⟩
  | 111 => ⟨S16x2048x8x160, .i32⟩
  | 112 => ⟨S16x2048x8x160, .i32⟩
  | 113 => ⟨S_, .i32⟩
  | 114 => ⟨S16x2048x8x160, .i32⟩
  | 115 => ⟨S16x2048x8x160, .i32⟩
  | 116 => ⟨S16x2048x8x160, .i32⟩
  | 117 => ⟨S_, .i32⟩
  | 118 => ⟨S16x2048x8x160, .i32⟩
  | 119 => ⟨S16x2048x8x160, .i32⟩
  | 120 => ⟨S16x2048x8x160, .i32⟩
  | 121 => ⟨S16x2048x8x160, .i32⟩
  | 122 => ⟨S16x2048x8x160, .i32⟩
  | 123 => ⟨S16x2048x8x160, .i32⟩
  | 124 => ⟨S16x2048x8x160, .i32⟩
  | 125 => ⟨S16x2048x8x160, .i32⟩
  | 126 => ⟨S16x2048x8x160, .i32⟩
  | 127 => ⟨S_, .i32⟩
  | _ => ⟨S16x2048x5120, .bf16⟩

abbrev hbmTy0_4 (i : Nat) : BufTy := match i % 128 with
  | 0 => ⟨S_, .i32⟩
  | 1 => ⟨S_, .i32⟩
  | 2 => ⟨S_, .i32⟩
  | 3 => ⟨S_, .i32⟩
  | 4 => ⟨S16x2048x8x160, .i32⟩
  | 5 => ⟨S16x2048x8x160, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S_, .i32⟩
  | 13 => ⟨S16x2048x8x160, .i32⟩
  | 14 => ⟨S16x2048x8x160, .i32⟩
  | 15 => ⟨S_, .i32⟩
  | 16 => ⟨S16x2048x8x160, .i32⟩
  | 17 => ⟨S16x2048x8x160, .i32⟩
  | 18 => ⟨S16x2048x8x160, .i32⟩
  | 19 => ⟨S16x2048x8x160, .i32⟩
  | 20 => ⟨S16x2048x8x160, .i32⟩
  | 21 => ⟨S16x2048x8x160, .i32⟩
  | 22 => ⟨S_, .i32⟩
  | 23 => ⟨S16x2048x8x160, .i32⟩
  | 24 => ⟨S16x2048x8x160, .i32⟩
  | 25 => ⟨S16x2048x8x160, .i32⟩
  | 26 => ⟨S16x2048x8x160, .i32⟩
  | 27 => ⟨S16x2048x8x160, .i32⟩
  | 28 => ⟨S_, .i32⟩
  | 29 => ⟨S16x2048x8x160, .i32⟩
  | 30 => ⟨S16x2048x8x160, .i32⟩
  | 31 => ⟨S16x2048x8x160, .i32⟩
  | 32 => ⟨S16x2048x8x160, .i32⟩
  | 33 => ⟨S16x2048x8x160, .i32⟩
  | 34 => ⟨S_, .i32⟩
  | 35 => ⟨S16x2048x8x160, .i32⟩
  | 36 => ⟨S16x2048x8x160, .i32⟩
  | 37 => ⟨S16x2048x8x160, .i32⟩
  | 38 => ⟨S_, .i32⟩
  | 39 => ⟨S16x2048x8x160, .i32⟩
  | 40 => ⟨S16x2048x8x160, .i32⟩
  | 41 => ⟨S16x2048x8x160, .i32⟩
  | 42 => ⟨S_, .i32⟩
  | 43 => ⟨S16x2048x8x160, .i32⟩
  | 44 => ⟨S16x2048x8x160, .i32⟩
  | 45 => ⟨S_, .i32⟩
  | 46 => ⟨S_, .i32⟩
  | 47 => ⟨S_, .i32⟩
  | 48 => ⟨S_, .i32⟩
  | 49 => ⟨S_, .i32⟩
  | 50 => ⟨S_, .i32⟩
  | 51 => ⟨S_, .i32⟩
  | 52 => ⟨S16x2048x8x160, .i32⟩
  | 53 => ⟨S16x2048x8x160, .i32⟩
  | 54 => ⟨S_, .i32⟩
  | 55 => ⟨S16x2048x8x160, .i32⟩
  | 56 => ⟨S16x2048x8x160, .i32⟩
  | 57 => ⟨S16x2048x8x160, .i32⟩
  | 58 => ⟨S16x2048x8x160, .i32⟩
  | 59 => ⟨S16x2048x8x160, .i32⟩
  | 60 => ⟨S16x2048x8x160, .i32⟩
  | 61 => ⟨S_, .i32⟩
  | 62 => ⟨S16x2048x8x160, .i32⟩
  | 63 => ⟨S16x2048x8x160, .i32⟩
  | 64 => ⟨S16x2048x8x160, .i32⟩
  | 65 => ⟨S16x2048x8x160, .i32⟩
  | 66 => ⟨S16x2048x8x160, .i32⟩
  | 67 => ⟨S_, .i32⟩
  | 68 => ⟨S16x2048x8x160, .i32⟩
  | 69 => ⟨S16x2048x8x160, .i32⟩
  | 70 => ⟨S16x2048x8x160, .i32⟩
  | 71 => ⟨S16x2048x8x160, .i32⟩
  | 72 => ⟨S16x2048x8x160, .i32⟩
  | 73 => ⟨S_, .i32⟩
  | 74 => ⟨S16x2048x8x160, .i32⟩
  | 75 => ⟨S16x2048x8x160, .i32⟩
  | 76 => ⟨S16x2048x8x160, .i32⟩
  | 77 => ⟨S_, .i32⟩
  | 78 => ⟨S16x2048x8x160, .i32⟩
  | 79 => ⟨S16x2048x8x160, .i32⟩
  | 80 => ⟨S16x2048x8x160, .i32⟩
  | 81 => ⟨S16x2048x8x160, .i32⟩
  | 82 => ⟨S16x2048x8x160, .i32⟩
  | 83 => ⟨S16x2048x8x160, .i32⟩
  | 84 => ⟨S16x2048x8x160, .i32⟩
  | 85 => ⟨S16x2048x8x160, .i32⟩
  | 86 => ⟨S16x2048x8x160, .i32⟩
  | 87 => ⟨S_, .i32⟩
  | 88 => ⟨S_, .i32⟩
  | 89 => ⟨S_, .i32⟩
  | 90 => ⟨S_, .i32⟩
  | 91 => ⟨S_, .i32⟩
  | 92 => ⟨S16x2048x8x160, .i32⟩
  | 93 => ⟨S16x2048x8x160, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S_, .i32⟩
  | 101 => ⟨S16x2048x8x160, .i32⟩
  | 102 => ⟨S16x2048x8x160, .i32⟩
  | 103 => ⟨S_, .i32⟩
  | 104 => ⟨S16x2048x8x160, .i32⟩
  | 105 => ⟨S16x2048x8x160, .i32⟩
  | 106 => ⟨S16x2048x8x160, .i32⟩
  | 107 => ⟨S16x2048x8x160, .i32⟩
  | 108 => ⟨S16x2048x8x160, .i32⟩
  | 109 => ⟨S16x2048x8x160, .i32⟩
  | 110 => ⟨S_, .i32⟩
  | 111 => ⟨S16x2048x8x160, .i32⟩
  | 112 => ⟨S16x2048x8x160, .i32⟩
  | 113 => ⟨S16x2048x8x160, .i32⟩
  | 114 => ⟨S16x2048x8x160, .i32⟩
  | 115 => ⟨S16x2048x8x160, .i32⟩
  | 116 => ⟨S_, .i32⟩
  | 117 => ⟨S16x2048x8x160, .i32⟩
  | 118 => ⟨S16x2048x8x160, .i32⟩
  | 119 => ⟨S16x2048x8x160, .i32⟩
  | 120 => ⟨S16x2048x8x160, .i32⟩
  | 121 => ⟨S16x2048x8x160, .i32⟩
  | 122 => ⟨S_, .i32⟩
  | 123 => ⟨S16x2048x8x160, .i32⟩
  | 124 => ⟨S16x2048x8x160, .i32⟩
  | 125 => ⟨S16x2048x8x160, .i32⟩
  | 126 => ⟨S_, .i32⟩
  | 127 => ⟨S16x2048x8x160, .i32⟩
  | _ => ⟨S16x2048x5120, .bf16⟩

abbrev hbmTy0_5 (i : Nat) : BufTy := match i % 128 with
  | 0 => ⟨S16x2048x8x160, .i32⟩
  | 1 => ⟨S16x2048x8x160, .i32⟩
  | 2 => ⟨S_, .i32⟩
  | 3 => ⟨S16x2048x8x160, .i32⟩
  | 4 => ⟨S16x2048x8x160, .i32⟩
  | 5 => ⟨S_, .i32⟩
  | 6 => ⟨S_, .i32⟩
  | 7 => ⟨S_, .i32⟩
  | 8 => ⟨S_, .i32⟩
  | 9 => ⟨S_, .i32⟩
  | 10 => ⟨S_, .i32⟩
  | 11 => ⟨S_, .i32⟩
  | 12 => ⟨S16x2048x8x160, .i32⟩
  | 13 => ⟨S16x2048x8x160, .i32⟩
  | 14 => ⟨S_, .i32⟩
  | 15 => ⟨S16x2048x8x160, .i32⟩
  | 16 => ⟨S16x2048x8x160, .i32⟩
  | 17 => ⟨S16x2048x8x160, .i32⟩
  | 18 => ⟨S16x2048x8x160, .i32⟩
  | 19 => ⟨S16x2048x8x160, .i32⟩
  | 20 => ⟨S16x2048x8x160, .i32⟩
  | 21 => ⟨S_, .i32⟩
  | 22 => ⟨S16x2048x8x160, .i32⟩
  | 23 => ⟨S16x2048x8x160, .i32⟩
  | 24 => ⟨S16x2048x8x160, .i32⟩
  | 25 => ⟨S16x2048x8x160, .i32⟩
  | 26 => ⟨S16x2048x8x160, .i32⟩
  | 27 => ⟨S_, .i32⟩
  | 28 => ⟨S16x2048x8x160, .i32⟩
  | 29 => ⟨S16x2048x8x160, .i32⟩
  | 30 => ⟨S16x2048x8x160, .i32⟩
  | 31 => ⟨S16x2048x8x160, .i32⟩
  | 32 => ⟨S16x2048x8x160, .i32⟩
  | 33 => ⟨S_, .i32⟩
  | 34 => ⟨S16x2048x8x160, .i32⟩
  | 35 => ⟨S16x2048x8x160, .i32⟩
  | 36 => ⟨S16x2048x8x160, .i32⟩
  | 37 => ⟨S_, .i32⟩
  | 38 => ⟨S16x2048x8x160, .i32⟩
  | 39 => ⟨S16x2048x8x160, .i32⟩
  | 40 => ⟨S16x2048x8x160, .i32⟩
  | 41 => ⟨S16x2048x8x160, .i32⟩
  | 42 => ⟨S16x2048x8x160, .i32⟩
  | 43 => ⟨S16x2048x8x160, .i32⟩
  | 44 => ⟨S16x2048x8x160, .i32⟩
  | 45 => ⟨S16x2048x8x160, .i32⟩
  | 46 => ⟨S16x2048x8x160, .i32⟩
  | 47 => ⟨S_, .i32⟩
  | 48 => ⟨S_, .i32⟩
  | 49 => ⟨S_, .i32⟩
  | 50 => ⟨S_, .i32⟩
  | 51 => ⟨S_, .i32⟩
  | 52 => ⟨S16x2048x8x160, .i32⟩
  | 53 => ⟨S16x2048x8x160, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S_, .i32⟩
  | 61 => ⟨S16x2048x8x160, .i32⟩
  | 62 => ⟨S16x2048x8x160, .i32⟩
  | 63 => ⟨S_, .i32⟩
  | 64 => ⟨S16x2048x8x160, .i32⟩
  | 65 => ⟨S16x2048x8x160, .i32⟩
  | 66 => ⟨S16x2048x8x160, .i32⟩
  | 67 => ⟨S16x2048x8x160, .i32⟩
  | 68 => ⟨S16x2048x8x160, .i32⟩
  | 69 => ⟨S16x2048x8x160, .i32⟩
  | 70 => ⟨S_, .i32⟩
  | 71 => ⟨S16x2048x8x160, .i32⟩
  | 72 => ⟨S16x2048x8x160, .i32⟩
  | 73 => ⟨S16x2048x8x160, .i32⟩
  | 74 => ⟨S16x2048x8x160, .i32⟩
  | 75 => ⟨S16x2048x8x160, .i32⟩
  | 76 => ⟨S_, .i32⟩
  | 77 => ⟨S16x2048x8x160, .i32⟩
  | 78 => ⟨S16x2048x8x160, .i32⟩
  | 79 => ⟨S16x2048x8x160, .i32⟩
  | 80 => ⟨S16x2048x8x160, .i32⟩
  | 81 => ⟨S16x2048x8x160, .i32⟩
  | 82 => ⟨S_, .i32⟩
  | 83 => ⟨S16x2048x8x160, .i32⟩
  | 84 => ⟨S16x2048x8x160, .i32⟩
  | 85 => ⟨S16x2048x8x160, .i32⟩
  | 86 => ⟨S_, .i32⟩
  | 87 => ⟨S16x2048x8x160, .i32⟩
  | 88 => ⟨S16x2048x8x160, .i32⟩
  | 89 => ⟨S16x2048x8x160, .i32⟩
  | 90 => ⟨S_, .i32⟩
  | 91 => ⟨S16x2048x8x160, .i32⟩
  | 92 => ⟨S16x2048x8x160, .i32⟩
  | 93 => ⟨S_, .i32⟩
  | 94 => ⟨S_, .i32⟩
  | 95 => ⟨S_, .i32⟩
  | 96 => ⟨S_, .i32⟩
  | 97 => ⟨S_, .i32⟩
  | 98 => ⟨S_, .i32⟩
  | 99 => ⟨S_, .i32⟩
  | 100 => ⟨S16x2048x8x160, .i32⟩
  | 101 => ⟨S16x2048x8x160, .i32⟩
  | 102 => ⟨S_, .i32⟩
  | 103 => ⟨S16x2048x8x160, .i32⟩
  | 104 => ⟨S16x2048x8x160, .i32⟩
  | 105 => ⟨S16x2048x8x160, .i32⟩
  | 106 => ⟨S16x2048x8x160, .i32⟩
  | 107 => ⟨S16x2048x8x160, .i32⟩
  | 108 => ⟨S16x2048x8x160, .i32⟩
  | 109 => ⟨S_, .i32⟩
  | 110 => ⟨S16x2048x8x160, .i32⟩
  | 111 => ⟨S16x2048x8x160, .i32⟩
  | 112 => ⟨S16x2048x8x160, .i32⟩
  | 113 => ⟨S16x2048x8x160, .i32⟩
  | 114 => ⟨S16x2048x8x160, .i32⟩
  | 115 => ⟨S_, .i32⟩
  | 116 => ⟨S16x2048x8x160, .i32⟩
  | 117 => ⟨S16x2048x8x160, .i32⟩
  | 118 => ⟨S16x2048x8x160, .i32⟩
  | 119 => ⟨S16x2048x8x160, .i32⟩
  | 120 => ⟨S16x2048x8x160, .i32⟩
  | 121 => ⟨S_, .i32⟩
  | 122 => ⟨S16x2048x8x160, .i32⟩
  | 123 => ⟨S16x2048x8x160, .i32⟩
  | 124 => ⟨S16x2048x8x160, .i32⟩
  | 125 => ⟨S_, .i32⟩
  | 126 => ⟨S16x2048x8x160, .i32⟩
  | 127 => ⟨S16x2048x8x160, .i32⟩
  | _ => ⟨S16x2048x5120, .bf16⟩

abbrev hbmTy0_6 (i : Nat) : BufTy := match i % 128 with
  | 0 => ⟨S16x2048x8x160, .i32⟩
  | 1 => ⟨S16x2048x8x160, .i32⟩
  | 2 => ⟨S16x2048x8x160, .i32⟩
  | 3 => ⟨S16x2048x8x160, .i32⟩
  | 4 => ⟨S16x2048x8x160, .i32⟩
  | 5 => ⟨S16x2048x8x160, .i32⟩
  | 6 => ⟨S16x2048x8x160, .i32⟩
  | 7 => ⟨S_, .i32⟩
  | 8 => ⟨S_, .i32⟩
  | 9 => ⟨S_, .i32⟩
  | 10 => ⟨S_, .i32⟩
  | 11 => ⟨S_, .i32⟩
  | 12 => ⟨S16x2048x8x160, .i32⟩
  | 13 => ⟨S16x2048x8x160, .i32⟩
  | 14 => ⟨S_, .i32⟩
  | 15 => ⟨S_, .i32⟩
  | 16 => ⟨S_, .i32⟩
  | 17 => ⟨S_, .i32⟩
  | 18 => ⟨S_, .i32⟩
  | 19 => ⟨S_, .i32⟩
  | 20 => ⟨S_, .i32⟩
  | 21 => ⟨S16x2048x8x160, .i32⟩
  | 22 => ⟨S16x2048x8x160, .i32⟩
  | 23 => ⟨S_, .i32⟩
  | 24 => ⟨S16x2048x8x160, .i32⟩
  | 25 => ⟨S16x2048x8x160, .i32⟩
  | 26 => ⟨S16x2048x8x160, .i32⟩
  | 27 => ⟨S16x2048x8x160, .i32⟩
  | 28 => ⟨S16x2048x8x160, .i32⟩
  | 29 => ⟨S16x2048x8x160, .i32⟩
  | 30 => ⟨S_, .i32⟩
  | 31 => ⟨S16x2048x8x160, .i32⟩
  | 32 => ⟨S16x2048x8x160, .i32⟩
  | 33 => ⟨S16x2048x8x160, .i32⟩
  | 34 => ⟨S16x2048x8x160, .i32⟩
  | 35 => ⟨S16x2048x8x160, .i32⟩
  | 36 => ⟨S_, .i32⟩
  | 37 => ⟨S16x2048x8x160, .i32⟩
  | 38 => ⟨S16x2048x8x160, .i32⟩
  | 39 => ⟨S16x2048x8x160, .i32⟩
  | 40 => ⟨S16x2048x8x160, .i32⟩
  | 41 => ⟨S16x2048x8x160, .i32⟩
  | 42 => ⟨S_, .i32⟩
  | 43 => ⟨S16x2048x8x160, .i32⟩
  | 44 => ⟨S16x2048x8x160, .i32⟩
  | 45 => ⟨S16x2048x8x160, .i32⟩
  | 46 => ⟨S_, .i32⟩
  | 47 => ⟨S16x2048x8x160, .i32⟩
  | 48 => ⟨S16x2048x8x160, .i32⟩
  | 49 => ⟨S16x2048x8x160, .i32⟩
  | 50 => ⟨S_, .i32⟩
  | 51 => ⟨S16x2048x8x160, .i32⟩
  | 52 => ⟨S16x2048x8x160, .i32⟩
  | 53 => ⟨S_, .i32⟩
  | 54 => ⟨S_, .i32⟩
  | 55 => ⟨S_, .i32⟩
  | 56 => ⟨S_, .i32⟩
  | 57 => ⟨S_, .i32⟩
  | 58 => ⟨S_, .i32⟩
  | 59 => ⟨S_, .i32⟩
  | 60 => ⟨S16x2048x8x160, .i32⟩
  | 61 => ⟨S16x2048x8x160, .i32⟩
  | 62 => ⟨S_, .i32⟩
  | 63 => ⟨S16x2048x8x160, .i32⟩
  | 64 => ⟨S16x2048x8x160, .i32⟩
  | 65 => ⟨S16x2048x8x160, .i32⟩
  | 66 => ⟨S16x2048x8x160, .i32⟩
  | 67 => ⟨S16x2048x8x160, .i32⟩
  | 68 => ⟨S16x2048x8x160, .i32⟩
  | 69 => ⟨S_, .i32⟩
  | 70 => ⟨S16x2048x8x160, .i32⟩
  | 71 => ⟨S16x2048x8x160, .i32⟩
  | 72 => ⟨S16x2048x8x160, .i32⟩
  | 73 => ⟨S16x2048x8x160, .i32⟩
  | 74 => ⟨S16x2048x8x160, .i32⟩
  | 75 => ⟨S_, .i32⟩
  | 76 => ⟨S16x2048x8x160, .i32⟩
  | 77 => ⟨S16x2048x8x160, .i32⟩
  | 78 => ⟨S16x2048x8x160, .i32⟩
  | 79 => ⟨S16x2048x8x160, .i32⟩
  | 80 => ⟨S16x2048x8x160, .i32⟩
  | 81 => ⟨S_, .i32⟩
  | 82 => ⟨S16x2048x8x160, .i32⟩
  | 83 => ⟨S16x2048x8x160, .i32⟩
  | 84 => ⟨S16x2048x8x160, .i32⟩
  | 85 => ⟨S_, .i32⟩
  | 86 => ⟨S16x2048x8x160, .i32⟩
  | 87 => ⟨S16x2048x8x160, .i32⟩
  | 88 => ⟨S16x2048x8x160, .i32⟩
  | 89 => ⟨S16x2048x8x160, .i32⟩
  | 90 => ⟨S16x2048x8x160, .i32⟩
  | 91 => ⟨S16x2048x8x160, .i32⟩
  | 92 => ⟨S16x2048x8x160, .i32⟩
  | 93 => ⟨S16x2048x8x160, .i32⟩
  | 94 => ⟨S16x2048x8x160, .i32⟩
  | 95 => ⟨S16x2048x1x8x160, .i32⟩
  | 96 => ⟨S16x2048x1x8x160, .i32⟩
  | 97 => ⟨S16x2048x1x8x160, .i32⟩
  | 98 => ⟨S16x2048x1x8x160, .i32⟩
  | 99 => ⟨S16x2048x4x8x160, .i32⟩
  | 100 => ⟨S16x2048x4x8x160, .f32⟩
  | 101 => ⟨S16x2048x4x8x160, .f32⟩
  | 102 => ⟨S_, .f32⟩
  | 103 => ⟨S16x2048x160, .f32⟩
  | 104 => ⟨S16x2048x160, .f32⟩
  | 105 => ⟨S_, .f32⟩
  | 106 => ⟨S_, .f32⟩
  | 107 => ⟨S16x2048x160, .f32⟩
  | 108 => ⟨S16x2048x160, .f32⟩
  | 109 => ⟨S16x2048x160, .f32⟩
  | 110 => ⟨S16x2048x160, .i32⟩
  | 111 => ⟨S_, .i32⟩
  | 112 => ⟨S16x2048x160, .i32⟩
  | 113 => ⟨S16x2048x160, .i32⟩
  | 114 => ⟨S_, .f32⟩
  | 115 => ⟨S16x2048x160, .f32⟩
  | 116 => ⟨S16x2048x160, .i1⟩
  | 117 => ⟨S_, .i32⟩
  | 118 => ⟨S16x2048x160, .i32⟩
  | 119 => ⟨S16x2048x160, .i32⟩
  | 120 => ⟨S_, .i32⟩
  | 121 => ⟨S_, .i32⟩
  | 122 => ⟨S16x2048x160, .i32⟩
  | 123 => ⟨S16x2048x160, .i32⟩
  | 124 => ⟨S_, .i32⟩
  | 125 => ⟨S16x2048x160, .i32⟩
  | 126 => ⟨S16x2048x160, .i32⟩
  | 127 => ⟨S16x2048x160, .i8⟩
  | _ => ⟨S16x2048x5120, .bf16⟩

abbrev hbmTy0_7 (i : Nat) : BufTy := match i % 128 with
  | 0 => ⟨S16x2048x4x8x160, .f32⟩
  | 1 => ⟨S_, .f32⟩
  | 2 => ⟨S16x2048x4x8x160, .f32⟩
  | 3 => ⟨S16x2048x4x8x160, .f32⟩
  | 4 => ⟨S16x2048x160, .i32⟩
  | 5 => ⟨S16x2048x160, .f32⟩
  | 6 => ⟨S_, .f32⟩
  | 7 => ⟨S16x2048x160, .f32⟩
  | 8 => ⟨S16x2048x160, .f32⟩
  | 9 => ⟨S16x2048x1x1x160, .f32⟩
  | 10 => ⟨S16x2048x4x8x160, .f32⟩
  | 11 => ⟨S16x2048x4x8x160, .f32⟩
  | 12 => ⟨S_, .f32⟩
  | 13 => ⟨S16x2048x4x8x160, .f32⟩
  | 14 => ⟨S16x2048x4x8x160, .f32⟩
  | 15 => ⟨S16x2048x4x8x160, .f32⟩
  | 16 => ⟨S_, .f32⟩
  | 17 => ⟨S16x2048x4x8x160, .f32⟩
  | 18 => ⟨S16x2048x4x8x160, .f32⟩
  | 19 => ⟨S16x2048x4x8x160, .f32⟩
  | 20 => ⟨S_, .f32⟩
  | 21 => ⟨S16x2048x4x8x160, .f32⟩
  | 22 => ⟨S16x2048x4x8x160, .i1⟩
  | 23 => ⟨S_, .f32⟩
  | 24 => ⟨S16x2048x4x8x160, .f32⟩
  | 25 => ⟨S16x2048x4x8x160, .i1⟩
  | 26 => ⟨S_, .f32⟩
  | 27 => ⟨S16x2048x4x8x160, .f32⟩
  | 28 => ⟨S16x2048x4x8x160, .f32⟩
  | 29 => ⟨S_, .f32⟩
  | 30 => ⟨S_, .f32⟩
  | 31 => ⟨S16x2048x4x8x160, .f32⟩
  | 32 => ⟨S16x2048x4x8x160, .f32⟩
  | 33 => ⟨S16x2048x4x8x160, .f32⟩
  | 34 => ⟨S_, .f32⟩
  | 35 => ⟨S16x2048x4x8x160, .f32⟩
  | 36 => ⟨S16x2048x4x8x160, .f32⟩
  | 37 => ⟨S16x2048x4x8x160, .f32⟩
  | 38 => ⟨S_, .f32⟩
  | 39 => ⟨S16x2048x4x8x160, .f32⟩
  | 40 => ⟨S16x2048x4x8x160, .f32⟩
  | 41 => ⟨S16x2048x4x8x160, .f32⟩
  | 42 => ⟨S_, .f32⟩
  | 43 => ⟨S16x2048x4x8x160, .f32⟩
  | 44 => ⟨S16x2048x4x8x160, .f32⟩
  | 45 => ⟨S_, .f32⟩
  | 46 => ⟨S16x2048x4x8x160, .f32⟩
  | 47 => ⟨S16x2048x4x8x160, .f32⟩
  | 48 => ⟨S16x2048x4x8x160, .f32⟩
  | 49 => ⟨S16x2048x4x8x160, .f32⟩
  | 50 => ⟨S_, .i32⟩
  | 51 => ⟨S16x2048x4x8x160, .i32⟩
  | 52 => ⟨S16x2048x4x8x160, .i32⟩
  | 53 => ⟨S16x2048x4x8x160, .f32⟩
  | 54 => ⟨S_, .f32⟩
  | 55 => ⟨S16x2048x4x8x160, .f32⟩
  | 56 => ⟨S16x2048x4x8x160, .f32⟩
  | 57 => ⟨S16x2048x4x8x160, .i32⟩
  | 58 => ⟨S16x2048x4x8x160, .i1⟩
  | 59 => ⟨S16x2048x4x8x160, .i32⟩
  | 60 => ⟨S16x2048x4x8x160, .i32⟩
  | 61 => ⟨S_, .f32⟩
  | 62 => ⟨S16x2048x4x8x160, .f32⟩
  | 63 => ⟨S16x2048x4x8x160, .i1⟩
  | 64 => ⟨S_, .i32⟩
  | 65 => ⟨S16x2048x4x8x160, .i32⟩
  | 66 => ⟨S16x2048x4x8x160, .i32⟩
  | 67 => ⟨S16x2048x4x8x160, .i32⟩
  | 68 => ⟨S16x2048x2x8x160, .i32⟩
  | 69 => ⟨S16x2048x2x8x160, .i32⟩
  | 70 => ⟨S_, .i32⟩
  | 71 => ⟨S16x2048x2x8x160, .i32⟩
  | 72 => ⟨S16x2048x2x8x160, .i32⟩
  | 73 => ⟨S16x2048x2x8x160, .i32⟩
  | 74 => ⟨S16x2048x160x8x2, .i32⟩
  | 75 => ⟨S16x2048x2560, .i32⟩
  | 76 => ⟨S16x2048x2560, .i8⟩
  | 77 => ⟨S_, .f32⟩
  | 78 => ⟨S4x8x160, .f32⟩
  | 79 => ⟨S160x8x4, .f32⟩
  | 80 => ⟨S5120, .f32⟩
  | 81 => ⟨S16x2048x5120, .bf16⟩
  | 82 => ⟨S_, .bf16⟩
  | 83 => ⟨S_, .bf16⟩
  | 84 => ⟨S_, .f32⟩
  | _ => ⟨S16x2048x5120, .bf16⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | _ => ⟨S16x2048x5120, .bf16⟩

abbrev bufTy : (tb : Table) → Fin (tcTables nBuf tb) → BufTy
  | .hbm, ⟨i, _⟩ => hbmTy i
  | _, _ => ⟨S16x2048x5120, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_c : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_c_1 : Ref sig .tc := ⟨.hbm, 27, rfl⟩
abbrev main_v23 : Ref sig .tc := ⟨.hbm, 28, rfl⟩
abbrev main_v24 : Ref sig .tc := ⟨.hbm, 29, rfl⟩
abbrev main_c_2 : Ref sig .tc := ⟨.hbm, 30, rfl⟩
abbrev main_c_3 : Ref sig .tc := ⟨.hbm, 31, rfl⟩
abbrev main_v25 : Ref sig .tc := ⟨.hbm, 32, rfl⟩
abbrev main_c_4 : Ref sig .tc := ⟨.hbm, 33, rfl⟩
abbrev main_c_5 : Ref sig .tc := ⟨.hbm, 34, rfl⟩
abbrev main_v26 : Ref sig .tc := ⟨.hbm, 35, rfl⟩
abbrev main_c_6 : Ref sig .tc := ⟨.hbm, 36, rfl⟩
abbrev main_v27 : Ref sig .tc := ⟨.hbm, 37, rfl⟩
abbrev main_v28 : Ref sig .tc := ⟨.hbm, 38, rfl⟩
abbrev main_c_7 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_c_9 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_c_10 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_c_11 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_c_12 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_c_13 : Ref sig .tc := ⟨.hbm, 71, rfl⟩
abbrev main_v55 : Ref sig .tc := ⟨.hbm, 72, rfl⟩
abbrev main_c_14 : Ref sig .tc := ⟨.hbm, 73, rfl⟩
abbrev main_v56 : Ref sig .tc := ⟨.hbm, 74, rfl⟩
abbrev main_c_15 : Ref sig .tc := ⟨.hbm, 75, rfl⟩
abbrev main_v57 : Ref sig .tc := ⟨.hbm, 76, rfl⟩
abbrev main_v58 : Ref sig .tc := ⟨.hbm, 77, rfl⟩
abbrev main_c_16 : Ref sig .tc := ⟨.hbm, 78, rfl⟩
abbrev main_c_17 : Ref sig .tc := ⟨.hbm, 79, rfl⟩
abbrev main_v59 : Ref sig .tc := ⟨.hbm, 80, rfl⟩
abbrev main_c_18 : Ref sig .tc := ⟨.hbm, 81, rfl⟩
abbrev main_c_19 : Ref sig .tc := ⟨.hbm, 82, rfl⟩
abbrev main_v60 : Ref sig .tc := ⟨.hbm, 83, rfl⟩
abbrev main_c_20 : Ref sig .tc := ⟨.hbm, 84, rfl⟩
abbrev main_v61 : Ref sig .tc := ⟨.hbm, 85, rfl⟩
abbrev main_v62 : Ref sig .tc := ⟨.hbm, 86, rfl⟩
abbrev main_c_21 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_c_22 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_c_23 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_c_24 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_c_25 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_c_26 : Ref sig .tc := ⟨.hbm, 114, rfl⟩
abbrev main_v85 : Ref sig .tc := ⟨.hbm, 115, rfl⟩
abbrev main_v86 : Ref sig .tc := ⟨.hbm, 116, rfl⟩
abbrev main_c_27 : Ref sig .tc := ⟨.hbm, 117, rfl⟩
abbrev main_c_28 : Ref sig .tc := ⟨.hbm, 118, rfl⟩
abbrev main_v87 : Ref sig .tc := ⟨.hbm, 119, rfl⟩
abbrev main_c_29 : Ref sig .tc := ⟨.hbm, 120, rfl⟩
abbrev main_c_30 : Ref sig .tc := ⟨.hbm, 121, rfl⟩
abbrev main_v88 : Ref sig .tc := ⟨.hbm, 122, rfl⟩
abbrev main_c_31 : Ref sig .tc := ⟨.hbm, 123, rfl⟩
abbrev main_v89 : Ref sig .tc := ⟨.hbm, 124, rfl⟩
abbrev main_v90 : Ref sig .tc := ⟨.hbm, 125, rfl⟩
abbrev main_c_32 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_c_33 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_34 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_c_35 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_c_36 : Ref sig .tc := ⟨.hbm, 149, rfl⟩
abbrev main_v110 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_c_37 : Ref sig .tc := ⟨.hbm, 159, rfl⟩
abbrev main_v119 : Ref sig .tc := ⟨.hbm, 160, rfl⟩
abbrev main_c_38 : Ref sig .tc := ⟨.hbm, 161, rfl⟩
abbrev main_v120 : Ref sig .tc := ⟨.hbm, 162, rfl⟩
abbrev main_c_39 : Ref sig .tc := ⟨.hbm, 163, rfl⟩
abbrev main_v121 : Ref sig .tc := ⟨.hbm, 164, rfl⟩
abbrev main_v122 : Ref sig .tc := ⟨.hbm, 165, rfl⟩
abbrev main_c_40 : Ref sig .tc := ⟨.hbm, 166, rfl⟩
abbrev main_c_41 : Ref sig .tc := ⟨.hbm, 167, rfl⟩
abbrev main_v123 : Ref sig .tc := ⟨.hbm, 168, rfl⟩
abbrev main_c_42 : Ref sig .tc := ⟨.hbm, 169, rfl⟩
abbrev main_c_43 : Ref sig .tc := ⟨.hbm, 170, rfl⟩
abbrev main_v124 : Ref sig .tc := ⟨.hbm, 171, rfl⟩
abbrev main_c_44 : Ref sig .tc := ⟨.hbm, 172, rfl⟩
abbrev main_v125 : Ref sig .tc := ⟨.hbm, 173, rfl⟩
abbrev main_v126 : Ref sig .tc := ⟨.hbm, 174, rfl⟩
abbrev main_c_45 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_c_46 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_c_47 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_c_48 : Ref sig .tc := ⟨.hbm, 194, rfl⟩
abbrev main_v143 : Ref sig .tc := ⟨.hbm, 195, rfl⟩
abbrev main_v144 : Ref sig .tc := ⟨.hbm, 196, rfl⟩
abbrev main_v145 : Ref sig .tc := ⟨.hbm, 197, rfl⟩
abbrev main_c_49 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_c_50 : Ref sig .tc := ⟨.hbm, 202, rfl⟩
abbrev main_v149 : Ref sig .tc := ⟨.hbm, 203, rfl⟩
abbrev main_v150 : Ref sig .tc := ⟨.hbm, 204, rfl⟩
abbrev main_c_51 : Ref sig .tc := ⟨.hbm, 205, rfl⟩
abbrev main_c_52 : Ref sig .tc := ⟨.hbm, 206, rfl⟩
abbrev main_v151 : Ref sig .tc := ⟨.hbm, 207, rfl⟩
abbrev main_c_53 : Ref sig .tc := ⟨.hbm, 208, rfl⟩
abbrev main_c_54 : Ref sig .tc := ⟨.hbm, 209, rfl⟩
abbrev main_v152 : Ref sig .tc := ⟨.hbm, 210, rfl⟩
abbrev main_c_55 : Ref sig .tc := ⟨.hbm, 211, rfl⟩
abbrev main_v153 : Ref sig .tc := ⟨.hbm, 212, rfl⟩
abbrev main_v154 : Ref sig .tc := ⟨.hbm, 213, rfl⟩
abbrev main_c_56 : Ref sig .tc := ⟨.hbm, 214, rfl⟩
abbrev main_v155 : Ref sig .tc := ⟨.hbm, 215, rfl⟩
abbrev main_v156 : Ref sig .tc := ⟨.hbm, 216, rfl⟩
abbrev main_v157 : Ref sig .tc := ⟨.hbm, 217, rfl⟩
abbrev main_v158 : Ref sig .tc := ⟨.hbm, 218, rfl⟩
abbrev main_v159 : Ref sig .tc := ⟨.hbm, 219, rfl⟩
abbrev main_v160 : Ref sig .tc := ⟨.hbm, 220, rfl⟩
abbrev main_c_57 : Ref sig .tc := ⟨.hbm, 221, rfl⟩
abbrev main_v161 : Ref sig .tc := ⟨.hbm, 222, rfl⟩
abbrev main_v162 : Ref sig .tc := ⟨.hbm, 223, rfl⟩
abbrev main_v163 : Ref sig .tc := ⟨.hbm, 224, rfl⟩
abbrev main_v164 : Ref sig .tc := ⟨.hbm, 225, rfl⟩
abbrev main_v165 : Ref sig .tc := ⟨.hbm, 226, rfl⟩
abbrev main_c_58 : Ref sig .tc := ⟨.hbm, 227, rfl⟩
abbrev main_v166 : Ref sig .tc := ⟨.hbm, 228, rfl⟩
abbrev main_v167 : Ref sig .tc := ⟨.hbm, 229, rfl⟩
abbrev main_v168 : Ref sig .tc := ⟨.hbm, 230, rfl⟩
abbrev main_v169 : Ref sig .tc := ⟨.hbm, 231, rfl⟩
abbrev main_v170 : Ref sig .tc := ⟨.hbm, 232, rfl⟩
abbrev main_c_59 : Ref sig .tc := ⟨.hbm, 233, rfl⟩
abbrev main_v171 : Ref sig .tc := ⟨.hbm, 234, rfl⟩
abbrev main_v172 : Ref sig .tc := ⟨.hbm, 235, rfl⟩
abbrev main_v173 : Ref sig .tc := ⟨.hbm, 236, rfl⟩
abbrev main_c_60 : Ref sig .tc := ⟨.hbm, 237, rfl⟩
abbrev main_v174 : Ref sig .tc := ⟨.hbm, 238, rfl⟩
abbrev main_v175 : Ref sig .tc := ⟨.hbm, 239, rfl⟩
abbrev main_v176 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_c_61 : Ref sig .tc := ⟨.hbm, 247, rfl⟩
abbrev main_v183 : Ref sig .tc := ⟨.hbm, 248, rfl⟩
abbrev main_c_62 : Ref sig .tc := ⟨.hbm, 249, rfl⟩
abbrev main_v184 : Ref sig .tc := ⟨.hbm, 250, rfl⟩
abbrev main_c_63 : Ref sig .tc := ⟨.hbm, 251, rfl⟩
abbrev main_v185 : Ref sig .tc := ⟨.hbm, 252, rfl⟩
abbrev main_v186 : Ref sig .tc := ⟨.hbm, 253, rfl⟩
abbrev main_c_64 : Ref sig .tc := ⟨.hbm, 254, rfl⟩
abbrev main_c_65 : Ref sig .tc := ⟨.hbm, 255, rfl⟩
abbrev main_v187 : Ref sig .tc := ⟨.hbm, 256, rfl⟩
abbrev main_c_66 : Ref sig .tc := ⟨.hbm, 257, rfl⟩
abbrev main_c_67 : Ref sig .tc := ⟨.hbm, 258, rfl⟩
abbrev main_v188 : Ref sig .tc := ⟨.hbm, 259, rfl⟩
abbrev main_c_68 : Ref sig .tc := ⟨.hbm, 260, rfl⟩
abbrev main_v189 : Ref sig .tc := ⟨.hbm, 261, rfl⟩
abbrev main_v190 : Ref sig .tc := ⟨.hbm, 262, rfl⟩
abbrev main_c_69 : Ref sig .tc := ⟨.hbm, 263, rfl⟩
abbrev main_v191 : Ref sig .tc := ⟨.hbm, 264, rfl⟩
abbrev main_v192 : Ref sig .tc := ⟨.hbm, 265, rfl⟩
abbrev main_v193 : Ref sig .tc := ⟨.hbm, 266, rfl⟩
abbrev main_v194 : Ref sig .tc := ⟨.hbm, 267, rfl⟩
abbrev main_v195 : Ref sig .tc := ⟨.hbm, 268, rfl⟩
abbrev main_v196 : Ref sig .tc := ⟨.hbm, 269, rfl⟩
abbrev main_c_70 : Ref sig .tc := ⟨.hbm, 270, rfl⟩
abbrev main_v197 : Ref sig .tc := ⟨.hbm, 271, rfl⟩
abbrev main_v198 : Ref sig .tc := ⟨.hbm, 272, rfl⟩
abbrev main_v199 : Ref sig .tc := ⟨.hbm, 273, rfl⟩
abbrev main_v200 : Ref sig .tc := ⟨.hbm, 274, rfl⟩
abbrev main_v201 : Ref sig .tc := ⟨.hbm, 275, rfl⟩
abbrev main_c_71 : Ref sig .tc := ⟨.hbm, 276, rfl⟩
abbrev main_v202 : Ref sig .tc := ⟨.hbm, 277, rfl⟩
abbrev main_v203 : Ref sig .tc := ⟨.hbm, 278, rfl⟩
abbrev main_v204 : Ref sig .tc := ⟨.hbm, 279, rfl⟩
abbrev main_v205 : Ref sig .tc := ⟨.hbm, 280, rfl⟩
abbrev main_v206 : Ref sig .tc := ⟨.hbm, 281, rfl⟩
abbrev main_c_72 : Ref sig .tc := ⟨.hbm, 282, rfl⟩
abbrev main_v207 : Ref sig .tc := ⟨.hbm, 283, rfl⟩
abbrev main_v208 : Ref sig .tc := ⟨.hbm, 284, rfl⟩
abbrev main_v209 : Ref sig .tc := ⟨.hbm, 285, rfl⟩
abbrev main_c_73 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_c_74 : Ref sig .tc := ⟨.hbm, 290, rfl⟩
abbrev main_v213 : Ref sig .tc := ⟨.hbm, 291, rfl⟩
abbrev main_v214 : Ref sig .tc := ⟨.hbm, 292, rfl⟩
abbrev main_c_75 : Ref sig .tc := ⟨.hbm, 293, rfl⟩
abbrev main_c_76 : Ref sig .tc := ⟨.hbm, 294, rfl⟩
abbrev main_v215 : Ref sig .tc := ⟨.hbm, 295, rfl⟩
abbrev main_c_77 : Ref sig .tc := ⟨.hbm, 296, rfl⟩
abbrev main_c_78 : Ref sig .tc := ⟨.hbm, 297, rfl⟩
abbrev main_v216 : Ref sig .tc := ⟨.hbm, 298, rfl⟩
abbrev main_c_79 : Ref sig .tc := ⟨.hbm, 299, rfl⟩
abbrev main_v217 : Ref sig .tc := ⟨.hbm, 300, rfl⟩
abbrev main_v218 : Ref sig .tc := ⟨.hbm, 301, rfl⟩
abbrev main_c_80 : Ref sig .tc := ⟨.hbm, 302, rfl⟩
abbrev main_v219 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_c_81 : Ref sig .tc := ⟨.hbm, 309, rfl⟩
abbrev main_v225 : Ref sig .tc := ⟨.hbm, 310, rfl⟩
abbrev main_v226 : Ref sig .tc := ⟨.hbm, 311, rfl⟩
abbrev main_v227 : Ref sig .tc := ⟨.hbm, 312, rfl⟩
abbrev main_v228 : Ref sig .tc := ⟨.hbm, 313, rfl⟩
abbrev main_v229 : Ref sig .tc := ⟨.hbm, 314, rfl⟩
abbrev main_c_82 : Ref sig .tc := ⟨.hbm, 315, rfl⟩
abbrev main_v230 : Ref sig .tc := ⟨.hbm, 316, rfl⟩
abbrev main_v231 : Ref sig .tc := ⟨.hbm, 317, rfl⟩
abbrev main_v232 : Ref sig .tc := ⟨.hbm, 318, rfl⟩
abbrev main_v233 : Ref sig .tc := ⟨.hbm, 319, rfl⟩
abbrev main_v234 : Ref sig .tc := ⟨.hbm, 320, rfl⟩
abbrev main_c_83 : Ref sig .tc := ⟨.hbm, 321, rfl⟩
abbrev main_v235 : Ref sig .tc := ⟨.hbm, 322, rfl⟩
abbrev main_v236 : Ref sig .tc := ⟨.hbm, 323, rfl⟩
abbrev main_v237 : Ref sig .tc := ⟨.hbm, 324, rfl⟩
abbrev main_c_84 : Ref sig .tc := ⟨.hbm, 325, rfl⟩
abbrev main_v238 : Ref sig .tc := ⟨.hbm, 326, rfl⟩
abbrev main_v239 : Ref sig .tc := ⟨.hbm, 327, rfl⟩
abbrev main_v240 : Ref sig .tc := ⟨.hbm, 328, rfl⟩
abbrev main_v241 : Ref sig .tc := ⟨.hbm, 329, rfl⟩
abbrev main_v242 : Ref sig .tc := ⟨.hbm, 330, rfl⟩
abbrev main_v243 : Ref sig .tc := ⟨.hbm, 331, rfl⟩
abbrev main_v244 : Ref sig .tc := ⟨.hbm, 332, rfl⟩
abbrev main_v245 : Ref sig .tc := ⟨.hbm, 333, rfl⟩
abbrev main_v246 : Ref sig .tc := ⟨.hbm, 334, rfl⟩
abbrev main_c_85 : Ref sig .tc := ⟨.hbm, 335, rfl⟩
abbrev main_v247 : Ref sig .tc := ⟨.hbm, 336, rfl⟩
abbrev main_c_86 : Ref sig .tc := ⟨.hbm, 337, rfl⟩
abbrev main_v248 : Ref sig .tc := ⟨.hbm, 338, rfl⟩
abbrev main_c_87 : Ref sig .tc := ⟨.hbm, 339, rfl⟩
abbrev main_v249 : Ref sig .tc := ⟨.hbm, 340, rfl⟩
abbrev main_v250 : Ref sig .tc := ⟨.hbm, 341, rfl⟩
abbrev main_c_88 : Ref sig .tc := ⟨.hbm, 342, rfl⟩
abbrev main_c_89 : Ref sig .tc := ⟨.hbm, 343, rfl⟩
abbrev main_v251 : Ref sig .tc := ⟨.hbm, 344, rfl⟩
abbrev main_c_90 : Ref sig .tc := ⟨.hbm, 345, rfl⟩
abbrev main_c_91 : Ref sig .tc := ⟨.hbm, 346, rfl⟩
abbrev main_v252 : Ref sig .tc := ⟨.hbm, 347, rfl⟩
abbrev main_c_92 : Ref sig .tc := ⟨.hbm, 348, rfl⟩
abbrev main_v253 : Ref sig .tc := ⟨.hbm, 349, rfl⟩
abbrev main_v254 : Ref sig .tc := ⟨.hbm, 350, rfl⟩
abbrev main_c_93 : Ref sig .tc := ⟨.hbm, 351, rfl⟩
abbrev main_v255 : Ref sig .tc := ⟨.hbm, 352, rfl⟩
abbrev main_v256 : Ref sig .tc := ⟨.hbm, 353, rfl⟩
abbrev main_v257 : Ref sig .tc := ⟨.hbm, 354, rfl⟩
abbrev main_v258 : Ref sig .tc := ⟨.hbm, 355, rfl⟩
abbrev main_v259 : Ref sig .tc := ⟨.hbm, 356, rfl⟩
abbrev main_v260 : Ref sig .tc := ⟨.hbm, 357, rfl⟩
abbrev main_c_94 : Ref sig .tc := ⟨.hbm, 358, rfl⟩
abbrev main_v261 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_c_95 : Ref sig .tc := ⟨.hbm, 364, rfl⟩
abbrev main_v266 : Ref sig .tc := ⟨.hbm, 365, rfl⟩
abbrev main_v267 : Ref sig .tc := ⟨.hbm, 366, rfl⟩
abbrev main_v268 : Ref sig .tc := ⟨.hbm, 367, rfl⟩
abbrev main_v269 : Ref sig .tc := ⟨.hbm, 368, rfl⟩
abbrev main_v270 : Ref sig .tc := ⟨.hbm, 369, rfl⟩
abbrev main_c_96 : Ref sig .tc := ⟨.hbm, 370, rfl⟩
abbrev main_v271 : Ref sig .tc := ⟨.hbm, 371, rfl⟩
abbrev main_v272 : Ref sig .tc := ⟨.hbm, 372, rfl⟩
abbrev main_v273 : Ref sig .tc := ⟨.hbm, 373, rfl⟩
abbrev main_c_97 : Ref sig .tc := ⟨.hbm, 374, rfl⟩
abbrev main_v274 : Ref sig .tc := ⟨.hbm, 375, rfl⟩
abbrev main_v275 : Ref sig .tc := ⟨.hbm, 376, rfl⟩
abbrev main_v276 : Ref sig .tc := ⟨.hbm, 377, rfl⟩
abbrev main_c_98 : Ref sig .tc := ⟨.hbm, 378, rfl⟩
abbrev main_v277 : Ref sig .tc := ⟨.hbm, 379, rfl⟩
abbrev main_v278 : Ref sig .tc := ⟨.hbm, 380, rfl⟩
abbrev main_c_99 : Ref sig .tc := ⟨.hbm, 381, rfl⟩
abbrev main_c_100 : Ref sig .tc := ⟨.hbm, 382, rfl⟩
abbrev main_v279 : Ref sig .tc := ⟨.hbm, 383, rfl⟩
abbrev main_c_101 : Ref sig .tc := ⟨.hbm, 384, rfl⟩
abbrev main_c_102 : Ref sig .tc := ⟨.hbm, 385, rfl⟩
abbrev main_v280 : Ref sig .tc := ⟨.hbm, 386, rfl⟩
abbrev main_c_103 : Ref sig .tc := ⟨.hbm, 387, rfl⟩
abbrev main_v281 : Ref sig .tc := ⟨.hbm, 388, rfl⟩
abbrev main_v282 : Ref sig .tc := ⟨.hbm, 389, rfl⟩
abbrev main_c_104 : Ref sig .tc := ⟨.hbm, 390, rfl⟩
abbrev main_v283 : Ref sig .tc := ⟨.hbm, 391, rfl⟩
abbrev main_v284 : Ref sig .tc := ⟨.hbm, 392, rfl⟩
abbrev main_v285 : Ref sig .tc := ⟨.hbm, 393, rfl⟩
abbrev main_v286 : Ref sig .tc := ⟨.hbm, 394, rfl⟩
abbrev main_v287 : Ref sig .tc := ⟨.hbm, 395, rfl⟩
abbrev main_v288 : Ref sig .tc := ⟨.hbm, 396, rfl⟩
abbrev main_c_105 : Ref sig .tc := ⟨.hbm, 397, rfl⟩
abbrev main_v289 : Ref sig .tc := ⟨.hbm, 398, rfl⟩
abbrev main_v290 : Ref sig .tc := ⟨.hbm, 399, rfl⟩
abbrev main_v291 : Ref sig .tc := ⟨.hbm, 400, rfl⟩
abbrev main_v292 : Ref sig .tc := ⟨.hbm, 401, rfl⟩
abbrev main_v293 : Ref sig .tc := ⟨.hbm, 402, rfl⟩
abbrev main_c_106 : Ref sig .tc := ⟨.hbm, 403, rfl⟩
abbrev main_v294 : Ref sig .tc := ⟨.hbm, 404, rfl⟩
abbrev main_v295 : Ref sig .tc := ⟨.hbm, 405, rfl⟩
abbrev main_v296 : Ref sig .tc := ⟨.hbm, 406, rfl⟩
abbrev main_v297 : Ref sig .tc := ⟨.hbm, 407, rfl⟩
abbrev main_v298 : Ref sig .tc := ⟨.hbm, 408, rfl⟩
abbrev main_c_107 : Ref sig .tc := ⟨.hbm, 409, rfl⟩
abbrev main_v299 : Ref sig .tc := ⟨.hbm, 410, rfl⟩
abbrev main_v300 : Ref sig .tc := ⟨.hbm, 411, rfl⟩
abbrev main_v301 : Ref sig .tc := ⟨.hbm, 412, rfl⟩
abbrev main_c_108 : Ref sig .tc := ⟨.hbm, 413, rfl⟩
abbrev main_v302 : Ref sig .tc := ⟨.hbm, 414, rfl⟩
abbrev main_v303 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_v308 : Ref sig .tc := ⟨.hbm, 420, rfl⟩
abbrev main_v309 : Ref sig .tc := ⟨.hbm, 421, rfl⟩
abbrev main_v310 : Ref sig .tc := ⟨.hbm, 422, rfl⟩
abbrev main_c_109 : Ref sig .tc := ⟨.hbm, 423, rfl⟩
abbrev main_v311 : Ref sig .tc := ⟨.hbm, 424, rfl⟩
abbrev main_c_110 : Ref sig .tc := ⟨.hbm, 425, rfl⟩
abbrev main_v312 : Ref sig .tc := ⟨.hbm, 426, rfl⟩
abbrev main_c_111 : Ref sig .tc := ⟨.hbm, 427, rfl⟩
abbrev main_v313 : Ref sig .tc := ⟨.hbm, 428, rfl⟩
abbrev main_v314 : Ref sig .tc := ⟨.hbm, 429, rfl⟩
abbrev main_c_112 : Ref sig .tc := ⟨.hbm, 430, rfl⟩
abbrev main_c_113 : Ref sig .tc := ⟨.hbm, 431, rfl⟩
abbrev main_v315 : Ref sig .tc := ⟨.hbm, 432, rfl⟩
abbrev main_c_114 : Ref sig .tc := ⟨.hbm, 433, rfl⟩
abbrev main_c_115 : Ref sig .tc := ⟨.hbm, 434, rfl⟩
abbrev main_v316 : Ref sig .tc := ⟨.hbm, 435, rfl⟩
abbrev main_c_116 : Ref sig .tc := ⟨.hbm, 436, rfl⟩
abbrev main_v317 : Ref sig .tc := ⟨.hbm, 437, rfl⟩
abbrev main_v318 : Ref sig .tc := ⟨.hbm, 438, rfl⟩
abbrev main_c_117 : Ref sig .tc := ⟨.hbm, 439, rfl⟩
abbrev main_v319 : Ref sig .tc := ⟨.hbm, 440, rfl⟩
abbrev main_v320 : Ref sig .tc := ⟨.hbm, 441, rfl⟩
abbrev main_v321 : Ref sig .tc := ⟨.hbm, 442, rfl⟩
abbrev main_v322 : Ref sig .tc := ⟨.hbm, 443, rfl⟩
abbrev main_v323 : Ref sig .tc := ⟨.hbm, 444, rfl⟩
abbrev main_v324 : Ref sig .tc := ⟨.hbm, 445, rfl⟩
abbrev main_c_118 : Ref sig .tc := ⟨.hbm, 446, rfl⟩
abbrev main_v325 : Ref sig .tc := ⟨.hbm, 447, rfl⟩
abbrev main_v326 : Ref sig .tc := ⟨.hbm, 448, rfl⟩
abbrev main_v327 : Ref sig .tc := ⟨.hbm, 449, rfl⟩
abbrev main_v328 : Ref sig .tc := ⟨.hbm, 450, rfl⟩
abbrev main_v329 : Ref sig .tc := ⟨.hbm, 451, rfl⟩
abbrev main_c_119 : Ref sig .tc := ⟨.hbm, 452, rfl⟩
abbrev main_v330 : Ref sig .tc := ⟨.hbm, 453, rfl⟩
abbrev main_v331 : Ref sig .tc := ⟨.hbm, 454, rfl⟩
abbrev main_v332 : Ref sig .tc := ⟨.hbm, 455, rfl⟩
abbrev main_v333 : Ref sig .tc := ⟨.hbm, 456, rfl⟩
abbrev main_v334 : Ref sig .tc := ⟨.hbm, 457, rfl⟩
abbrev main_c_120 : Ref sig .tc := ⟨.hbm, 458, rfl⟩
abbrev main_v335 : Ref sig .tc := ⟨.hbm, 459, rfl⟩
abbrev main_v336 : Ref sig .tc := ⟨.hbm, 460, rfl⟩
abbrev main_v337 : Ref sig .tc := ⟨.hbm, 461, rfl⟩
abbrev main_c_121 : Ref sig .tc := ⟨.hbm, 462, rfl⟩
abbrev main_v338 : Ref sig .tc := ⟨.hbm, 463, rfl⟩
abbrev main_v339 : Ref sig .tc := ⟨.hbm, 464, rfl⟩
abbrev main_v340 : Ref sig .tc := ⟨.hbm, 465, rfl⟩
abbrev main_c_122 : Ref sig .tc := ⟨.hbm, 466, rfl⟩
abbrev main_v341 : Ref sig .tc := ⟨.hbm, 467, rfl⟩
abbrev main_v342 : Ref sig .tc := ⟨.hbm, 468, rfl⟩
abbrev main_c_123 : Ref sig .tc := ⟨.hbm, 469, rfl⟩
abbrev main_c_124 : Ref sig .tc := ⟨.hbm, 470, rfl⟩
abbrev main_v343 : Ref sig .tc := ⟨.hbm, 471, rfl⟩
abbrev main_c_125 : Ref sig .tc := ⟨.hbm, 472, rfl⟩
abbrev main_c_126 : Ref sig .tc := ⟨.hbm, 473, rfl⟩
abbrev main_v344 : Ref sig .tc := ⟨.hbm, 474, rfl⟩
abbrev main_c_127 : Ref sig .tc := ⟨.hbm, 475, rfl⟩
abbrev main_v345 : Ref sig .tc := ⟨.hbm, 476, rfl⟩
abbrev main_v346 : Ref sig .tc := ⟨.hbm, 477, rfl⟩
abbrev main_c_128 : Ref sig .tc := ⟨.hbm, 478, rfl⟩
abbrev main_v347 : Ref sig .tc := ⟨.hbm, 479, rfl⟩
abbrev main_v348 : Ref sig .tc := ⟨.hbm, 480, rfl⟩
abbrev main_v349 : Ref sig .tc := ⟨.hbm, 481, rfl⟩
abbrev main_v350 : Ref sig .tc := ⟨.hbm, 482, rfl⟩
abbrev main_v351 : Ref sig .tc := ⟨.hbm, 483, rfl⟩
abbrev main_v352 : Ref sig .tc := ⟨.hbm, 484, rfl⟩
abbrev main_c_129 : Ref sig .tc := ⟨.hbm, 485, rfl⟩
abbrev main_v353 : Ref sig .tc := ⟨.hbm, 486, rfl⟩
abbrev main_v354 : Ref sig .tc := ⟨.hbm, 487, rfl⟩
abbrev main_v355 : Ref sig .tc := ⟨.hbm, 488, rfl⟩
abbrev main_v356 : Ref sig .tc := ⟨.hbm, 489, rfl⟩
abbrev main_v357 : Ref sig .tc := ⟨.hbm, 490, rfl⟩
abbrev main_c_130 : Ref sig .tc := ⟨.hbm, 491, rfl⟩
abbrev main_v358 : Ref sig .tc := ⟨.hbm, 492, rfl⟩
abbrev main_v359 : Ref sig .tc := ⟨.hbm, 493, rfl⟩
abbrev main_v360 : Ref sig .tc := ⟨.hbm, 494, rfl⟩
abbrev main_v361 : Ref sig .tc := ⟨.hbm, 495, rfl⟩
abbrev main_v362 : Ref sig .tc := ⟨.hbm, 496, rfl⟩
abbrev main_c_131 : Ref sig .tc := ⟨.hbm, 497, rfl⟩
abbrev main_v363 : Ref sig .tc := ⟨.hbm, 498, rfl⟩
abbrev main_v364 : Ref sig .tc := ⟨.hbm, 499, rfl⟩
abbrev main_v365 : Ref sig .tc := ⟨.hbm, 500, rfl⟩
abbrev main_c_132 : Ref sig .tc := ⟨.hbm, 501, rfl⟩
abbrev main_v366 : Ref sig .tc := ⟨.hbm, 502, rfl⟩
abbrev main_v367 : Ref sig .tc := ⟨.hbm, 503, rfl⟩
abbrev main_v368 : Ref sig .tc := ⟨.hbm, 504, rfl⟩
abbrev main_v369 : Ref sig .tc := ⟨.hbm, 505, rfl⟩
abbrev main_v370 : Ref sig .tc := ⟨.hbm, 506, rfl⟩
abbrev main_v371 : Ref sig .tc := ⟨.hbm, 507, rfl⟩
abbrev main_v372 : Ref sig .tc := ⟨.hbm, 508, rfl⟩
abbrev main_v373 : Ref sig .tc := ⟨.hbm, 509, rfl⟩
abbrev main_v374 : Ref sig .tc := ⟨.hbm, 510, rfl⟩
abbrev main_c_133 : Ref sig .tc := ⟨.hbm, 511, rfl⟩
abbrev main_v375 : Ref sig .tc := ⟨.hbm, 512, rfl⟩
abbrev main_c_134 : Ref sig .tc := ⟨.hbm, 513, rfl⟩
abbrev main_v376 : Ref sig .tc := ⟨.hbm, 514, rfl⟩
abbrev main_c_135 : Ref sig .tc := ⟨.hbm, 515, rfl⟩
abbrev main_v377 : Ref sig .tc := ⟨.hbm, 516, rfl⟩
abbrev main_v378 : Ref sig .tc := ⟨.hbm, 517, rfl⟩
abbrev main_c_136 : Ref sig .tc := ⟨.hbm, 518, rfl⟩
abbrev main_c_137 : Ref sig .tc := ⟨.hbm, 519, rfl⟩
abbrev main_v379 : Ref sig .tc := ⟨.hbm, 520, rfl⟩
abbrev main_c_138 : Ref sig .tc := ⟨.hbm, 521, rfl⟩
abbrev main_c_139 : Ref sig .tc := ⟨.hbm, 522, rfl⟩
abbrev main_v380 : Ref sig .tc := ⟨.hbm, 523, rfl⟩
abbrev main_c_140 : Ref sig .tc := ⟨.hbm, 524, rfl⟩
abbrev main_v381 : Ref sig .tc := ⟨.hbm, 525, rfl⟩
abbrev main_v382 : Ref sig .tc := ⟨.hbm, 526, rfl⟩
abbrev main_c_141 : Ref sig .tc := ⟨.hbm, 527, rfl⟩
abbrev main_v383 : Ref sig .tc := ⟨.hbm, 528, rfl⟩
abbrev main_v384 : Ref sig .tc := ⟨.hbm, 529, rfl⟩
abbrev main_v385 : Ref sig .tc := ⟨.hbm, 530, rfl⟩
abbrev main_v386 : Ref sig .tc := ⟨.hbm, 531, rfl⟩
abbrev main_v387 : Ref sig .tc := ⟨.hbm, 532, rfl⟩
abbrev main_v388 : Ref sig .tc := ⟨.hbm, 533, rfl⟩
abbrev main_c_142 : Ref sig .tc := ⟨.hbm, 534, rfl⟩
abbrev main_v389 : Ref sig .tc := ⟨.hbm, 535, rfl⟩
abbrev main_v390 : Ref sig .tc := ⟨.hbm, 536, rfl⟩
abbrev main_v391 : Ref sig .tc := ⟨.hbm, 537, rfl⟩
abbrev main_v392 : Ref sig .tc := ⟨.hbm, 538, rfl⟩
abbrev main_v393 : Ref sig .tc := ⟨.hbm, 539, rfl⟩
abbrev main_c_143 : Ref sig .tc := ⟨.hbm, 540, rfl⟩
abbrev main_v394 : Ref sig .tc := ⟨.hbm, 541, rfl⟩
abbrev main_v395 : Ref sig .tc := ⟨.hbm, 542, rfl⟩
abbrev main_v396 : Ref sig .tc := ⟨.hbm, 543, rfl⟩
abbrev main_v397 : Ref sig .tc := ⟨.hbm, 544, rfl⟩
abbrev main_v398 : Ref sig .tc := ⟨.hbm, 545, rfl⟩
abbrev main_c_144 : Ref sig .tc := ⟨.hbm, 546, rfl⟩
abbrev main_v399 : Ref sig .tc := ⟨.hbm, 547, rfl⟩
abbrev main_v400 : Ref sig .tc := ⟨.hbm, 548, rfl⟩
abbrev main_v401 : Ref sig .tc := ⟨.hbm, 549, rfl⟩
abbrev main_c_145 : Ref sig .tc := ⟨.hbm, 550, rfl⟩
abbrev main_v402 : Ref sig .tc := ⟨.hbm, 551, rfl⟩
abbrev main_v403 : Ref sig .tc := ⟨.hbm, 552, rfl⟩
abbrev main_v404 : Ref sig .tc := ⟨.hbm, 553, rfl⟩
abbrev main_c_146 : Ref sig .tc := ⟨.hbm, 554, rfl⟩
abbrev main_v405 : Ref sig .tc := ⟨.hbm, 555, rfl⟩
abbrev main_v406 : Ref sig .tc := ⟨.hbm, 556, rfl⟩
abbrev main_c_147 : Ref sig .tc := ⟨.hbm, 557, rfl⟩
abbrev main_c_148 : Ref sig .tc := ⟨.hbm, 558, rfl⟩
abbrev main_v407 : Ref sig .tc := ⟨.hbm, 559, rfl⟩
abbrev main_c_149 : Ref sig .tc := ⟨.hbm, 560, rfl⟩
abbrev main_c_150 : Ref sig .tc := ⟨.hbm, 561, rfl⟩
abbrev main_v408 : Ref sig .tc := ⟨.hbm, 562, rfl⟩
abbrev main_c_151 : Ref sig .tc := ⟨.hbm, 563, rfl⟩
abbrev main_v409 : Ref sig .tc := ⟨.hbm, 564, rfl⟩
abbrev main_v410 : Ref sig .tc := ⟨.hbm, 565, rfl⟩
abbrev main_c_152 : Ref sig .tc := ⟨.hbm, 566, rfl⟩
abbrev main_v411 : Ref sig .tc := ⟨.hbm, 567, rfl⟩
abbrev main_v412 : Ref sig .tc := ⟨.hbm, 568, rfl⟩
abbrev main_v413 : Ref sig .tc := ⟨.hbm, 569, rfl⟩
abbrev main_v414 : Ref sig .tc := ⟨.hbm, 570, rfl⟩
abbrev main_v415 : Ref sig .tc := ⟨.hbm, 571, rfl⟩
abbrev main_v416 : Ref sig .tc := ⟨.hbm, 572, rfl⟩
abbrev main_c_153 : Ref sig .tc := ⟨.hbm, 573, rfl⟩
abbrev main_v417 : Ref sig .tc := ⟨.hbm, 574, rfl⟩
abbrev main_v418 : Ref sig .tc := ⟨.hbm, 575, rfl⟩
abbrev main_v419 : Ref sig .tc := ⟨.hbm, 576, rfl⟩
abbrev main_v420 : Ref sig .tc := ⟨.hbm, 577, rfl⟩
abbrev main_v421 : Ref sig .tc := ⟨.hbm, 578, rfl⟩
abbrev main_c_154 : Ref sig .tc := ⟨.hbm, 579, rfl⟩
abbrev main_v422 : Ref sig .tc := ⟨.hbm, 580, rfl⟩
abbrev main_v423 : Ref sig .tc := ⟨.hbm, 581, rfl⟩
abbrev main_v424 : Ref sig .tc := ⟨.hbm, 582, rfl⟩
abbrev main_v425 : Ref sig .tc := ⟨.hbm, 583, rfl⟩
abbrev main_v426 : Ref sig .tc := ⟨.hbm, 584, rfl⟩
abbrev main_c_155 : Ref sig .tc := ⟨.hbm, 585, rfl⟩
abbrev main_v427 : Ref sig .tc := ⟨.hbm, 586, rfl⟩
abbrev main_v428 : Ref sig .tc := ⟨.hbm, 587, rfl⟩
abbrev main_v429 : Ref sig .tc := ⟨.hbm, 588, rfl⟩
abbrev main_c_156 : Ref sig .tc := ⟨.hbm, 589, rfl⟩
abbrev main_v430 : Ref sig .tc := ⟨.hbm, 590, rfl⟩
abbrev main_v431 : Ref sig .tc := ⟨.hbm, 591, rfl⟩
abbrev main_v432 : Ref sig .tc := ⟨.hbm, 592, rfl⟩
abbrev main_v433 : Ref sig .tc := ⟨.hbm, 593, rfl⟩
abbrev main_v434 : Ref sig .tc := ⟨.hbm, 594, rfl⟩
abbrev main_v435 : Ref sig .tc := ⟨.hbm, 595, rfl⟩
abbrev main_v436 : Ref sig .tc := ⟨.hbm, 596, rfl⟩
abbrev main_v437 : Ref sig .tc := ⟨.hbm, 597, rfl⟩
abbrev main_v438 : Ref sig .tc := ⟨.hbm, 598, rfl⟩
abbrev main_c_157 : Ref sig .tc := ⟨.hbm, 599, rfl⟩
abbrev main_v439 : Ref sig .tc := ⟨.hbm, 600, rfl⟩
abbrev main_c_158 : Ref sig .tc := ⟨.hbm, 601, rfl⟩
abbrev main_v440 : Ref sig .tc := ⟨.hbm, 602, rfl⟩
abbrev main_c_159 : Ref sig .tc := ⟨.hbm, 603, rfl⟩
abbrev main_v441 : Ref sig .tc := ⟨.hbm, 604, rfl⟩
abbrev main_v442 : Ref sig .tc := ⟨.hbm, 605, rfl⟩
abbrev main_c_160 : Ref sig .tc := ⟨.hbm, 606, rfl⟩
abbrev main_c_161 : Ref sig .tc := ⟨.hbm, 607, rfl⟩
abbrev main_v443 : Ref sig .tc := ⟨.hbm, 608, rfl⟩
abbrev main_c_162 : Ref sig .tc := ⟨.hbm, 609, rfl⟩
abbrev main_c_163 : Ref sig .tc := ⟨.hbm, 610, rfl⟩
abbrev main_v444 : Ref sig .tc := ⟨.hbm, 611, rfl⟩
abbrev main_c_164 : Ref sig .tc := ⟨.hbm, 612, rfl⟩
abbrev main_v445 : Ref sig .tc := ⟨.hbm, 613, rfl⟩
abbrev main_v446 : Ref sig .tc := ⟨.hbm, 614, rfl⟩
abbrev main_c_165 : Ref sig .tc := ⟨.hbm, 615, rfl⟩
abbrev main_v447 : Ref sig .tc := ⟨.hbm, 616, rfl⟩
abbrev main_v448 : Ref sig .tc := ⟨.hbm, 617, rfl⟩
abbrev main_v449 : Ref sig .tc := ⟨.hbm, 618, rfl⟩
abbrev main_v450 : Ref sig .tc := ⟨.hbm, 619, rfl⟩
abbrev main_v451 : Ref sig .tc := ⟨.hbm, 620, rfl⟩
abbrev main_v452 : Ref sig .tc := ⟨.hbm, 621, rfl⟩
abbrev main_c_166 : Ref sig .tc := ⟨.hbm, 622, rfl⟩
abbrev main_v453 : Ref sig .tc := ⟨.hbm, 623, rfl⟩
abbrev main_v454 : Ref sig .tc := ⟨.hbm, 624, rfl⟩
abbrev main_v455 : Ref sig .tc := ⟨.hbm, 625, rfl⟩
abbrev main_v456 : Ref sig .tc := ⟨.hbm, 626, rfl⟩
abbrev main_v457 : Ref sig .tc := ⟨.hbm, 627, rfl⟩
abbrev main_c_167 : Ref sig .tc := ⟨.hbm, 628, rfl⟩
abbrev main_v458 : Ref sig .tc := ⟨.hbm, 629, rfl⟩
abbrev main_v459 : Ref sig .tc := ⟨.hbm, 630, rfl⟩
abbrev main_v460 : Ref sig .tc := ⟨.hbm, 631, rfl⟩
abbrev main_v461 : Ref sig .tc := ⟨.hbm, 632, rfl⟩
abbrev main_v462 : Ref sig .tc := ⟨.hbm, 633, rfl⟩
abbrev main_c_168 : Ref sig .tc := ⟨.hbm, 634, rfl⟩
abbrev main_v463 : Ref sig .tc := ⟨.hbm, 635, rfl⟩
abbrev main_v464 : Ref sig .tc := ⟨.hbm, 636, rfl⟩
abbrev main_v465 : Ref sig .tc := ⟨.hbm, 637, rfl⟩
abbrev main_c_169 : Ref sig .tc := ⟨.hbm, 638, rfl⟩
abbrev main_v466 : Ref sig .tc := ⟨.hbm, 639, rfl⟩
abbrev main_v467 : Ref sig .tc := ⟨.hbm, 640, rfl⟩
abbrev main_v468 : Ref sig .tc := ⟨.hbm, 641, rfl⟩
abbrev main_c_170 : Ref sig .tc := ⟨.hbm, 642, rfl⟩
abbrev main_v469 : Ref sig .tc := ⟨.hbm, 643, rfl⟩
abbrev main_v470 : Ref sig .tc := ⟨.hbm, 644, rfl⟩
abbrev main_c_171 : Ref sig .tc := ⟨.hbm, 645, rfl⟩
abbrev main_c_172 : Ref sig .tc := ⟨.hbm, 646, rfl⟩
abbrev main_v471 : Ref sig .tc := ⟨.hbm, 647, rfl⟩
abbrev main_c_173 : Ref sig .tc := ⟨.hbm, 648, rfl⟩
abbrev main_c_174 : Ref sig .tc := ⟨.hbm, 649, rfl⟩
abbrev main_v472 : Ref sig .tc := ⟨.hbm, 650, rfl⟩
abbrev main_c_175 : Ref sig .tc := ⟨.hbm, 651, rfl⟩
abbrev main_v473 : Ref sig .tc := ⟨.hbm, 652, rfl⟩
abbrev main_v474 : Ref sig .tc := ⟨.hbm, 653, rfl⟩
abbrev main_c_176 : Ref sig .tc := ⟨.hbm, 654, rfl⟩
abbrev main_v475 : Ref sig .tc := ⟨.hbm, 655, rfl⟩
abbrev main_v476 : Ref sig .tc := ⟨.hbm, 656, rfl⟩
abbrev main_v477 : Ref sig .tc := ⟨.hbm, 657, rfl⟩
abbrev main_v478 : Ref sig .tc := ⟨.hbm, 658, rfl⟩
abbrev main_v479 : Ref sig .tc := ⟨.hbm, 659, rfl⟩
abbrev main_v480 : Ref sig .tc := ⟨.hbm, 660, rfl⟩
abbrev main_c_177 : Ref sig .tc := ⟨.hbm, 661, rfl⟩
abbrev main_v481 : Ref sig .tc := ⟨.hbm, 662, rfl⟩
abbrev main_v482 : Ref sig .tc := ⟨.hbm, 663, rfl⟩
abbrev main_v483 : Ref sig .tc := ⟨.hbm, 664, rfl⟩
abbrev main_v484 : Ref sig .tc := ⟨.hbm, 665, rfl⟩
abbrev main_v485 : Ref sig .tc := ⟨.hbm, 666, rfl⟩
abbrev main_c_178 : Ref sig .tc := ⟨.hbm, 667, rfl⟩
abbrev main_v486 : Ref sig .tc := ⟨.hbm, 668, rfl⟩
abbrev main_v487 : Ref sig .tc := ⟨.hbm, 669, rfl⟩
abbrev main_v488 : Ref sig .tc := ⟨.hbm, 670, rfl⟩
abbrev main_v489 : Ref sig .tc := ⟨.hbm, 671, rfl⟩
abbrev main_v490 : Ref sig .tc := ⟨.hbm, 672, rfl⟩
abbrev main_c_179 : Ref sig .tc := ⟨.hbm, 673, rfl⟩
abbrev main_v491 : Ref sig .tc := ⟨.hbm, 674, rfl⟩
abbrev main_v492 : Ref sig .tc := ⟨.hbm, 675, rfl⟩
abbrev main_v493 : Ref sig .tc := ⟨.hbm, 676, rfl⟩
abbrev main_c_180 : Ref sig .tc := ⟨.hbm, 677, rfl⟩
abbrev main_v494 : Ref sig .tc := ⟨.hbm, 678, rfl⟩
abbrev main_v495 : Ref sig .tc := ⟨.hbm, 679, rfl⟩
abbrev main_v496 : Ref sig .tc := ⟨.hbm, 680, rfl⟩
abbrev main_v497 : Ref sig .tc := ⟨.hbm, 681, rfl⟩
abbrev main_v498 : Ref sig .tc := ⟨.hbm, 682, rfl⟩
abbrev main_v499 : Ref sig .tc := ⟨.hbm, 683, rfl⟩
abbrev main_v500 : Ref sig .tc := ⟨.hbm, 684, rfl⟩
abbrev main_v501 : Ref sig .tc := ⟨.hbm, 685, rfl⟩
abbrev main_v502 : Ref sig .tc := ⟨.hbm, 686, rfl⟩
abbrev main_c_181 : Ref sig .tc := ⟨.hbm, 687, rfl⟩
abbrev main_v503 : Ref sig .tc := ⟨.hbm, 688, rfl⟩
abbrev main_c_182 : Ref sig .tc := ⟨.hbm, 689, rfl⟩
abbrev main_v504 : Ref sig .tc := ⟨.hbm, 690, rfl⟩
abbrev main_c_183 : Ref sig .tc := ⟨.hbm, 691, rfl⟩
abbrev main_v505 : Ref sig .tc := ⟨.hbm, 692, rfl⟩
abbrev main_v506 : Ref sig .tc := ⟨.hbm, 693, rfl⟩
abbrev main_c_184 : Ref sig .tc := ⟨.hbm, 694, rfl⟩
abbrev main_c_185 : Ref sig .tc := ⟨.hbm, 695, rfl⟩
abbrev main_v507 : Ref sig .tc := ⟨.hbm, 696, rfl⟩
abbrev main_c_186 : Ref sig .tc := ⟨.hbm, 697, rfl⟩
abbrev main_c_187 : Ref sig .tc := ⟨.hbm, 698, rfl⟩
abbrev main_v508 : Ref sig .tc := ⟨.hbm, 699, rfl⟩
abbrev main_c_188 : Ref sig .tc := ⟨.hbm, 700, rfl⟩
abbrev main_v509 : Ref sig .tc := ⟨.hbm, 701, rfl⟩
abbrev main_v510 : Ref sig .tc := ⟨.hbm, 702, rfl⟩
abbrev main_c_189 : Ref sig .tc := ⟨.hbm, 703, rfl⟩
abbrev main_v511 : Ref sig .tc := ⟨.hbm, 704, rfl⟩
abbrev main_v512 : Ref sig .tc := ⟨.hbm, 705, rfl⟩
abbrev main_v513 : Ref sig .tc := ⟨.hbm, 706, rfl⟩
abbrev main_v514 : Ref sig .tc := ⟨.hbm, 707, rfl⟩
abbrev main_v515 : Ref sig .tc := ⟨.hbm, 708, rfl⟩
abbrev main_v516 : Ref sig .tc := ⟨.hbm, 709, rfl⟩
abbrev main_c_190 : Ref sig .tc := ⟨.hbm, 710, rfl⟩
abbrev main_v517 : Ref sig .tc := ⟨.hbm, 711, rfl⟩
abbrev main_v518 : Ref sig .tc := ⟨.hbm, 712, rfl⟩
abbrev main_v519 : Ref sig .tc := ⟨.hbm, 713, rfl⟩
abbrev main_v520 : Ref sig .tc := ⟨.hbm, 714, rfl⟩
abbrev main_v521 : Ref sig .tc := ⟨.hbm, 715, rfl⟩
abbrev main_c_191 : Ref sig .tc := ⟨.hbm, 716, rfl⟩
abbrev main_v522 : Ref sig .tc := ⟨.hbm, 717, rfl⟩
abbrev main_v523 : Ref sig .tc := ⟨.hbm, 718, rfl⟩
abbrev main_v524 : Ref sig .tc := ⟨.hbm, 719, rfl⟩
abbrev main_v525 : Ref sig .tc := ⟨.hbm, 720, rfl⟩
abbrev main_v526 : Ref sig .tc := ⟨.hbm, 721, rfl⟩
abbrev main_c_192 : Ref sig .tc := ⟨.hbm, 722, rfl⟩
abbrev main_v527 : Ref sig .tc := ⟨.hbm, 723, rfl⟩
abbrev main_v528 : Ref sig .tc := ⟨.hbm, 724, rfl⟩
abbrev main_v529 : Ref sig .tc := ⟨.hbm, 725, rfl⟩
abbrev main_c_193 : Ref sig .tc := ⟨.hbm, 726, rfl⟩
abbrev main_v530 : Ref sig .tc := ⟨.hbm, 727, rfl⟩
abbrev main_v531 : Ref sig .tc := ⟨.hbm, 728, rfl⟩
abbrev main_v532 : Ref sig .tc := ⟨.hbm, 729, rfl⟩
abbrev main_c_194 : Ref sig .tc := ⟨.hbm, 730, rfl⟩
abbrev main_v533 : Ref sig .tc := ⟨.hbm, 731, rfl⟩
abbrev main_v534 : Ref sig .tc := ⟨.hbm, 732, rfl⟩
abbrev main_c_195 : Ref sig .tc := ⟨.hbm, 733, rfl⟩
abbrev main_c_196 : Ref sig .tc := ⟨.hbm, 734, rfl⟩
abbrev main_v535 : Ref sig .tc := ⟨.hbm, 735, rfl⟩
abbrev main_c_197 : Ref sig .tc := ⟨.hbm, 736, rfl⟩
abbrev main_c_198 : Ref sig .tc := ⟨.hbm, 737, rfl⟩
abbrev main_v536 : Ref sig .tc := ⟨.hbm, 738, rfl⟩
abbrev main_c_199 : Ref sig .tc := ⟨.hbm, 739, rfl⟩
abbrev main_v537 : Ref sig .tc := ⟨.hbm, 740, rfl⟩
abbrev main_v538 : Ref sig .tc := ⟨.hbm, 741, rfl⟩
abbrev main_c_200 : Ref sig .tc := ⟨.hbm, 742, rfl⟩
abbrev main_v539 : Ref sig .tc := ⟨.hbm, 743, rfl⟩
abbrev main_v540 : Ref sig .tc := ⟨.hbm, 744, rfl⟩
abbrev main_v541 : Ref sig .tc := ⟨.hbm, 745, rfl⟩
abbrev main_v542 : Ref sig .tc := ⟨.hbm, 746, rfl⟩
abbrev main_v543 : Ref sig .tc := ⟨.hbm, 747, rfl⟩
abbrev main_v544 : Ref sig .tc := ⟨.hbm, 748, rfl⟩
abbrev main_c_201 : Ref sig .tc := ⟨.hbm, 749, rfl⟩
abbrev main_v545 : Ref sig .tc := ⟨.hbm, 750, rfl⟩
abbrev main_v546 : Ref sig .tc := ⟨.hbm, 751, rfl⟩
abbrev main_v547 : Ref sig .tc := ⟨.hbm, 752, rfl⟩
abbrev main_v548 : Ref sig .tc := ⟨.hbm, 753, rfl⟩
abbrev main_v549 : Ref sig .tc := ⟨.hbm, 754, rfl⟩
abbrev main_c_202 : Ref sig .tc := ⟨.hbm, 755, rfl⟩
abbrev main_v550 : Ref sig .tc := ⟨.hbm, 756, rfl⟩
abbrev main_v551 : Ref sig .tc := ⟨.hbm, 757, rfl⟩
abbrev main_v552 : Ref sig .tc := ⟨.hbm, 758, rfl⟩
abbrev main_v553 : Ref sig .tc := ⟨.hbm, 759, rfl⟩
abbrev main_v554 : Ref sig .tc := ⟨.hbm, 760, rfl⟩
abbrev main_c_203 : Ref sig .tc := ⟨.hbm, 761, rfl⟩
abbrev main_v555 : Ref sig .tc := ⟨.hbm, 762, rfl⟩
abbrev main_v556 : Ref sig .tc := ⟨.hbm, 763, rfl⟩
abbrev main_v557 : Ref sig .tc := ⟨.hbm, 764, rfl⟩
abbrev main_c_204 : Ref sig .tc := ⟨.hbm, 765, rfl⟩
abbrev main_v558 : Ref sig .tc := ⟨.hbm, 766, rfl⟩
abbrev main_v559 : Ref sig .tc := ⟨.hbm, 767, rfl⟩
abbrev main_v560 : Ref sig .tc := ⟨.hbm, 768, rfl⟩
abbrev main_v561 : Ref sig .tc := ⟨.hbm, 769, rfl⟩
abbrev main_v562 : Ref sig .tc := ⟨.hbm, 770, rfl⟩
abbrev main_v563 : Ref sig .tc := ⟨.hbm, 771, rfl⟩
abbrev main_v564 : Ref sig .tc := ⟨.hbm, 772, rfl⟩
abbrev main_v565 : Ref sig .tc := ⟨.hbm, 773, rfl⟩
abbrev main_v566 : Ref sig .tc := ⟨.hbm, 774, rfl⟩
abbrev main_c_205 : Ref sig .tc := ⟨.hbm, 775, rfl⟩
abbrev main_v567 : Ref sig .tc := ⟨.hbm, 776, rfl⟩
abbrev main_c_206 : Ref sig .tc := ⟨.hbm, 777, rfl⟩
abbrev main_v568 : Ref sig .tc := ⟨.hbm, 778, rfl⟩
abbrev main_c_207 : Ref sig .tc := ⟨.hbm, 779, rfl⟩
abbrev main_v569 : Ref sig .tc := ⟨.hbm, 780, rfl⟩
abbrev main_v570 : Ref sig .tc := ⟨.hbm, 781, rfl⟩
abbrev main_c_208 : Ref sig .tc := ⟨.hbm, 782, rfl⟩
abbrev main_c_209 : Ref sig .tc := ⟨.hbm, 783, rfl⟩
abbrev main_v571 : Ref sig .tc := ⟨.hbm, 784, rfl⟩
abbrev main_c_210 : Ref sig .tc := ⟨.hbm, 785, rfl⟩
abbrev main_c_211 : Ref sig .tc := ⟨.hbm, 786, rfl⟩
abbrev main_v572 : Ref sig .tc := ⟨.hbm, 787, rfl⟩
abbrev main_c_212 : Ref sig .tc := ⟨.hbm, 788, rfl⟩
abbrev main_v573 : Ref sig .tc := ⟨.hbm, 789, rfl⟩
abbrev main_v574 : Ref sig .tc := ⟨.hbm, 790, rfl⟩
abbrev main_c_213 : Ref sig .tc := ⟨.hbm, 791, rfl⟩
abbrev main_v575 : Ref sig .tc := ⟨.hbm, 792, rfl⟩
abbrev main_v576 : Ref sig .tc := ⟨.hbm, 793, rfl⟩
abbrev main_v577 : Ref sig .tc := ⟨.hbm, 794, rfl⟩
abbrev main_v578 : Ref sig .tc := ⟨.hbm, 795, rfl⟩
abbrev main_v579 : Ref sig .tc := ⟨.hbm, 796, rfl⟩
abbrev main_v580 : Ref sig .tc := ⟨.hbm, 797, rfl⟩
abbrev main_c_214 : Ref sig .tc := ⟨.hbm, 798, rfl⟩
abbrev main_v581 : Ref sig .tc := ⟨.hbm, 799, rfl⟩
abbrev main_v582 : Ref sig .tc := ⟨.hbm, 800, rfl⟩
abbrev main_v583 : Ref sig .tc := ⟨.hbm, 801, rfl⟩
abbrev main_v584 : Ref sig .tc := ⟨.hbm, 802, rfl⟩
abbrev main_v585 : Ref sig .tc := ⟨.hbm, 803, rfl⟩
abbrev main_c_215 : Ref sig .tc := ⟨.hbm, 804, rfl⟩
abbrev main_v586 : Ref sig .tc := ⟨.hbm, 805, rfl⟩
abbrev main_v587 : Ref sig .tc := ⟨.hbm, 806, rfl⟩
abbrev main_v588 : Ref sig .tc := ⟨.hbm, 807, rfl⟩
abbrev main_v589 : Ref sig .tc := ⟨.hbm, 808, rfl⟩
abbrev main_v590 : Ref sig .tc := ⟨.hbm, 809, rfl⟩
abbrev main_c_216 : Ref sig .tc := ⟨.hbm, 810, rfl⟩
abbrev main_v591 : Ref sig .tc := ⟨.hbm, 811, rfl⟩
abbrev main_v592 : Ref sig .tc := ⟨.hbm, 812, rfl⟩
abbrev main_v593 : Ref sig .tc := ⟨.hbm, 813, rfl⟩
abbrev main_c_217 : Ref sig .tc := ⟨.hbm, 814, rfl⟩
abbrev main_v594 : Ref sig .tc := ⟨.hbm, 815, rfl⟩
abbrev main_v595 : Ref sig .tc := ⟨.hbm, 816, rfl⟩
abbrev main_v596 : Ref sig .tc := ⟨.hbm, 817, rfl⟩
abbrev main_c_218 : Ref sig .tc := ⟨.hbm, 818, rfl⟩
abbrev main_v597 : Ref sig .tc := ⟨.hbm, 819, rfl⟩
abbrev main_v598 : Ref sig .tc := ⟨.hbm, 820, rfl⟩
abbrev main_c_219 : Ref sig .tc := ⟨.hbm, 821, rfl⟩
abbrev main_c_220 : Ref sig .tc := ⟨.hbm, 822, rfl⟩
abbrev main_v599 : Ref sig .tc := ⟨.hbm, 823, rfl⟩
abbrev main_c_221 : Ref sig .tc := ⟨.hbm, 824, rfl⟩
abbrev main_c_222 : Ref sig .tc := ⟨.hbm, 825, rfl⟩
abbrev main_v600 : Ref sig .tc := ⟨.hbm, 826, rfl⟩
abbrev main_c_223 : Ref sig .tc := ⟨.hbm, 827, rfl⟩
abbrev main_v601 : Ref sig .tc := ⟨.hbm, 828, rfl⟩
abbrev main_v602 : Ref sig .tc := ⟨.hbm, 829, rfl⟩
abbrev main_c_224 : Ref sig .tc := ⟨.hbm, 830, rfl⟩
abbrev main_v603 : Ref sig .tc := ⟨.hbm, 831, rfl⟩
abbrev main_v604 : Ref sig .tc := ⟨.hbm, 832, rfl⟩
abbrev main_v605 : Ref sig .tc := ⟨.hbm, 833, rfl⟩
abbrev main_v606 : Ref sig .tc := ⟨.hbm, 834, rfl⟩
abbrev main_v607 : Ref sig .tc := ⟨.hbm, 835, rfl⟩
abbrev main_v608 : Ref sig .tc := ⟨.hbm, 836, rfl⟩
abbrev main_c_225 : Ref sig .tc := ⟨.hbm, 837, rfl⟩
abbrev main_v609 : Ref sig .tc := ⟨.hbm, 838, rfl⟩
abbrev main_v610 : Ref sig .tc := ⟨.hbm, 839, rfl⟩
abbrev main_v611 : Ref sig .tc := ⟨.hbm, 840, rfl⟩
abbrev main_v612 : Ref sig .tc := ⟨.hbm, 841, rfl⟩
abbrev main_v613 : Ref sig .tc := ⟨.hbm, 842, rfl⟩
abbrev main_c_226 : Ref sig .tc := ⟨.hbm, 843, rfl⟩
abbrev main_v614 : Ref sig .tc := ⟨.hbm, 844, rfl⟩
abbrev main_v615 : Ref sig .tc := ⟨.hbm, 845, rfl⟩
abbrev main_v616 : Ref sig .tc := ⟨.hbm, 846, rfl⟩
abbrev main_v617 : Ref sig .tc := ⟨.hbm, 847, rfl⟩
abbrev main_v618 : Ref sig .tc := ⟨.hbm, 848, rfl⟩
abbrev main_c_227 : Ref sig .tc := ⟨.hbm, 849, rfl⟩
abbrev main_v619 : Ref sig .tc := ⟨.hbm, 850, rfl⟩
abbrev main_v620 : Ref sig .tc := ⟨.hbm, 851, rfl⟩
abbrev main_v621 : Ref sig .tc := ⟨.hbm, 852, rfl⟩
abbrev main_c_228 : Ref sig .tc := ⟨.hbm, 853, rfl⟩
abbrev main_v622 : Ref sig .tc := ⟨.hbm, 854, rfl⟩
abbrev main_v623 : Ref sig .tc := ⟨.hbm, 855, rfl⟩
abbrev main_v624 : Ref sig .tc := ⟨.hbm, 856, rfl⟩
abbrev main_v625 : Ref sig .tc := ⟨.hbm, 857, rfl⟩
abbrev main_v626 : Ref sig .tc := ⟨.hbm, 858, rfl⟩
abbrev main_v627 : Ref sig .tc := ⟨.hbm, 859, rfl⟩
abbrev main_v628 : Ref sig .tc := ⟨.hbm, 860, rfl⟩
abbrev main_v629 : Ref sig .tc := ⟨.hbm, 861, rfl⟩
abbrev main_v630 : Ref sig .tc := ⟨.hbm, 862, rfl⟩
abbrev main_v631 : Ref sig .tc := ⟨.hbm, 863, rfl⟩
abbrev main_v632 : Ref sig .tc := ⟨.hbm, 864, rfl⟩
abbrev main_v633 : Ref sig .tc := ⟨.hbm, 865, rfl⟩
abbrev main_v634 : Ref sig .tc := ⟨.hbm, 866, rfl⟩
abbrev main_v635 : Ref sig .tc := ⟨.hbm, 867, rfl⟩
abbrev main_v636 : Ref sig .tc := ⟨.hbm, 868, rfl⟩
abbrev main_v637 : Ref sig .tc := ⟨.hbm, 869, rfl⟩
abbrev main_cst : Ref sig .tc := ⟨.hbm, 870, rfl⟩
abbrev main_v638 : Ref sig .tc := ⟨.hbm, 871, rfl⟩
abbrev main_v639 : Ref sig .tc := ⟨.hbm, 872, rfl⟩
abbrev main_cst_229 : Ref sig .tc := ⟨.hbm, 873, rfl⟩
abbrev main_v640 : Ref sig .tc := ⟨.hbm, 874, rfl⟩
abbrev main_v641 : Ref sig .tc := ⟨.hbm, 875, rfl⟩
abbrev main_v642 : Ref sig .tc := ⟨.hbm, 876, rfl⟩
abbrev main_v643 : Ref sig .tc := ⟨.hbm, 877, rfl⟩
abbrev main_v644 : Ref sig .tc := ⟨.hbm, 878, rfl⟩
abbrev main_c_230 : Ref sig .tc := ⟨.hbm, 879, rfl⟩
abbrev main_v645 : Ref sig .tc := ⟨.hbm, 880, rfl⟩
abbrev main_v646 : Ref sig .tc := ⟨.hbm, 881, rfl⟩
abbrev main_cst_231 : Ref sig .tc := ⟨.hbm, 882, rfl⟩
abbrev main_v647 : Ref sig .tc := ⟨.hbm, 883, rfl⟩
abbrev main_v648 : Ref sig .tc := ⟨.hbm, 884, rfl⟩
abbrev main_c_232 : Ref sig .tc := ⟨.hbm, 885, rfl⟩
abbrev main_v649 : Ref sig .tc := ⟨.hbm, 886, rfl⟩
abbrev main_v650 : Ref sig .tc := ⟨.hbm, 887, rfl⟩
abbrev main_c_233 : Ref sig .tc := ⟨.hbm, 888, rfl⟩
abbrev main_call0_v0 : Ref sig .tc := ⟨.hbm, 889, rfl⟩
abbrev main_call0_v1 : Ref sig .tc := ⟨.hbm, 890, rfl⟩
abbrev main_v651 : Ref sig .tc := ⟨.hbm, 891, rfl⟩
abbrev main_c_234 : Ref sig .tc := ⟨.hbm, 892, rfl⟩
abbrev main_v652 : Ref sig .tc := ⟨.hbm, 893, rfl⟩
abbrev main_v653 : Ref sig .tc := ⟨.hbm, 894, rfl⟩
abbrev main_v654 : Ref sig .tc := ⟨.hbm, 895, rfl⟩
abbrev main_v655 : Ref sig .tc := ⟨.hbm, 896, rfl⟩
abbrev main_cst_235 : Ref sig .tc := ⟨.hbm, 897, rfl⟩
abbrev main_v656 : Ref sig .tc := ⟨.hbm, 898, rfl⟩
abbrev main_v657 : Ref sig .tc := ⟨.hbm, 899, rfl⟩
abbrev main_v658 : Ref sig .tc := ⟨.hbm, 900, rfl⟩
abbrev main_v659 : Ref sig .tc := ⟨.hbm, 901, rfl⟩
abbrev main_cst_236 : Ref sig .tc := ⟨.hbm, 902, rfl⟩
abbrev main_v660 : Ref sig .tc := ⟨.hbm, 903, rfl⟩
abbrev main_v661 : Ref sig .tc := ⟨.hbm, 904, rfl⟩
abbrev main_v662 : Ref sig .tc := ⟨.hbm, 905, rfl⟩
abbrev main_v663 : Ref sig .tc := ⟨.hbm, 906, rfl⟩
abbrev main_v664 : Ref sig .tc := ⟨.hbm, 907, rfl⟩
abbrev main_cst_237 : Ref sig .tc := ⟨.hbm, 908, rfl⟩
abbrev main_v665 : Ref sig .tc := ⟨.hbm, 909, rfl⟩
abbrev main_v666 : Ref sig .tc := ⟨.hbm, 910, rfl⟩
abbrev main_v667 : Ref sig .tc := ⟨.hbm, 911, rfl⟩
abbrev main_cst_238 : Ref sig .tc := ⟨.hbm, 912, rfl⟩
abbrev main_v668 : Ref sig .tc := ⟨.hbm, 913, rfl⟩
abbrev main_v669 : Ref sig .tc := ⟨.hbm, 914, rfl⟩
abbrev main_v670 : Ref sig .tc := ⟨.hbm, 915, rfl⟩
abbrev main_cst_239 : Ref sig .tc := ⟨.hbm, 916, rfl⟩
abbrev main_v671 : Ref sig .tc := ⟨.hbm, 917, rfl⟩
abbrev main_v672 : Ref sig .tc := ⟨.hbm, 918, rfl⟩
abbrev main_cst_240 : Ref sig .tc := ⟨.hbm, 919, rfl⟩
abbrev main_v673 : Ref sig .tc := ⟨.hbm, 920, rfl⟩
abbrev main_v674 : Ref sig .tc := ⟨.hbm, 921, rfl⟩
abbrev main_cst_241 : Ref sig .tc := ⟨.hbm, 922, rfl⟩
abbrev main_v675 : Ref sig .tc := ⟨.hbm, 923, rfl⟩
abbrev main_v676 : Ref sig .tc := ⟨.hbm, 924, rfl⟩
abbrev main_cst_242 : Ref sig .tc := ⟨.hbm, 925, rfl⟩
abbrev main_call1_v0 : Ref sig .tc := ⟨.hbm, 926, rfl⟩
abbrev main_call1_v1 : Ref sig .tc := ⟨.hbm, 927, rfl⟩
abbrev main_v677 : Ref sig .tc := ⟨.hbm, 928, rfl⟩
abbrev main_v678 : Ref sig .tc := ⟨.hbm, 929, rfl⟩
abbrev main_cst_243 : Ref sig .tc := ⟨.hbm, 930, rfl⟩
abbrev main_v679 : Ref sig .tc := ⟨.hbm, 931, rfl⟩
abbrev main_v680 : Ref sig .tc := ⟨.hbm, 932, rfl⟩
abbrev main_v681 : Ref sig .tc := ⟨.hbm, 933, rfl⟩
abbrev main_cst_244 : Ref sig .tc := ⟨.hbm, 934, rfl⟩
abbrev main_v682 : Ref sig .tc := ⟨.hbm, 935, rfl⟩
abbrev main_v683 : Ref sig .tc := ⟨.hbm, 936, rfl⟩
abbrev main_v684 : Ref sig .tc := ⟨.hbm, 937, rfl⟩
abbrev main_cst_245 : Ref sig .tc := ⟨.hbm, 938, rfl⟩
abbrev main_v685 : Ref sig .tc := ⟨.hbm, 939, rfl⟩
abbrev main_v686 : Ref sig .tc := ⟨.hbm, 940, rfl⟩
abbrev main_cst_246 : Ref sig .tc := ⟨.hbm, 941, rfl⟩
abbrev main_v687 : Ref sig .tc := ⟨.hbm, 942, rfl⟩
abbrev main_v688 : Ref sig .tc := ⟨.hbm, 943, rfl⟩
abbrev main_v689 : Ref sig .tc := ⟨.hbm, 944, rfl⟩
abbrev main_v690 : Ref sig .tc := ⟨.hbm, 945, rfl⟩
abbrev main_c_247 : Ref sig .tc := ⟨.hbm, 946, rfl⟩
abbrev main_v691 : Ref sig .tc := ⟨.hbm, 947, rfl⟩
abbrev main_v692 : Ref sig .tc := ⟨.hbm, 948, rfl⟩
abbrev main_v693 : Ref sig .tc := ⟨.hbm, 949, rfl⟩
abbrev main_cst_248 : Ref sig .tc := ⟨.hbm, 950, rfl⟩
abbrev main_v694 : Ref sig .tc := ⟨.hbm, 951, rfl⟩
abbrev main_v695 : Ref sig .tc := ⟨.hbm, 952, rfl⟩
abbrev main_v696 : Ref sig .tc := ⟨.hbm, 953, rfl⟩
abbrev main_v697 : Ref sig .tc := ⟨.hbm, 954, rfl⟩
abbrev main_v698 : Ref sig .tc := ⟨.hbm, 955, rfl⟩
abbrev main_v699 : Ref sig .tc := ⟨.hbm, 956, rfl⟩
abbrev main_cst_249 : Ref sig .tc := ⟨.hbm, 957, rfl⟩
abbrev main_v700 : Ref sig .tc := ⟨.hbm, 958, rfl⟩
abbrev main_v701 : Ref sig .tc := ⟨.hbm, 959, rfl⟩
abbrev main_c_250 : Ref sig .tc := ⟨.hbm, 960, rfl⟩
abbrev main_v702 : Ref sig .tc := ⟨.hbm, 961, rfl⟩
abbrev main_v703 : Ref sig .tc := ⟨.hbm, 962, rfl⟩
abbrev main_v704 : Ref sig .tc := ⟨.hbm, 963, rfl⟩
abbrev main_v705 : Ref sig .tc := ⟨.hbm, 964, rfl⟩
abbrev main_v706 : Ref sig .tc := ⟨.hbm, 965, rfl⟩
abbrev main_c_251 : Ref sig .tc := ⟨.hbm, 966, rfl⟩
abbrev main_v707 : Ref sig .tc := ⟨.hbm, 967, rfl⟩
abbrev main_v708 : Ref sig .tc := ⟨.hbm, 968, rfl⟩
abbrev main_v709 : Ref sig .tc := ⟨.hbm, 969, rfl⟩
abbrev main_v710 : Ref sig .tc := ⟨.hbm, 970, rfl⟩
abbrev main_v711 : Ref sig .tc := ⟨.hbm, 971, rfl⟩
abbrev main_v712 : Ref sig .tc := ⟨.hbm, 972, rfl⟩
abbrev main_cst_252 : Ref sig .tc := ⟨.hbm, 973, rfl⟩
abbrev main_v713 : Ref sig .tc := ⟨.hbm, 974, rfl⟩
abbrev main_v714 : Ref sig .tc := ⟨.hbm, 975, rfl⟩
abbrev main_v715 : Ref sig .tc := ⟨.hbm, 976, rfl⟩
abbrev main_v716 : Ref sig .tc := ⟨.hbm, 977, rfl⟩
abbrev main_cst_253 : Ref sig .tc := ⟨.hbm, 978, rfl⟩
abbrev main_v717 : Ref sig .tc := ⟨.hbm, 979, rfl⟩
abbrev main_v718 : Ref sig .tc := ⟨.hbm, 980, rfl⟩

abbrev nD : Nat := 1
abbrev τ : Topo := Topo.v7x

variable {F : FTy → Type} [FloatOps F]
-- ==== Proof.K.Trip2.lean ====
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v45 : IVec S8x128 32) (k0_t1 : Fin k0_t1_loop.trips) (arg11 : BitVec 32) (v243 : FVec F S8x128 .f32) (v255 : IVec S8x128 32) (c8_i32_97 : BitVec 32)

/-- One trip of the inner loop, on the scratch `y` and the scratch of bytes. -/
abbrev Trip_k0_t2 (k : Fin k0_t2_loop.trips) (f8 : Buf (Elt F) (arg8.view.loc (c : Thread nD τ))) (L : List (View.Piece (Elt F) S128x128 .i32)) : Prop :=
  ∀ f9 : Buf (Elt F) (arg9.view.loc (c : Thread nD τ)),
  (iprop((arg8.view.loc (c : Thread nD τ) ↦[arg8.view.set]{fullShare} f8) ∗ (arg9.view.loc (c : Thread nD τ) ↦[arg9.view.set]{fullShare} f9)) : sProp 𝕄)
   ⊢ wp frame (wpE (defs₀ (F := F)) Variants.none c none) Set.univ (k0_t2_body (F := F) i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 k ())
     (fun _ => iprop((arg8.view.loc (c : Thread nD τ) ↦[arg8.view.set]{fullShare} f8) ∗ (arg9.view.loc (c : Thread nD τ) ↦[arg9.view.set]{fullShare} (arg9.view.writes (Elt F) f9 L))))

/-- The pieces that one trip writes, found by the run. -/
@[irreducible] def trip_k0_t2 (k : Fin k0_t2_loop.trips) (f8 : Buf (Elt F) (arg8.view.loc (c : Thread nD τ))) :
    { L : List (View.Piece (Elt F) S128x128 .i32) // Trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 k f8 L } := by
  refine ⟨?_, ?run⟩
  case run =>
    intro f9
    unfold k0_t2_body
    iintro ⟨H8, H9⟩
    sl_exec
    sl_step
    sl_close

/-- The scratch of bytes after the first trips of the inner loop. -/
def st_k0_t2 (f8 : Buf (Elt F) (arg8.view.loc (c : Thread nD τ))) (f9 : Buf (Elt F) (arg9.view.loc (c : Thread nD τ))) : ℕ → Buf (Elt F) (arg9.view.loc (c : Thread nD τ))
  | 0 => f9
  | k + 1 => if h : k < k0_t2_loop.trips then arg9.view.writes (Elt F) (st_k0_t2 f8 f9 k) (trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 ⟨k, h⟩ f8).1 else st_k0_t2 f8 f9 k

/-- The inner loop's invariant: the scratch of bytes holds what the trips so far wrote. -/
@[sl_loop] def loopInv_k0_t2 (f8 : Buf (Elt F) (arg8.view.loc (c : Thread nD τ))) (f9 : Buf (Elt F) (arg9.view.loc (c : Thread nD τ))) :
    Gen.LoopInvTy_k0_t2 (F := F) Unit ℕ (UR sig nD τ) ℕ Variants.none c none Set.univ i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 where
  inv k _ := iprop((arg8.view.loc (c : Thread nD τ) ↦[arg8.view.set]{fullShare} f8) ∗ (arg9.view.loc (c : Thread nD τ) ↦[arg9.view.set]{fullShare} (st_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 f8 f9 k)))
  step k acc := by
    have e : st_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 f8 f9 (k.val + 1) = arg9.view.writes (Elt F) (st_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 f8 f9 k.val) (trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 k f8).1 := dif_pos k.isLt
    rw [e]
    exact (trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 k f8).2 _
end

end Cert.Proof.KernelIdeal

end
-- ==== Proof.K.Trip3.lean ====
module

public import proofs.«01_k».proof.Proof.Gen.KernelIdeal.Loops
public import proofs.«01_k».proof.Proof.Gen.KernelIdeal.Frame
public import Idealize.ShloMosaic.Lib.Exec
public import Idealize.ShloMosaic.Lib.Tactic

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v433 : FVec F S8x128 .f32) (v448 : IVec S8x128 32) (v449 : BitVec 32)

/-- One trip of the inner loop, on the scratch `y` and the scratch of bytes. -/
abbrev Trip_k0_t3 (k : Fin k0_t3_loop.trips) (f8 : Buf (Elt F) (arg8.view.loc (c : Thread nD τ))) (L : List (View.Piece (Elt F) S128x128 .i32)) : Prop :=
  ∀ f9 : Buf (Elt F) (arg9.view.loc (c : Thread nD τ)),
  (iprop((arg8.view.loc (c : Thread nD τ) ↦[arg8.view.set]{fullShare} f8) ∗ (arg9.view.loc (c : Thread nD τ) ↦[arg9.view.set]{fullShare} f9)) : sProp 𝕄)
   ⊢ wp frame (wpE (defs₀ (F := F)) Variants.none c none) Set.univ (k0_t3_body (F := F) i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 k ())
     (fun _ => iprop((arg8.view.loc (c : Thread nD τ) ↦[arg8.view.set]{fullShare} f8) ∗ (arg9.view.loc (c : Thread nD τ) ↦[arg9.view.set]{fullShare} (arg9.view.writes (Elt F) f9 L))))

/-- The pieces that one trip writes, found by the run. -/
@[irreducible] def trip_k0_t3 (k : Fin k0_t3_loop.trips) (f8 : Buf (Elt F) (arg8.view.loc (c : Thread nD τ))) :
    { L : List (View.Piece (Elt F) S128x128 .i32) // Trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 k f8 L } := by
  refine ⟨?_, ?run⟩
  case run =>
    intro f9
    unfold k0_t3_body
    iintro ⟨H8, H9⟩
    sl_exec
    sl_step
    sl_close

/-- The scratch of bytes after the first trips of the inner loop. -/
def st_k0_t3 (f8 : Buf (Elt F) (arg8.view.loc (c : Thread nD τ))) (f9 : Buf (Elt F) (arg9.view.loc (c : Thread nD τ))) : ℕ → Buf (Elt F) (arg9.view.loc (c : Thread nD τ))
  | 0 => f9
  | k + 1 => if h : k < k0_t3_loop.trips then arg9.view.writes (Elt F) (st_k0_t3 f8 f9 k) (trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 ⟨k, h⟩ f8).1 else st_k0_t3 f8 f9 k

/-- The inner loop's invariant: the scratch of bytes holds what the trips so far wrote. -/
@[sl_loop] def loopInv_k0_t3 (f8 : Buf (Elt F) (arg8.view.loc (c : Thread nD τ))) (f9 : Buf (Elt F) (arg9.view.loc (c : Thread nD τ))) :
    Gen.LoopInvTy_k0_t3 (F := F) Unit ℕ (UR sig nD τ) ℕ Variants.none c none Set.univ i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 where
  inv k _ := iprop((arg8.view.loc (c : Thread nD τ) ↦[arg8.view.set]{fullShare} f8) ∗ (arg9.view.loc (c : Thread nD τ) ↦[arg9.view.set]{fullShare} (st_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 f8 f9 k)))
  step k acc := by
    have e : st_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 f8 f9 (k.val + 1) = arg9.view.writes (Elt F) (st_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 f8 f9 k.val) (trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 k f8).1 := dif_pos k.isLt
    rw [e]
    exact (trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 k f8).2 _
end

end Cert.Proof.KernelIdeal

end
-- ==== Proof.K.Trip1.lean ====
module

public import proofs.«01_k».proof.Proof.Gen.KernelIdeal.Loops
public import proofs.«01_k».proof.Proof.Gen.KernelIdeal.Frame
public import proofs.«01_k».proof.Proof.K.Trip2
public import proofs.«01_k».proof.Proof.K.Trip3
public import Idealize.ShloMosaic.Lib.Exec
public import Idealize.ShloMosaic.Lib.Tactic

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v44 : IVec S8x128 32) (v45 : IVec S8x128 32)

/-- What the outer loop carries and the buffers it writes. -/
@[ext] structure St where
  acc : FVec F S8x128 .f32
  f4 : Buf (Elt F) (arg4.view.loc (c : Thread nD τ))
  f6 : Buf (Elt F) (arg6.view.loc (c : Thread nD τ))
  f8 : Buf (Elt F) (arg8.view.loc (c : Thread nD τ))
  f9 : Buf (Elt F) (arg9.view.loc (c : Thread nD τ))
  f10 : Buf (Elt F) (arg10.view.loc (c : Thread nD τ))

variable (f2 : Buf (Elt F) (arg2.view.loc (c : Thread nD τ))) (f3 : Buf (Elt F) (arg3.view.loc (c : Thread nD τ)))

/-- The buffers of the outer loop, at given contents. -/
abbrev res (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) : sProp 𝕄 :=
  iprop((arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg6.view.loc (c : Thread nD τ) ↦[arg6.view.set]{fullShare} f6) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- One trip of the outer loop takes the state `s` to the parts of a state named here. -/
abbrev Trip_k0_t1 (k : Fin k0_t1_loop.trips) (s : St (F := F) c arg4 arg6 arg8 arg9 arg10) (acc : FVec F S8x128 .f32) (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) : Prop :=
  res c arg2 arg3 arg4 arg6 arg8 arg9 arg10 f2 f3 s.f4 s.f6 s.f8 s.f9 s.f10
   ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k s.acc)
     (fun r => iprop(⌜r = acc⌝ ∗ res c arg2 arg3 arg4 arg6 arg8 arg9 arg10 f2 f3 f4 f6 f8 f9 f10))

/-- The state after one trip of the outer loop, found by the run. -/
@[irreducible] def trip_k0_t1 (k : Fin k0_t1_loop.trips) (s : St (F := F) c arg4 arg6 arg8 arg9 arg10) :
    { r : St (F := F) c arg4 arg6 arg8 arg9 arg10 // Trip_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k s r.acc r.f4 r.f6 r.f8 r.f9 r.f10 } := by
  obtain ⟨acc, f4, f6, f8, f9, f10⟩ := s
  refine ⟨⟨?_, ?_, ?_, ?_, ?_, ?_⟩, ?run⟩
  case run =>
    show res c arg2 arg3 arg4 arg6 arg8 arg9 arg10 f2 f3 f4 f6 f8 f9 f10 ⊢ wp frame (wpE (defs₀ (F := F)) Variants.none c none) Set.univ (k0_t1_body (F := F) i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k acc) (fun r => iprop(⌜r = _⌝ ∗ res c arg2 arg3 arg4 arg6 arg8 arg9 arg10 f2 f3 _ _ _ _ _))
    unfold k0_t1_body
    iintro ⟨H2, H3, H4, H6, H8, H9, H10⟩
    sl_exec
    sl_step
    sl_close

/-- The state after the first trips of the outer loop. -/
def st_k0_t1 (s : St (F := F) c arg4 arg6 arg8 arg9 arg10) : ℕ → St (F := F) c arg4 arg6 arg8 arg9 arg10
  | 0 => s
  | k + 1 => if h : k < k0_t1_loop.trips then (trip_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨k, h⟩ (st_k0_t1 s k)).1 else st_k0_t1 s k

/-- The part `acc` of the state after the first trips. -/
def st_acc (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) : ℕ → FVec F S8x128 .f32
  | 0 => init
  | k + 1 => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k + 1)).acc

/-- The named part is that part of the state: the largest magnitudes carried through the loop. -/
theorem st_acc_eq (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) (k : ℕ) : st_acc c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k = (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k).acc := by
  cases k <;> rfl

/-- The part `f4` of the state after the first trips. -/
def st_f4 (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) : ℕ → Buf (Elt F) (arg4.view.loc (c : Thread nD τ))
  | 0 => f4
  | k + 1 => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k + 1)).f4

/-- The named part is that part of the state: the codes. -/
theorem st_f4_eq (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) (k : ℕ) : st_f4 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k = (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k).f4 := by
  cases k <;> rfl

/-- The part `f6` of the state after the first trips. -/
def st_f6 (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) : ℕ → Buf (Elt F) (arg6.view.loc (c : Thread nD τ))
  | 0 => f6
  | k + 1 => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k + 1)).f6

/-- The named part is that part of the state: the sums. -/
theorem st_f6_eq (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) (k : ℕ) : st_f6 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k = (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k).f6 := by
  cases k <;> rfl

/-- The part `f8` of the state after the first trips. -/
def st_f8 (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) : ℕ → Buf (Elt F) (arg8.view.loc (c : Thread nD τ))
  | 0 => f8
  | k + 1 => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k + 1)).f8

/-- The named part is that part of the state: the regrouped tile. -/
theorem st_f8_eq (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) (k : ℕ) : st_f8 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k = (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k).f8 := by
  cases k <;> rfl

/-- The part `f9` of the state after the first trips. -/
def st_f9 (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) : ℕ → Buf (Elt F) (arg9.view.loc (c : Thread nD τ))
  | 0 => f9
  | k + 1 => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k + 1)).f9

/-- The named part is that part of the state: the bytes before they are turned. -/
theorem st_f9_eq (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) (k : ℕ) : st_f9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k = (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k).f9 := by
  cases k <;> rfl

/-- The part `f10` of the state after the first trips. -/
def st_f10 (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) : ℕ → Buf (Elt F) (arg10.view.loc (c : Thread nD τ))
  | 0 => f10
  | k + 1 => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k + 1)).f10

/-- The named part is that part of the state: the scales. -/
theorem st_f10_eq (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) (k : ℕ) : st_f10 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k = (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k).f10 := by
  cases k <;> rfl

/-- The outer loop's invariant: the carried value and the buffers are the state after the trips so far. -/
@[sl_loop] def loopInv_k0_t1 (f4 : Buf (Elt F) (arg4.view.loc (c : Thread nD τ))) (f6 : Buf (Elt F) (arg6.view.loc (c : Thread nD τ))) (f8 : Buf (Elt F) (arg8.view.loc (c : Thread nD τ))) (f9 : Buf (Elt F) (arg9.view.loc (c : Thread nD τ))) (f10 : Buf (Elt F) (arg10.view.loc (c : Thread nD τ))) (init : FVec F S8x128 .f32) :
    Gen.LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 init where
  inv k acc := iprop(⌜acc = (st_acc c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k)⌝ ∗
    (arg2.view.loc (c : Thread nD τ) ↦[arg2.view.set]{fullShare} f2) ∗ (arg3.view.loc (c : Thread nD τ) ↦[arg3.view.set]{fullShare} f3) ∗
    (arg4.view.loc (c : Thread nD τ) ↦[arg4.view.set]{fullShare} (st_f4 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k)) ∗
    (arg6.view.loc (c : Thread nD τ) ↦[arg6.view.set]{fullShare} (st_f6 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k)) ∗
    (arg8.view.loc (c : Thread nD τ) ↦[arg8.view.set]{fullShare} (st_f8 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k)) ∗
    (arg9.view.loc (c : Thread nD τ) ↦[arg9.view.set]{fullShare} (st_f9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k)) ∗
    (arg10.view.loc (c : Thread nD τ) ↦[arg10.view.set]{fullShare} (st_f10 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 f4 f6 f8 f9 f10 init k)))
  step k acc := by
    have e : st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ (k.val + 1) = (trip_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k.val)).1 := dif_pos k.isLt
    simp only [st_acc_eq, st_f4_eq, st_f6_eq, st_f8_eq, st_f9_eq, st_f10_eq]
    rw [e]
    iintro ⟨%ha, H⟩
    subst ha
    iapply (trip_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 ⟨init, f4, f6, f8, f9, f10⟩ k.val)).2
    iexact H
end

end Cert.Proof.KernelIdeal

end
-- ==== Proof.K.Body.lean ====
module

public import proofs.«01_k».proof.Proof.Gen.KernelIdeal.Loops
public import proofs.«01_k».proof.Proof.Gen.KernelIdeal.Frame
public import proofs.«01_k».proof.Proof.K.Trip1
public import proofs.«01_k».proof.Proof.K.Trip2
public import proofs.«01_k».proof.Proof.K.Trip3
public import Idealize.ShloMosaic.Lib.Exec
public import Idealize.ShloMosaic.Lib.Tactic

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole)

/-- Step 0 of the grid, as the kernel tests it. -/
abbrev cond0 (i : grid0.Coords) : Prop := Scalar.cmpi .ne (Scalar.extui (Scalar.cmpi .eq (BitVec.ofNat 32 (i 0).val) 0#32) : BitVec 32) 0#32 = 1#1

/-- The buffers of the body that it writes. -/
@[ext] structure Bt where
  f4 : Buf (Elt F) (arg4.view.loc (c : Thread nD τ))
  f5 : Buf (Elt F) (arg5.view.loc (c : Thread nD τ))
  f6 : Buf (Elt F) (arg6.view.loc (c : Thread nD τ))
  f7 : Buf (Elt F) (arg7.view.loc (c : Thread nD τ))
  f8 : Buf (Elt F) (arg8.view.loc (c : Thread nD τ))
  f9 : Buf (Elt F) (arg9.view.loc (c : Thread nD τ))
  f10 : Buf (Elt F) (arg10.view.loc (c : Thread nD τ))

variable (f1 : Buf (Elt F) (arg1.view.loc (c : Thread nD τ))) (f2 : Buf (Elt F) (arg2.view.loc (c : Thread nD τ))) (f3 : Buf (Elt F) (arg3.view.loc (c : Thread nD τ)))

/-- The buffers of the body, at given contents. -/
abbrev resB (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) : sProp 𝕄 :=
  iprop((arg1.view.loc (c : Thread nD τ) ↦[arg1.view.set]{fullShare} f1) ∗ (arg2.view.loc (c : Thread nD τ) ↦[arg2.view.set]{fullShare} f2) ∗ (arg3.view.loc (c : Thread nD τ) ↦[arg3.view.set]{fullShare} f3) ∗ (arg4.view.loc (c : Thread nD τ) ↦[arg4.view.set]{fullShare} f4) ∗ (arg5.view.loc (c : Thread nD τ) ↦[arg5.view.set]{fullShare} f5) ∗ (arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10))

/-- One run of the body takes the contents `s` to the contents named here. -/
abbrev Run_k0 (s : Bt (F := F) c arg4 arg5 arg6 arg7 arg8 arg9 arg10) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ))) (f8 : Buf (Elt F) (arg8.view.loc (c : Thread nD τ))) (f9 : Buf (Elt F) (arg9.view.loc (c : Thread nD τ))) (f10 : Buf (Elt F) (arg10.view.loc (c : Thread nD τ))) : Prop :=
  resB c arg1 arg2 arg3 arg4 arg5 arg6 arg7 arg8 arg9 arg10 f1 f2 f3 s.f4 s.f5 s.f6 s.f7 s.f8 s.f9 s.f10
   ⊢ wp frame (wpE (defs₀ (F := F)) Variants.none c none) Set.univ (cc0_mxfp4_quant (F := F) i arg1 harg1 arg2 harg2 arg3 harg3 arg4 harg4 arg5 harg5 arg6 harg6 arg7 harg7 arg8 harg8 arg9 harg9 arg10 harg10)
     (fun _ => resB c arg1 arg2 arg3 arg4 arg5 arg6 arg7 arg8 arg9 arg10 f1 f2 f3 f4 f5 f6 f7 f8 f9 f10)

/-- The contents after the body at the first step, found by the run. -/
@[irreducible] def run_first (hC : cond0 i) (s : Bt (F := F) c arg4 arg5 arg6 arg7 arg8 arg9 arg10) :
    { r : Bt (F := F) c arg4 arg5 arg6 arg7 arg8 arg9 arg10 // Run_k0 c i arg1 harg1 arg2 harg2 arg3 harg3 arg4 harg4 arg5 harg5 arg6 harg6 arg7 harg7 arg8 harg8 arg9 harg9 arg10 harg10 f1 f2 f3 s r.f4 r.f5 r.f6 r.f7 r.f8 r.f9 r.f10 } := by
  obtain ⟨f4, f5, f6, f7, f8, f9, f10⟩ := s
  refine ⟨⟨?_, ?_, ?_, ?_, ?_, ?_, ?_⟩, ?run⟩
  case run =>
    show resB c arg1 arg2 arg3 arg4 arg5 arg6 arg7 arg8 arg9 arg10 f1 f2 f3 f4 f5 f6 f7 f8 f9 f10 ⊢ wp frame (wpE (defs₀ (F := F)) Variants.none c none) Set.univ (cc0_mxfp4_quant (F := F) i arg1 harg1 arg2 harg2 arg3 harg3 arg4 harg4 arg5 harg5 arg6 harg6 arg7 harg7 arg8 harg8 arg9 harg9 arg10 harg10) (fun _ => resB c arg1 arg2 arg3 arg4 arg5 arg6 arg7 arg8 arg9 arg10 f1 f2 f3 _ _ _ _ _ _ _)
    unfold cc0_mxfp4_quant
    iintro ⟨H1, H2, H3, H4, H5, H6, H7, H8, H9, H10⟩
    sl_exec
    sl_step
    sl_close

/-- The contents after the body at a later step, found by the run. -/
@[irreducible] def run_later (hC : ¬ cond0 i) (s : Bt (F := F) c arg4 arg5 arg6 arg7 arg8 arg9 arg10) :
    { r : Bt (F := F) c arg4 arg5 arg6 arg7 arg8 arg9 arg10 // Run_k0 c i arg1 harg1 arg2 harg2 arg3 harg3 arg4 harg4 arg5 harg5 arg6 harg6 arg7 harg7 arg8 harg8 arg9 harg9 arg10 harg10 f1 f2 f3 s r.f4 r.f5 r.f6 r.f7 r.f8 r.f9 r.f10 } := by
  obtain ⟨f4, f5, f6, f7, f8, f9, f10⟩ := s
  refine ⟨⟨?_, ?_, ?_, ?_, ?_, ?_, ?_⟩, ?run⟩
  case run =>
    show resB c arg1 arg2 arg3 arg4 arg5 arg6 arg7 arg8 arg9 arg10 f1 f2 f3 f4 f5 f6 f7 f8 f9 f10 ⊢ wp frame (wpE (defs₀ (F := F)) Variants.none c none) Set.univ (cc0_mxfp4_quant (F := F) i arg1 harg1 arg2 harg2 arg3 harg3 arg4 harg4 arg5 harg5 arg6 harg6 arg7 harg7 arg8 harg8 arg9 harg9 arg10 harg10) (fun _ => resB c arg1 arg2 arg3 arg4 arg5 arg6 arg7 arg8 arg9 arg10 f1 f2 f3 _ _ _ _ _ _ _)
    unfold cc0_mxfp4_quant
    iintro ⟨H1, H2, H3, H4, H5, H6, H7, H8, H9, H10⟩
    sl_exec
    sl_step
    sl_close
end

end Cert.Proof.KernelIdeal

end
-- ==== Proof.Spec.lean ====
module

public import Idealize.ShloMosaic.Lib.Tactic

@[expose] public section

noncomputable section

namespace Cert.Proof

open Idealize.ShloMosaic

/-- The low word of a 32 × 32 product, by the first Philox multiplier. -/
def loA (x : BitVec 32) : BitVec 32 := IntOp.muli x 3528531795#32

/-- The low word of a 32 × 32 product, by the second Philox multiplier. -/
def loB (x : BitVec 32) : BitVec 32 := IntOp.muli x 3449720151#32

/-- The high word of a product by the first multiplier, from 16-bit halves, as the kernel computes it. -/
def hiA (x : BitVec 32) : BitVec 32 :=
  IntOp.addi (IntOp.muli 53841#32 (IntOp.shrui .vector x 16#32))
    (IntOp.shrui .vector
      (IntOp.addi
        (IntOp.addi (IntOp.muli 53841#32 (IntOp.andi x 65535#32)) (IntOp.muli 8019#32 (IntOp.shrui .vector x 16#32)))
        (IntOp.shrui .vector (IntOp.muli 8019#32 (IntOp.andi x 65535#32)) 16#32))
      16#32)

/-- The high word of a product by the second multiplier, from the product by its complement, as the kernel
computes it. -/
def hiB (x : BitVec 32) : BitVec 32 :=
  IntOp.subi (IntOp.subi x (IntOp.muli 12897#32 (IntOp.shrui .vector x 16#32)))
    (IntOp.shrui .vector
      (IntOp.addi
        (IntOp.addi
          (IntOp.addi (IntOp.muli 12897#32 (IntOp.andi x 65535#32)) (IntOp.muli 29353#32 (IntOp.shrui .vector x 16#32)))
          (IntOp.shrui .vector (loB x) 16#32))
        65535#32)
      16#32)

/-- The four words of a Philox state. -/
structure Q where
  x0 : BitVec 32
  x1 : BitVec 32
  x2 : BitVec 32
  x3 : BitVec 32

/-- One round. -/
def rnd (k0 k1 : BitVec 32) (q : Q) : Q :=
  ⟨IntOp.xori (IntOp.xori (hiB q.x2) q.x1) k0, loB q.x2, IntOp.xori (IntOp.xori (hiA q.x0) q.x3) k1, loA q.x0⟩

/-- The words of the counter `(n, 0, 0, 0)` after the first three rounds, as the kernel computes them: what meets a
zero word is left out, and the part that is the same at every position is computed once. -/
def first3 (k0 k1 k2 l0 l1 l2 n : BitVec 32) : Q :=
  let a := IntOp.xori (hiA n) l0
  let x0 := IntOp.xori (hiB a) k1
  let x2 := IntOp.xori (loA n) (IntOp.xori (hiA k0) l1)
  ⟨IntOp.xori (IntOp.xori (hiB x2) (loB a)) k2, loB x2, IntOp.xori (hiA x0) (IntOp.xori (loA k0) l2), loA x0⟩

/-- The key words of the rounds. -/
structure Keys where
  a : Fin 10 → BitVec 32
  b : Fin 10 → BitVec 32

/-- The four words of the counter `(n, 0, 0, 0)`, as the kernel computes them. -/
def words (K : Keys) (n : BitVec 32) : Q :=
  rnd (K.a 9) (K.b 9) <| rnd (K.a 8) (K.b 8) <| rnd (K.a 7) (K.b 7) <| rnd (K.a 6) (K.b 6) <| rnd (K.a 5) (K.b 5) <|
  rnd (K.a 4) (K.b 4) <| rnd (K.a 3) (K.b 3) <| first3 (K.a 0) (K.a 1) (K.a 2) (K.b 0) (K.b 1) (K.b 2) n

variable {F : FTy → Type} [FloatOps F]

/-- The magnitude's place among the codes, of a value and the reciprocal of its scale. -/
def place (inv y : F .f32) : F .f32 :=
  let a := FloatOps.mulf (FloatOps.mulf (FloatOps.absf y) (Scalar.ofBits .f32 0x3F400000#32)) inv
  FloatOps.minimumf (FloatOps.minimumf (FloatOps.addf a a) (FloatOps.addf a (Scalar.ofBits .f32 0x40000000#32)))
    (FloatOps.addf (FloatOps.mulf a (Scalar.ofBits .f32 0x3F000000#32)) (Scalar.ofBits .f32 0x40800000#32))

/-- The 4-bit code of a value, rounded at random by the word `w`. -/
def nib (inv y : F .f32) (w : BitVec 32) : BitVec 32 :=
  let h := place inv y
  let m := FloatOps.fptosi 32 (FloatOps.roundeven (FloatOps.addf (FloatOps.floor h)
    (Scalar.select (FloatOps.cmpf .olt (FloatOps.sitofp .f32 (IntOp.shrui .vector w 8#32))
      (FloatOps.mulf (FloatOps.subf h (FloatOps.floor h)) (Scalar.ofBits .f32 0x4B800000#32)))
      (Scalar.ofBits .f32 0x3F800000#32 : F .f32) (Scalar.ofBits .f32 0x00000000#32))))
  Scalar.select (FloatOps.cmpf .olt y (Scalar.ofBits .f32 0x00000000#32)) (IntOp.addi m 8#32) m

/-- The byte of two neighbouring values. -/
def byte (inv y y' : F .f32) (w w' : BitVec 32) : BitVec 32 :=
  IntOp.addi (nib inv y w) (IntOp.muli (nib inv y' w') 16#32)

/-- A byte of two codes depends on its arguments alone. -/
theorem byte_congr {a a' y y' z z' : F .f32} {w w' x x' : BitVec 32} (ha : a = a') (hy : y = y') (hz : z = z') (hw : w = w')
    (hx : x = x') : byte a y z w x = byte a' y' z' w' x' := by
  subst ha hy hz hw hx
  rfl

/-- One step of the search for the exponent field: take the bit if the value reaches the power of two. -/
def bitStep (g : F .f32) (bit e : BitVec 32) : BitVec 32 :=
  Scalar.select (FloatOps.cmpf .oge g (FloatOps.ofBits .f32 (IntOp.shli .vector (IntOp.addi e bit) 23#32))) (IntOp.addi e bit) e

/-- The exponent field of a value that is not negative. -/
def expField (g : F .f32) : BitVec 32 :=
  bitStep g 1#32 <| bitStep g 2#32 <| bitStep g 4#32 <| bitStep g 8#32 <| bitStep g 16#32 <| bitStep g 32#32 <|
  bitStep g 64#32 <| bitStep g 128#32 0#32

/-- The scale byte of a group of largest magnitude `g`. -/
def scaleWord (g : F .f32) : BitVec 32 :=
  Scalar.select (FloatOps.cmpf .oeq g (Scalar.ofBits .f32 0x00000000#32)) 127#32 (IntOp.subi (expField g) 2#32)

/-- The reciprocal of the group's scale. -/
def invScale (g : F .f32) : F .f32 :=
  FloatOps.ofBits .f32 (IntOp.shli .vector (IntOp.subi 254#32 (scaleWord g)) 23#32)

/-- The largest magnitude of the first `n + 1` values, taken in order. -/
def runMax (y : ℕ → F .f32) : ℕ → F .f32
  | 0 => FloatOps.absf (y 0)
  | n + 1 => FloatOps.maximumf (runMax y n) (FloatOps.absf (y (n + 1)))

end Cert.Proof

end
-- ==== Proof.K.Val1.lean ====
module

public import proofs.«01_k».proof.Proof.K.Trip1
public import proofs.«01_k».proof.Proof.K.Trip2
public import proofs.«01_k».proof.Proof.K.Trip3
public import proofs.«01_k».proof.Proof.Spec
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v44 : IVec S8x128 32) (v45 : IVec S8x128 32)
variable (f2 : Buf (Elt F) (arg2.view.loc (c : Thread nD τ))) (f3 : Buf (Elt F) (arg3.view.loc (c : Thread nD τ)))

/-- Eight rows of one half of the columns lie inside the regrouped tile. -/
theorem inb8 (h : Fin 2) (m : ℕ) : ∀ a, (![8 * (m % 32), 128 * h.val] : Fin 2 → ℕ) a + S8x128.size a ≤ S256x256.size a :=
  Fin.forall_fin_two.mpr ⟨by show 8 * (m % 32) + 8 ≤ 256; omega, by show 128 * h.val + 128 ≤ 256; omega⟩

/-- The rows `8 m` to `8 m + 7` of the scratch of selected values, at one half of the lanes. -/
def ld8 (h : Fin 2) (m : ℕ) (F8 : Buf (Elt F) (arg8.view.loc (c : Thread nD τ))) : S8x128.Idx → F .f32 :=
  arg8.view.readAt (Elt F) (Rect.unit (s := S256x256) ![8 * (m % 32), 128 * h.val] S8x128.size (inb8 h m)).toLoadRect F8

/-- The largest magnitude of each group, from the scratch of selected values. -/
def gm (h : Fin 2) (F8 : Buf (Elt F) (arg8.view.loc (c : Thread nD τ))) (j : S8x128.Idx) : F .f32 :=
  runMax (fun m => ld8 c arg8 h m F8 j) 31

/-- The columns of the block one trip works on. -/
def xt (k : Fin k0_t1_loop.trips) : S256x256.Idx → F .bf16 :=
  arg2.view.readAt (Elt F) (Rect.unit (s := S256x5120) (k0_off1 k) S256x256.size (k0_off1_inb k)).toLoadRect f2

/-- The scratch of selected values, as one trip leaves it. -/
def w8 (k : Fin k0_t1_loop.trips) : Buf (Elt F) (arg8.view.loc (c : Thread nD τ)) :=
  arg8.view.writes (Elt F) arg8.view.junk [⟨Rect.unit ![0, 0] S256x256.size inb_S256x256_S256x256_0_0,
    k0_pay152 (xt c arg2 f2 k) (arg3.view.readAt (Elt F) (Rect.unit ![0, 0] S256x256.size inb_S256x256_S256x256_0_0).toLoadRect f3)⟩]

/-- The scratch of bytes, after the first inner loop of a trip. -/
def a9 (k : Fin k0_t1_loop.trips) (f9 : Buf (Elt F) (arg9.view.loc (c : Thread nD τ)))
    (F8 : Buf (Elt F) (arg8.view.loc (c : Thread nD τ))) (n : ℕ) :=
  st_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k (Scf.iv 0#32 1#32 k) (fun j => invScale (gm c arg8 0 F8 j)) (k0_pay163 arg0 v44) 8#32 F8 f9 n

/-- The scratch of bytes, after the second inner loop of a trip. -/
def b9 (k : Fin k0_t1_loop.trips) (f9 : Buf (Elt F) (arg9.view.loc (c : Thread nD τ)))
    (F8 : Buf (Elt F) (arg8.view.loc (c : Thread nD τ))) (n : ℕ) :=
  st_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 (fun j => invScale (gm c arg8 1 F8 j)) (k0_pay179 arg0 v44 v45) (Scalar.muli (Scf.iv 0#32 1#32 k) 64#32) F8 f9 n

/-- What one trip of the outer loop leaves. -/
theorem trip_k0_t1_val (k : Fin k0_t1_loop.trips) (acc f4 f6 f8 f9 f10) :
    (trip_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k ⟨acc, f4, f6, f8, f9, f10⟩).1 =
      ⟨fun j => FloatOps.maximumf (FloatOps.maximumf (acc j) (gm c arg8 0 (w8 c arg2 arg3 arg8 f2 f3 k) j)) (gm c arg8 1 (w8 c arg2 arg3 arg8 f2 f3 k) j),
        arg4.view.writes (Elt F) f4
          [⟨Rect.unit (k0_off10 k) S128x128.size (k0_off10_inb k), k0_pay187 (arg9.view.readAt (Elt F) (Rect.unit ![0, 0] S128x128.size inb_S128x128_S128x128_0_0).toLoadRect
              (b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 (w8 c arg2 arg3 arg8 f2 f3 k) 8) (w8 c arg2 arg3 arg8 f2 f3 k) 8))⟩,
            ⟨Rect.unit (k0_off6 k) S128x128.size (k0_off6_inb k), k0_pay167 (arg9.view.readAt (Elt F) (Rect.unit ![0, 0] S128x128.size inb_S128x128_S128x128_0_0).toLoadRect
              (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 (w8 c arg2 arg3 arg8 f2 f3 k) 8))⟩],
        arg6.view.writes (Elt F) f6 [⟨Rect.unit (k0_off2 k) S8x256.size (k0_off2_inb k),
          k0_pay151 k0_pay182 (xt c arg2 f2 k) (arg6.view.readAt (Elt F) (Rect.unit (s := S8x5120) (k0_off2 k) S8x256.size (k0_off2_inb k)).toLoadRect f6)⟩],
        w8 c arg2 arg3 arg8 f2 f3 k,
        b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 (w8 c arg2 arg3 arg8 f2 f3 k) 8) (w8 c arg2 arg3 arg8 f2 f3 k) 8,
        arg10.view.writes (Elt F) f10
          [⟨Rect.unit (k0_off7 k) S1x8x128.size (k0_off7_inb k), shapeCast S1x8x128 (fun j => scaleWord (gm c arg8 1 (w8 c arg2 arg3 arg8 f2 f3 k) j)) shapeCasts_S8x128_S1x8x128⟩,
            ⟨Rect.unit (k0_off3 k) S1x8x128.size (k0_off3_inb k), shapeCast S1x8x128 (fun j => scaleWord (gm c arg8 0 (w8 c arg2 arg3 arg8 f2 f3 k) j)) shapeCasts_S8x128_S1x8x128⟩]⟩ := by
  unfold trip_k0_t1
  refine St.ext ?_ ?_ ?_ ?_ ?_ ?_
  · rfl
  · rfl
  · rfl
  · rfl
  · rfl
  · rfl
end

end Cert.Proof.KernelIdeal

end
-- ==== Proof.K.Val.lean ====
module

public import proofs.«01_k».proof.Proof.K.Trip2
public import proofs.«01_k».proof.Proof.K.Trip3
public import proofs.«01_k».proof.Proof.Spec
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v29 : BitVec 32) (v31 : BitVec 32) (v33 : BitVec 32) (v35 : BitVec 32) (v37 : BitVec 32) (v39 : BitVec 32) (v45 : IVec S8x128 32) (k0_t1 : Fin k0_t1_loop.trips) (arg11 : BitVec 32) (v243 : FVec F S8x128 .f32) (v255 : IVec S8x128 32) (c8_i32_97 : BitVec 32)

/-- What one trip of the inner loop writes: two lists of bytes, each of two neighbouring values. -/
theorem trip_k0_t2_val (k : Fin k0_t2_loop.trips) (f8 : Buf (Elt F) (arg8.view.loc (c : Thread nD τ))) :
    (trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k0_t1 arg11 v243 v255 c8_i32_97 k f8).1 =
      [⟨⟨⟨k0_off5 k 1#32, S8x128.size, ![16, 1], k0_off5_inb k 1⟩, spos_16_1⟩, fun j =>
          byte (v243 j) (arg8.view.readAt (Elt F) (Rect.unit (s := S256x256) (k0_off4 k 2#32) S8x128.size (k0_off4_inb k 2)).toLoadRect f8 j) (arg8.view.readAt (Elt F) (Rect.unit (s := S256x256) (k0_off4 k 3#32) S8x128.size (k0_off4_inb k 3)).toLoadRect f8 j)
            (words (⟨![v1, v3, v5, v7, v9, v11, v13, v15, v17, v19], ![v21, v23, v25, v27, v29, v31, v33, v35, v37, v39]⟩ : Keys) (IntOp.addi (IntOp.addi (IntOp.addi (v255 j) (IntOp.muli (v45 j) c8_i32_97)) (Scalar.muli arg11 64#32)) (Scf.iv 0#32 1#32 k))).x2 (words (⟨![v1, v3, v5, v7, v9, v11, v13, v15, v17, v19], ![v21, v23, v25, v27, v29, v31, v33, v35, v37, v39]⟩ : Keys) (IntOp.addi (IntOp.addi (IntOp.addi (v255 j) (IntOp.muli (v45 j) c8_i32_97)) (Scalar.muli arg11 64#32)) (Scf.iv 0#32 1#32 k))).x3⟩,
        ⟨⟨⟨k0_off5 k 0#32, S8x128.size, ![16, 1], k0_off5_inb k 0⟩, spos_16_1⟩, fun j =>
          byte (v243 j) (arg8.view.readAt (Elt F) (Rect.unit (s := S256x256) (k0_off4 k 0#32) S8x128.size (k0_off4_inb k 0)).toLoadRect f8 j) (arg8.view.readAt (Elt F) (Rect.unit (s := S256x256) (k0_off4 k 1#32) S8x128.size (k0_off4_inb k 1)).toLoadRect f8 j)
            (words (⟨![v1, v3, v5, v7, v9, v11, v13, v15, v17, v19], ![v21, v23, v25, v27, v29, v31, v33, v35, v37, v39]⟩ : Keys) (IntOp.addi (IntOp.addi (IntOp.addi (v255 j) (IntOp.muli (v45 j) c8_i32_97)) (Scalar.muli arg11 64#32)) (Scf.iv 0#32 1#32 k))).x0 (words (⟨![v1, v3, v5, v7, v9, v11, v13, v15, v17, v19], ![v21, v23, v25, v27, v29, v31, v33, v35, v37, v39]⟩ : Keys) (IntOp.addi (IntOp.addi (IntOp.addi (v255 j) (IntOp.muli (v45 j) c8_i32_97)) (Scalar.muli arg11 64#32)) (Scf.iv 0#32 1#32 k))).x1⟩] := by
  unfold trip_k0_t2
  refine congrArg₂ List.cons (congrArg (Sigma.mk _) (funext fun j => ?_))
    (congrArg₂ List.cons (congrArg (Sigma.mk _) (funext fun j => ?_)) rfl)
  · simp only [k0_pay165, k0_pay166, k0_pay185, k0_pay186, shapeCast_self]
    rfl
  · simp only [k0_pay165, k0_pay166, k0_pay185, k0_pay186, shapeCast_self]
    rfl
end

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v433 : FVec F S8x128 .f32) (v448 : IVec S8x128 32) (v449 : BitVec 32)

/-- What one trip of the inner loop writes: two lists of bytes, each of two neighbouring values. -/
theorem trip_k0_t3_val (k : Fin k0_t3_loop.trips) (f8 : Buf (Elt F) (arg8.view.loc (c : Thread nD τ))) :
    (trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v433 v448 v449 k f8).1 =
      [⟨⟨⟨k0_off9 k 1#32, S8x128.size, ![16, 1], k0_off9_inb k 1⟩, spos_16_1⟩, fun j =>
          byte (v433 j) (arg8.view.readAt (Elt F) (Rect.unit (s := S256x256) (k0_off8 k 2#32) S8x128.size (k0_off8_inb k 2)).toLoadRect f8 j) (arg8.view.readAt (Elt F) (Rect.unit (s := S256x256) (k0_off8 k 3#32) S8x128.size (k0_off8_inb k 3)).toLoadRect f8 j)
            (words (⟨![v1, v3, v5, v7, v9, v11, v13, v15, v17, v19], ![v21, v23, v25, v27, v29, v31, v33, v35, v37, v39]⟩ : Keys) (IntOp.addi (IntOp.addi (v448 j) v449) (Scf.iv 0#32 1#32 k))).x2 (words (⟨![v1, v3, v5, v7, v9, v11, v13, v15, v17, v19], ![v21, v23, v25, v27, v29, v31, v33, v35, v37, v39]⟩ : Keys) (IntOp.addi (IntOp.addi (v448 j) v449) (Scf.iv 0#32 1#32 k))).x3⟩,
        ⟨⟨⟨k0_off9 k 0#32, S8x128.size, ![16, 1], k0_off9_inb k 0⟩, spos_16_1⟩, fun j =>
          byte (v433 j) (arg8.view.readAt (Elt F) (Rect.unit (s := S256x256) (k0_off8 k 0#32) S8x128.size (k0_off8_inb k 0)).toLoadRect f8 j) (arg8.view.readAt (Elt F) (Rect.unit (s := S256x256) (k0_off8 k 1#32) S8x128.size (k0_off8_inb k 1)).toLoadRect f8 j)
            (words (⟨![v1, v3, v5, v7, v9, v11, v13, v15, v17, v19], ![v21, v23, v25, v27, v29, v31, v33, v35, v37, v39]⟩ : Keys) (IntOp.addi (IntOp.addi (v448 j) v449) (Scf.iv 0#32 1#32 k))).x0 (words (⟨![v1, v3, v5, v7, v9, v11, v13, v15, v17, v19], ![v21, v23, v25, v27, v29, v31, v33, v35, v37, v39]⟩ : Keys) (IntOp.addi (IntOp.addi (v448 j) v449) (Scf.iv 0#32 1#32 k))).x1⟩] := by
  unfold trip_k0_t3
  refine congrArg₂ List.cons (congrArg (Sigma.mk _) (funext fun j => ?_))
    (congrArg₂ List.cons (congrArg (Sigma.mk _) (funext fun j => ?_)) rfl)
  · simp only [k0_pay165, k0_pay166, k0_pay185, k0_pay186, shapeCast_self]
    rfl
  · simp only [k0_pay165, k0_pay166, k0_pay185, k0_pay186, shapeCast_self]
    rfl
end

end Cert.Proof.KernelIdeal

end
-- ==== Proof.Struct.lean ====
module

public import Idealize.ShloMosaic.Lib.WritesUnit
public import Idealize.ShloMosaic.Lib.Pointwise.Index

@[expose] public section

namespace Cert.Proof

open Idealize.ShloMosaic Idealize.ShloMosaic.View

variable {sig : RefSig} {κ : Kind} {sp : Space} {s : Shape} {e : EltTy} {Val : EltTy → Type}
variable (v : View sig κ sp s e)

/-- The index that has position `x` in the newest piece's rectangle reads the piece's payload there. -/
theorem read_cons_hit (f : v.ty.Contents Val) (r : Rect s) (w : r.shape.Idx → Val e) (L : List (Piece Val s e)) (y : s.Idx)
    (x : r.shape.Idx) (h : ∀ a, (y a).val = r.off a + r.stride a * (x a).val) :
    v.read Val (v.writes Val f (⟨r, w⟩ :: L)) y = w x := by
  have hy : r.emb x = y := funext fun a => Fin.ext (by rw [Rect.emb_apply]; exact (h a).symm)
  rw [← hy]
  exact View.read_writes_cons_emb v f r w L x

/-- An index that has no position in the newest piece's rectangle reads what the other pieces left. -/
theorem read_cons_miss (f : v.ty.Contents Val) (r : Rect s) (w : r.shape.Idx → Val e) (L : List (Piece Val s e)) (y : s.Idx)
    (h : ∀ x : r.shape.Idx, ∃ a, (y a).val ≠ r.off a + r.stride a * (x a).val) :
    v.read Val (v.writes Val f (⟨r, w⟩ :: L)) y = v.read Val (v.writes Val f L) y := by
  have hy : y ∉ Finset.univ.map r.emb := by
    intro hm
    obtain ⟨x, -, hx⟩ := Finset.mem_map.mp hm
    obtain ⟨a, ha⟩ := h x
    exact ha (by rw [← hx, Rect.emb_apply])
  rw [View.writes_cons]
  exact View.read_slice_write_of_not_mem _ _ _ _ hy

/-- What a run of writes leaves at an index that the writes of step `k` reach and no later step's do. -/
theorem read_run (st : ℕ → v.ty.Contents Val) {T : ℕ} (L : Fin T → List (Piece Val s e))
    (hst : ∀ k : Fin T, st (k.val + 1) = v.writes Val (st k.val) (L k)) (k : Fin T) (y : s.Idx) (w : Val e)
    (hhit : ∀ f, v.read Val (v.writes Val f (L k)) y = w)
    (hmiss : ∀ k' : Fin T, k < k' → ∀ f, v.read Val (v.writes Val f (L k')) y = v.read Val f y) :
    ∀ n, k.val < n → n ≤ T → v.read Val (st n) y = w
  | 0, h, _ => absurd h (Nat.not_lt_zero _)
  | n + 1, h, hn => by
    rw [hst ⟨n, hn⟩]
    by_cases hk : k.val = n
    · have : k = ⟨n, hn⟩ := Fin.ext hk
      subst this
      exact hhit _
    · rw [hmiss ⟨n, hn⟩ (by show k.val < n; omega)]
      exact read_run st L hst k y w hhit hmiss n (by omega) (by omega)

/-- What a run of writes leaves at an index that no step's writes reach. -/
theorem read_run_untouched (st : ℕ → v.ty.Contents Val) {T : ℕ} (L : Fin T → List (Piece Val s e))
    (hst : ∀ k : Fin T, st (k.val + 1) = v.writes Val (st k.val) (L k)) (y : s.Idx) :
    ∀ n, n ≤ T → (∀ k' : Fin T, k'.val < n → ∀ f, v.read Val (v.writes Val f (L k')) y = v.read Val f y) →
      v.read Val (st n) y = v.read Val (st 0) y
  | 0, _, _ => rfl
  | n + 1, hn, hmiss => by
    rw [hst ⟨n, hn⟩, hmiss ⟨n, hn⟩ (Nat.lt_succ_self n)]
    exact read_run_untouched st L hst y n (by omega) fun k' h => hmiss k' (by omega)

end Cert.Proof

end
-- ==== Proof.K.Block.lean ====
module

public import proofs.«01_k».proof.Proof.Spec
public import proofs.«01_k».proof.Proof.Struct
public import proofs.«01_k».proof.Proof.Gen.KernelIdeal
public import proofs.«01_k».proof.Proof.Gen.KernelIdeal.Loops
public import Idealize.ShloMosaic.Lib.Pointwise.Index

@[expose] public section

noncomputable section

namespace Cert.Proof

open Idealize.ShloMosaic

/-- A two-dimensional array at a pair of numbers, each taken modulo its size. -/
def at2 {α : Type} {n0 n1 : ℕ} [NeZero n0] [NeZero n1] (x : (⟨2, ![n0, n1]⟩ : Shape).Idx → α) (a b : ℕ) : α :=
  x (ix2 (Fin.ofNat n0 a) (Fin.ofNat n1 b))

/-- The word of a Philox state at a place. -/
def Q.w (q : Q) : ℕ → BitVec 32
  | 0 => q.x0
  | 1 => q.x1
  | 2 => q.x2
  | _ => q.x3

namespace KernelIdeal

open Cert.KernelIdeal Cert.KernelIdeal.Gen

variable {F : FTy → Type} [FloatOps F]

/-- The largest magnitude of group `g` of row `r`, of the selected values `y` of one tile. -/
def gmS (y : S256x256.Idx → F .f32) (g r : ℕ) : F .f32 := runMax (fun m => at2 y (8 * m + g) r) 31

/-- The counter of four neighbouring values: row `r` of block `s`, group `G` of the row, quadruple `q` of the group. -/
def ctr (s r G q : ℕ) : BitVec 32 := BitVec.ofNat 32 ((256 * s + r) * 1280 + 8 * G + q)

/-- Byte `b` of group `g` of row `r`, of the selected values `y` of one tile and the counter `n`. -/
def byteS (y : S256x256.Idx → F .f32) (K : Keys) (n : BitVec 32) (g r b : ℕ) : BitVec 32 :=
  byte (invScale (gmS y g r)) (at2 y (16 * b + g) r) (at2 y (16 * b + 8 + g) r) ((words K n).w (2 * (b % 2)))
    ((words K n).w (2 * (b % 2) + 1))

/-- The running largest magnitude, after the first tiles. -/
def accS (y : ℕ → S256x256.Idx → F .f32) (init : F .f32) (g l : ℕ) : ℕ → F .f32
  | 0 => init
  | k + 1 => FloatOps.maximumf (FloatOps.maximumf (accS y init g l k) (gmS (y k) g l)) (gmS (y k) g (128 + l))

/-- One tile more of a lane's largest magnitude: the maximum with the tile's two halves. -/
theorem accS_succ (y : ℕ → S256x256.Idx → F .f32) (init : F .f32) (g l k : ℕ) : accS y init g l (k + 1)
    = FloatOps.maximumf (FloatOps.maximumf (accS y init g l k) (gmS (y k) g l)) (gmS (y k) g (128 + l)) := rfl

/-- The low byte of a word. -/
def trunc8 (w : BitVec 32) : BitVec 8 := w.setWidth 8

/-- The key words of the ten rounds, of the two words of the seed. -/
def keysOf (u0 u1 : BitVec 32) : Keys :=
  ⟨fun r => Scalar.addi u0 (BitVec.ofNat 32 (2654435769 * r.val)), fun r => Scalar.addi u1 (BitVec.ofNat 32 (3144134277 * r.val))⟩

/-- The columns of a block that tile `k` works on. -/
def tile (X : S256x5120.Idx → F .bf16) (k : ℕ) : S256x256.Idx → F .bf16 :=
  fun p => X (ix2 (p 0 : Fin 256) (Fin.ofNat 5120 (256 * k + (p 1).val)))

/-- The selected values of tile `k` of a block. -/
def yS (X : S256x5120.Idx → F .bf16) (SEL : S256x256.Idx → F .bf16) (k : ℕ) : S256x256.Idx → F .f32 := k0_pay152 (tile X k) SEL

/-- The codes of block `s`. -/
def codesB (X : S256x5120.Idx → F .bf16) (SEL : S256x256.Idx → F .bf16) (u0 u1 : BitVec 32) (s : ℕ) (p : S256x2560.Idx) : BitVec 8 :=
  trunc8 (byteS (yS X SEL ((p 1).val / 128)) (keysOf u0 u1) (ctr s (p 0).val ((p 1).val / 16) ((p 1).val % 16 / 2))
    ((p 1).val / 16 % 8) (p 0).val ((p 1).val % 16))

/-- The scale bytes of a block. -/
def scalesB (X : S256x5120.Idx → F .bf16) (SEL : S256x256.Idx → F .bf16) (p : S256x160.Idx) : BitVec 8 :=
  trunc8 (scaleWord (gmS (yS X SEL ((p 1).val / 8)) ((p 1).val % 8) (p 0).val))

/-- The column sums after a block, of the sums before it. -/
def sumsB (X : S256x5120.Idx → F .bf16) (prev : S8x5120.Idx → F .f32) (p : S8x5120.Idx) : F .f32 :=
  k0_pay151 k0_pay182 (tile X ((p 1).val / 256))
    (fun x => prev (ix2 (x 0 : Fin 8) (Fin.ofNat 5120 (256 * ((p 1).val / 256) + (x 1).val)))) (ix2 (p 0 : Fin 8) (Fin.ofNat 256 (p 1).val))

/-- The largest magnitudes after a block, of those before it. -/
def amaxB (X : S256x5120.Idx → F .bf16) (SEL : S256x256.Idx → F .bf16) (prev : S8x128.Idx → F .f32) (p : S8x128.Idx) : F .f32 :=
  FloatOps.maximumf (prev p) (accS (yS X SEL) (k0_pay183 p) (p 0).val (p 1).val 20)

/-- The counter of the first half of the rows, as the kernel computes it. -/
theorem ctr0 (s l g k k2 : ℕ) (a0 v44 v45 : BitVec 32) (h0 : a0 = BitVec.ofNat 32 s) (h44 : v44 = BitVec.ofNat 32 l)
    (h45 : v45 = BitVec.ofNat 32 g) :
    IntOp.addi (IntOp.addi (IntOp.addi (IntOp.muli (IntOp.addi (Scalar.addi (Scalar.muli a0 256#32) 0#32) v44) 1280#32)
      (IntOp.muli v45 8#32)) (Scalar.muli (Scf.iv 0#32 1#32 k) 64#32)) (Scf.iv 0#32 1#32 k2)
      = ctr s (128 * 0 + l) (8 * k + g) k2 := by
  subst h0 h44 h45
  unfold ctr
  apply BitVec.eq_of_toNat_eq
  simp only [IntOp.addi, IntOp.muli, Scalar.addi, Scalar.muli, Scf.iv, BitVec.toNat_add, BitVec.toNat_mul, BitVec.toNat_ofNat]
  omega

/-- The counter of the second half of the rows, as the kernel computes it. -/
theorem ctr1 (s l g k k2 : ℕ) (a0 v44 v45 : BitVec 32) (h0 : a0 = BitVec.ofNat 32 s) (h44 : v44 = BitVec.ofNat 32 l)
    (h45 : v45 = BitVec.ofNat 32 g) :
    IntOp.addi (IntOp.addi (IntOp.addi (IntOp.muli (IntOp.addi (Scalar.addi (Scalar.muli a0 256#32) 128#32) v44) 1280#32)
      (IntOp.muli v45 8#32)) (Scalar.muli (Scf.iv 0#32 1#32 k) 64#32)) (Scf.iv 0#32 1#32 k2)
      = ctr s (128 * 1 + l) (8 * k + g) k2 := by
  subst h0 h44 h45
  unfold ctr
  apply BitVec.eq_of_toNat_eq
  simp only [IntOp.addi, IntOp.muli, Scalar.addi, Scalar.muli, Scf.iv, BitVec.toNat_add, BitVec.toNat_mul, BitVec.toNat_ofNat]
  omega

/-- The loop over tiles makes 20 trips. -/
theorem trips1 : k0_t1_loop.trips = 20 := by decide
/-- The loop over quadruples, first half of the rows, makes 8 trips. -/
theorem trips2 : k0_t2_loop.trips = 8 := by decide
/-- The loop over quadruples, second half of the rows, makes 8 trips. -/
theorem trips3 : k0_t3_loop.trips = 8 := by decide

end KernelIdeal
end Cert.Proof
end
-- ==== Proof.K.Val2.lean ====
module

public import proofs.«01_k».proof.Proof.K.Val1
public import proofs.«01_k».proof.Proof.K.Val
public import proofs.«01_k».proof.Proof.K.Block
public import proofs.«01_k».proof.Proof.K.Trip2
public import proofs.«01_k».proof.Proof.K.Trip3
public import proofs.«01_k».proof.Proof.Spec
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v44 : IVec S8x128 32) (v45 : IVec S8x128 32)
variable (f2 : Buf (Elt F) (arg2.view.loc (c : Thread nD τ))) (f3 : Buf (Elt F) (arg3.view.loc (c : Thread nD τ)))

/-- The selected values of one tile. -/
def yk (k : Fin k0_t1_loop.trips) : S256x256.Idx → F .f32 :=
  k0_pay152 (xt c arg2 f2 k) (arg3.view.readAt (Elt F) (Rect.unit ![0, 0] S256x256.size inb_S256x256_S256x256_0_0).toLoadRect f3)

/-- The regrouped tile reads as the product with the selection matrix. -/
theorem read_w8 (k : Fin k0_t1_loop.trips) (p : S256x256.Idx) :
    arg8.view.read (Elt F) (w8 c arg2 arg3 arg8 f2 f3 k) p = yk c arg2 arg3 f2 f3 k p := by
  unfold w8
  exact View.read_writes_cons_unit_of_mem (Val := Elt F) (off' := fun _ => 0) arg8.view arg8.view.junk inb_S256x256_S256x256_0_0
    (yk c arg2 arg3 f2 f3 k) [] p p (by decide) fun a => (Nat.zero_add _).symm

/-- Eight rows read out of the regrouped tile are those rows of the product. -/
theorem readAt_w8 (k : Fin k0_t1_loop.trips) (off : Fin 2 → ℕ) (inb : ∀ a, off a + S8x128.size a ≤ S256x256.size a)
    (j : S8x128.Idx) (u w : ℕ) (hu : u % 256 = off 0) (hw : off 1 = w) :
    arg8.view.readAt (Elt F) (Rect.unit (s := S256x256) off S8x128.size inb).toLoadRect (w8 c arg2 arg3 arg8 f2 f3 k) j
      = at2 (yk c arg2 arg3 f2 f3 k) (u + (j 0).val) (w + (j 1).val) := by
  rw [View.readAt_apply, read_w8]
  unfold at2
  have h0 := inb 0
  have h1 := inb 1
  have j0 : (j 0).val < 8 := (j 0).isLt
  have j1 : (j 1).val < 128 := (j 1).isLt
  change off 0 + 8 ≤ 256 at h0
  change off 1 + 128 ≤ 256 at h1
  refine congrArg _ (funext fun a => Fin.ext ?_)
  match a with
  | ⟨0, _⟩ => show off 0 + 1 * (j 0).val = (u + (j 0).val) % 256; omega
  | ⟨1, _⟩ => show off 1 + 1 * (j 1).val = (w + (j 1).val) % 256; omega

/-- The body's largest magnitude of a group is the maximum over the group's 32 rows of the product. -/
theorem gm_w8 (h : Fin 2) (k : Fin k0_t1_loop.trips) (j : S8x128.Idx) :
    gm c arg8 h (w8 c arg2 arg3 arg8 f2 f3 k) j = gmS (yk c arg2 arg3 f2 f3 k) (j 0).val (128 * h.val + (j 1).val) := by
  unfold gm gmS
  refine congrArg (fun f => runMax f 31) (funext fun m => ?_)
  unfold ld8
  exact readAt_w8 c arg2 arg3 arg8 f2 f3 k _ _ j (8 * m) (128 * h.val) (by show _ = 8 * (m % 32); omega) rfl
end

end Cert.Proof.KernelIdeal

end
-- ==== Proof.K.Val3.lean ====
module

public import proofs.«01_k».proof.Proof.K.Val2
public import proofs.«01_k».proof.Proof.K.Val1
public import proofs.«01_k».proof.Proof.K.Val
public import proofs.«01_k».proof.Proof.K.Block
public import proofs.«01_k».proof.Proof.K.Trip2
public import proofs.«01_k».proof.Proof.K.Trip3
public import proofs.«01_k».proof.Proof.Spec
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v44 : IVec S8x128 32) (v45 : IVec S8x128 32)
variable (f2 : Buf (Elt F) (arg2.view.loc (c : Thread nD τ))) (f3 : Buf (Elt F) (arg3.view.loc (c : Thread nD τ)))

/-- One trip more of the inner loop, first half of the rows. -/
theorem a9_step (k : Fin k0_t1_loop.trips) (f9 F8) (k2 : Fin k0_t2_loop.trips) :
    a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 F8 (k2.val + 1) = arg9.view.writes (Elt F) (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 F8 k2.val) (trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k (Scf.iv 0#32 1#32 k) (fun j => invScale (gm c arg8 0 F8 j)) (k0_pay163 arg0 v44) 8#32 k2 F8).1 := by
  unfold a9
  exact dif_pos k2.isLt

/-- A byte of the scratch, after the trip of the inner loop that writes it. -/
theorem a9_read (k : Fin k0_t1_loop.trips) (f9) (k2 : Fin k0_t2_loop.trips) (p : Fin 2) (g : Fin 8) (l : Fin 128) (y : S128x128.Idx)
    (hy0 : (y 0).val = 16 * g.val + 2 * k2.val + p.val) (hy1 : (y 1).val = l.val) (n : ℕ) (hk : k2.val < n) (hn : n ≤ k0_t2_loop.trips)
    (N : BitVec 32) (hN : IntOp.addi (IntOp.addi (IntOp.addi ((k0_pay163 arg0 v44) (ix2 g l)) (IntOp.muli (v45 (ix2 g l)) 8#32)) (Scalar.muli (Scf.iv 0#32 1#32 k) 64#32)) (Scf.iv 0#32 1#32 k2) = N) :
    arg9.view.read (Elt F) (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 (w8 c arg2 arg3 arg8 f2 f3 k) n) y
      = byteS (yk c arg2 arg3 f2 f3 k) (⟨![v1, v3, v5, v7, v9, v11, v13, v15, v17, v19], ![v21, v23, v25, v27, v29, v31, v33, v35, v37, v39]⟩ : Keys) N g.val (128 * 0 + l.val) (2 * k2.val + p.val) := by
  have hT := trips2
  have hk8 : k2.val < 8 := hT ▸ k2.isLt
  have hg := g.isLt
  have hl := l.isLt
  have hp := p.isLt
  have miss : ∀ (k' : Fin k0_t2_loop.trips) (q : Fin 2), ¬ (k' = k2 ∧ q = p) → ∀ x : S8x128.Idx,
      ∃ a, (y a).val ≠ (k0_off5 k' (BitVec.ofNat 32 q.val)) a + (![16, 1] : Fin 2 → ℕ) a * (x a).val := by
    intro k' q hne x
    refine ⟨0, ?_⟩
    rw [k0_off5_eq k' q, hy0]
    have hx : (x 0).val < 8 := (x 0).isLt
    have hk' : k'.val < 8 := hT ▸ k'.isLt
    have hq := q.isLt
    show _ ≠ (2 * k'.val + q.val) + 16 * (x 0).val
    intro hh
    exact hne ⟨Fin.ext (by omega), Fin.ext (by omega)⟩
  have hit : ∀ a, (y a).val = (k0_off5 k2 (BitVec.ofNat 32 p.val)) a + (![16, 1] : Fin 2 → ℕ) a * ((ix2 g l : S8x128.Idx) a).val := by
    intro a
    rw [k0_off5_eq k2 p]
    match a with
    | ⟨0, _⟩ => show (y 0).val = (2 * k2.val + p.val) + 16 * g.val; omega
    | ⟨1, _⟩ => show (y 1).val = 0 + 1 * l.val; omega
  have hY : ∀ q : Fin 4, arg8.view.readAt (Elt F) (Rect.unit (s := S256x256) (k0_off4 k2 (BitVec.ofNat 32 q.val)) S8x128.size (k0_off4_inb k2 q)).toLoadRect (w8 c arg2 arg3 arg8 f2 f3 k) (ix2 g l)
      = at2 (yk c arg2 arg3 f2 f3 k) (32 * k2.val + 8 * q.val + g.val) (128 * 0 + l.val) := by
    intro q
    have hq := q.isLt
    exact readAt_w8 c arg2 arg3 arg8 f2 f3 k _ _ (ix2 g l) (32 * k2.val + 8 * q.val) (128 * 0)
      (by rw [k0_off4_eq k2 q]; show _ = 32 * k2.val + 8 * q.val; omega) (by rw [k0_off4_eq k2 q]; rfl)
  have e1 := gm_w8 c arg2 arg3 arg8 f2 f3 0 k (ix2 g l)
  refine read_run arg9.view (fun n => a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 (w8 c arg2 arg3 arg8 f2 f3 k) n)
    (fun k2 => (trip_k0_t2 c i arg1 harg1 arg2 harg2 arg3 harg3 arg4 harg4 arg5 harg5 arg6 harg6 arg7 harg7 arg8 harg8 arg9 harg9 arg10 harg10 v1 v3 v5 v7 v9 v11 v13 v15 v17 v19 v21 v23 v25 v27 v29 v31 v33 v35 v37 v39 v45 k (Scf.iv 0#32 1#32 k) (fun j => invScale (gm c arg8 0 (w8 c arg2 arg3 arg8 f2 f3 k) j)) (k0_pay163 arg0 v44) 8#32 k2 (w8 c arg2 arg3 arg8 f2 f3 k)).1)
    (fun k2 => a9_step c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k f9 (w8 c arg2 arg3 arg8 f2 f3 k) k2) k2 y _ ?_ ?_ n hk hn
  · intro f
    rw [trip_k0_t2_val]
    match p, hp with
    | 0, _ =>
      rw [read_cons_miss _ _ _ _ _ _ (miss k2 1 (by simp)), read_cons_hit _ _ _ _ _ _ (ix2 g l) hit]
      unfold byteS
      rw [show (2 * k2.val + (0 : Fin 2).val) % 2 = 0 from by show (2 * k2.val + 0) % 2 = 0; omega]
      exact byte_congr (congrArg invScale e1)
        ((hY 0).trans (congrArg (fun m => at2 (yk c arg2 arg3 f2 f3 k) m _) (by show 32 * k2.val + 8 * 0 + g.val = 16 * (2 * k2.val + 0) + g.val; omega)))
        ((hY 1).trans (congrArg (fun m => at2 (yk c arg2 arg3 f2 f3 k) m _) (by show 32 * k2.val + 8 * 1 + g.val = 16 * (2 * k2.val + 0) + 8 + g.val; omega)))
        (congrArg (fun n => (words (⟨![v1, v3, v5, v7, v9, v11, v13, v15, v17, v19], ![v21, v23, v25, v27, v29, v31, v33, v35, v37, v39]⟩ : Keys) n).x0) hN) (congrArg (fun n => (words (⟨![v1, v3, v5, v7, v9, v11, v13, v15, v17, v19], ![v21, v23, v25, v27, v29, v31, v33, v35, v37, v39]⟩ : Keys) n).x1) hN)
    | 1, _ =>
      rw [read_cons_hit _ _ _ _ _ _ (ix2 g l) hit]
      unfold byteS
      rw [show (2 * k2.val + (1 : Fin 2).val) % 2 = 1 from by show (2 * k2.val + 1) % 2 = 1; omega]
      exact byte_congr (congrArg invScale e1)
        ((hY 2).trans (congrArg (fun m => at2 (yk c arg2 arg3 f2 f3 k) m _) (by show 32 * k2.val + 8 * 2 + g.val = 16 * (2 * k2.val + 1) + g.val; omega)))
        ((hY 3).trans (congrArg (fun m => at2 (yk c arg2 arg3 f2 f3 k) m _) (by show 32 * k2.val + 8 * 3 + g.val = 16 * (2 * k2.val + 1) + 8 + g.val; omega)))
        (congrArg (fun n => (words (⟨![v1, v3, v5, v7, v9, v11, v13, v15, v17, v19], ![v21, v23, v25, v27, v29, v31, v33, v35, v37, v39]⟩ : Keys) n).x2) hN) (congrArg (fun n => (words (⟨![v1, v3, v5, v7, v9, v11, v13, v15, v17, v19], ![v21, v23, v25, v27, v29, v31, v33, v35, v37, v39]⟩ : Keys) n).x3) hN)
  · intro k' hlt f
    have hne : k' ≠ k2 := fun h => absurd hlt (by rw [h]; exact lt_irrefl _)
    rw [trip_k0_t2_val]
    rw [read_cons_miss _ _ _ _ _ _ (miss k' 1 fun h => hne h.1), read_cons_miss _ _ _ _ _ _ (miss k' 0 fun h => hne h.1)]
    rfl

/-- One trip more of the inner loop, second half of the rows. -/
theorem b9_step (k : Fin k0_t1_loop.trips) (f9 F8) (k2 : Fin k0_t3_loop.trips) :
    b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k f9 F8 (k2.val + 1) = arg9.view.writes (Elt F) (b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k f9 F8 k2.val) (trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 (fun j => invScale (gm c arg8 1 F8 j)) (k0_pay179 arg0 v44 v45) (Scalar.muli (Scf.iv 0#32 1#32 k) 64#32) k2 F8).1 := by
  unfold b9
  exact dif_pos k2.isLt

/-- A byte of the scratch, after the trip of the inner loop that writes it. -/
theorem b9_read (k : Fin k0_t1_loop.trips) (f9) (k2 : Fin k0_t3_loop.trips) (p : Fin 2) (g : Fin 8) (l : Fin 128) (y : S128x128.Idx)
    (hy0 : (y 0).val = 16 * g.val + 2 * k2.val + p.val) (hy1 : (y 1).val = l.val) (n : ℕ) (hk : k2.val < n) (hn : n ≤ k0_t3_loop.trips)
    (N : BitVec 32) (hN : IntOp.addi (IntOp.addi ((k0_pay179 arg0 v44 v45) (ix2 g l)) (Scalar.muli (Scf.iv 0#32 1#32 k) 64#32)) (Scf.iv 0#32 1#32 k2) = N) :
    arg9.view.read (Elt F) (b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k f9 (w8 c arg2 arg3 arg8 f2 f3 k) n) y
      = byteS (yk c arg2 arg3 f2 f3 k) (⟨![v1, v3, v5, v7, v9, v11, v13, v15, v17, v19], ![v21, v23, v25, v27, v29, v31, v33, v35, v37, v39]⟩ : Keys) N g.val (128 * 1 + l.val) (2 * k2.val + p.val) := by
  have hT := trips3
  have hk8 : k2.val < 8 := hT ▸ k2.isLt
  have hg := g.isLt
  have hl := l.isLt
  have hp := p.isLt
  have miss : ∀ (k' : Fin k0_t3_loop.trips) (q : Fin 2), ¬ (k' = k2 ∧ q = p) → ∀ x : S8x128.Idx,
      ∃ a, (y a).val ≠ (k0_off9 k' (BitVec.ofNat 32 q.val)) a + (![16, 1] : Fin 2 → ℕ) a * (x a).val := by
    intro k' q hne x
    refine ⟨0, ?_⟩
    rw [k0_off9_eq k' q, hy0]
    have hx : (x 0).val < 8 := (x 0).isLt
    have hk' : k'.val < 8 := hT ▸ k'.isLt
    have hq := q.isLt
    show _ ≠ (2 * k'.val + q.val) + 16 * (x 0).val
    intro hh
    exact hne ⟨Fin.ext (by omega), Fin.ext (by omega)⟩
  have hit : ∀ a, (y a).val = (k0_off9 k2 (BitVec.ofNat 32 p.val)) a + (![16, 1] : Fin 2 → ℕ) a * ((ix2 g l : S8x128.Idx) a).val := by
    intro a
    rw [k0_off9_eq k2 p]
    match a with
    | ⟨0, _⟩ => show (y 0).val = (2 * k2.val + p.val) + 16 * g.val; omega
    | ⟨1, _⟩ => show (y 1).val = 0 + 1 * l.val; omega
  have hY : ∀ q : Fin 4, arg8.view.readAt (Elt F) (Rect.unit (s := S256x256) (k0_off8 k2 (BitVec.ofNat 32 q.val)) S8x128.size (k0_off8_inb k2 q)).toLoadRect (w8 c arg2 arg3 arg8 f2 f3 k) (ix2 g l)
      = at2 (yk c arg2 arg3 f2 f3 k) (32 * k2.val + 8 * q.val + g.val) (128 * 1 + l.val) := by
    intro q
    have hq := q.isLt
    exact readAt_w8 c arg2 arg3 arg8 f2 f3 k _ _ (ix2 g l) (32 * k2.val + 8 * q.val) (128 * 1)
      (by rw [k0_off8_eq k2 q]; show _ = 32 * k2.val + 8 * q.val; omega) (by rw [k0_off8_eq k2 q]; rfl)
  have e1 := gm_w8 c arg2 arg3 arg8 f2 f3 1 k (ix2 g l)
  refine read_run arg9.view (fun n => b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k f9 (w8 c arg2 arg3 arg8 f2 f3 k) n)
    (fun k2 => (trip_k0_t3 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 (fun j => invScale (gm c arg8 1 (w8 c arg2 arg3 arg8 f2 f3 k) j)) (k0_pay179 arg0 v44 v45) (Scalar.muli (Scf.iv 0#32 1#32 k) 64#32) k2 (w8 c arg2 arg3 arg8 f2 f3 k)).1)
    (fun k2 => b9_step c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k f9 (w8 c arg2 arg3 arg8 f2 f3 k) k2) k2 y _ ?_ ?_ n hk hn
  · intro f
    rw [trip_k0_t3_val]
    match p, hp with
    | 0, _ =>
      rw [read_cons_miss _ _ _ _ _ _ (miss k2 1 (by simp)), read_cons_hit _ _ _ _ _ _ (ix2 g l) hit]
      unfold byteS
      rw [show (2 * k2.val + (0 : Fin 2).val) % 2 = 0 from by show (2 * k2.val + 0) % 2 = 0; omega]
      exact byte_congr (congrArg invScale e1)
        ((hY 0).trans (congrArg (fun m => at2 (yk c arg2 arg3 f2 f3 k) m _) (by show 32 * k2.val + 8 * 0 + g.val = 16 * (2 * k2.val + 0) + g.val; omega)))
        ((hY 1).trans (congrArg (fun m => at2 (yk c arg2 arg3 f2 f3 k) m _) (by show 32 * k2.val + 8 * 1 + g.val = 16 * (2 * k2.val + 0) + 8 + g.val; omega)))
        (congrArg (fun n => (words (⟨![v1, v3, v5, v7, v9, v11, v13, v15, v17, v19], ![v21, v23, v25, v27, v29, v31, v33, v35, v37, v39]⟩ : Keys) n).x0) hN) (congrArg (fun n => (words (⟨![v1, v3, v5, v7, v9, v11, v13, v15, v17, v19], ![v21, v23, v25, v27, v29, v31, v33, v35, v37, v39]⟩ : Keys) n).x1) hN)
    | 1, _ =>
      rw [read_cons_hit _ _ _ _ _ _ (ix2 g l) hit]
      unfold byteS
      rw [show (2 * k2.val + (1 : Fin 2).val) % 2 = 1 from by show (2 * k2.val + 1) % 2 = 1; omega]
      exact byte_congr (congrArg invScale e1)
        ((hY 2).trans (congrArg (fun m => at2 (yk c arg2 arg3 f2 f3 k) m _) (by show 32 * k2.val + 8 * 2 + g.val = 16 * (2 * k2.val + 1) + g.val; omega)))
        ((hY 3).trans (congrArg (fun m => at2 (yk c arg2 arg3 f2 f3 k) m _) (by show 32 * k2.val + 8 * 3 + g.val = 16 * (2 * k2.val + 1) + 8 + g.val; omega)))
        (congrArg (fun n => (words (⟨![v1, v3, v5, v7, v9, v11, v13, v15, v17, v19], ![v21, v23, v25, v27, v29, v31, v33, v35, v37, v39]⟩ : Keys) n).x2) hN) (congrArg (fun n => (words (⟨![v1, v3, v5, v7, v9, v11, v13, v15, v17, v19], ![v21, v23, v25, v27, v29, v31, v33, v35, v37, v39]⟩ : Keys) n).x3) hN)
  · intro k' hlt f
    have hne : k' ≠ k2 := fun h => absurd hlt (by rw [h]; exact lt_irrefl _)
    rw [trip_k0_t3_val]
    rw [read_cons_miss _ _ _ _ _ _ (miss k' 1 fun h => hne h.1), read_cons_miss _ _ _ _ _ _ (miss k' 0 fun h => hne h.1)]
    rfl

end

end Cert.Proof.KernelIdeal

end
-- ==== Proof.K.Tiles.lean ====
module

public import proofs.«01_k».proof.Proof.K.Block
public import Idealize.ShloMosaic.Lib.WritesUnit
public import Idealize.ShloMosaic.Lib.Pipeline.Value

@[expose] public section

noncomputable section

namespace Cert.Proof.KernelIdeal

open Idealize.ShloMosaic Cert.KernelIdeal Cert.KernelIdeal.Gen

variable {sig : RefSig} {κ : Kind} {sp : Space} {e : EltTy} {Val : EltTy → Type}

section scales
variable (v : View sig κ sp S2x160x128 e) (st : ℕ → v.ty.Contents Val)
  (P1 P0 : Fin k0_t1_loop.trips → S1x8x128.Idx → Val e)
  (hst : ∀ k : Fin k0_t1_loop.trips, st (k.val + 1) = v.writes Val (st k.val)
    [⟨Rect.unit (k0_off7 k) S1x8x128.size (k0_off7_inb k), P1 k⟩, ⟨Rect.unit (k0_off3 k) S1x8x128.size (k0_off3_inb k), P0 k⟩])
  (k : Fin k0_t1_loop.trips) (g : Fin 8) (l : Fin 128) (y : S2x160x128.Idx) (hy1 : (y 1).val = 8 * k.val + g.val)
  (hy2 : (y 2).val = l.val) (n : ℕ) (hk : k.val < n) (hn : n ≤ k0_t1_loop.trips)
include hst hy1 hy2 hk hn

/-- A later tile's scales are written elsewhere. -/
private theorem scales_miss (k' : Fin k0_t1_loop.trips) (hlt : k < k') (f : v.ty.Contents Val) :
    v.read Val (v.writes Val f
      [⟨Rect.unit (k0_off7 k') S1x8x128.size (k0_off7_inb k'), P1 k'⟩, ⟨Rect.unit (k0_off3 k') S1x8x128.size (k0_off3_inb k'), P0 k'⟩]) y
      = v.read Val f y := by
  have hg := g.isLt
  have hne : k.val < k'.val := hlt
  have hlo : (y 1).val < 8 * k'.val := by omega
  exact (View.read_writes_cons_unit_of_not_mem (Val := Val) _ _ _ _ _ y (k0_off7_eq k') 1 (Or.inl hlo)).trans
    (View.read_writes_cons_unit_of_not_mem (Val := Val) _ _ _ _ _ y (k0_off3_eq k') 1 (Or.inl hlo))

/-- The scales of the first half of the rows, once written. -/
theorem scales_tiles0 (hy0 : (y 0).val = 0) : v.read Val (st n) y = P0 k (ix3 (0 : Fin 1) g l) := by
  refine read_run v st (fun k => [⟨Rect.unit (k0_off7 k) S1x8x128.size (k0_off7_inb k), P1 k⟩, ⟨Rect.unit (k0_off3 k) S1x8x128.size (k0_off3_inb k), P0 k⟩])
    hst k y _ (fun f => ?_) (fun k' h f => scales_miss v st P1 P0 hst k g l y hy1 hy2 n hk hn k' h f) n hk hn
  refine (View.read_writes_cons_unit_of_not_mem (Val := Val) _ _ _ _ _ y (k0_off7_eq k) 0 (Or.inl ?_)).trans
    (View.read_writes_cons_unit_of_mem (Val := Val) _ _ _ _ _ y (ix3 (0 : Fin 1) g l) (k0_off3_eq k) fun d => ?_)
  · rw [hy0]; exact Nat.one_pos
  · match d with
    | ⟨0, _⟩ => exact hy0
    | ⟨1, _⟩ => exact hy1
    | ⟨2, _⟩ => exact hy2.trans (Nat.zero_add _).symm

/-- The scales of the second half of the rows, once written. -/
theorem scales_tiles1 (hy0 : (y 0).val = 1) : v.read Val (st n) y = P1 k (ix3 (0 : Fin 1) g l) := by
  refine read_run v st (fun k => [⟨Rect.unit (k0_off7 k) S1x8x128.size (k0_off7_inb k), P1 k⟩, ⟨Rect.unit (k0_off3 k) S1x8x128.size (k0_off3_inb k), P0 k⟩])
    hst k y _ (fun f => ?_) (fun k' h f => scales_miss v st P1 P0 hst k g l y hy1 hy2 n hk hn k' h f) n hk hn
  refine View.read_writes_cons_unit_of_mem (Val := Val) _ _ _ _ _ y (ix3 (0 : Fin 1) g l) (k0_off7_eq k) fun d => ?_
  match d with
    | ⟨0, _⟩ => exact hy0
    | ⟨1, _⟩ => exact hy1
    | ⟨2, _⟩ => exact hy2.trans (Nat.zero_add _).symm
end scales

section codes
variable (v : View sig κ sp S256x2560 e) (st : ℕ → v.ty.Contents Val)
  (P1 P0 : Fin k0_t1_loop.trips → S128x128.Idx → Val e)
  (hst : ∀ k : Fin k0_t1_loop.trips, st (k.val + 1) = v.writes Val (st k.val)
    [⟨Rect.unit (k0_off10 k) S128x128.size (k0_off10_inb k), P1 k⟩, ⟨Rect.unit (k0_off6 k) S128x128.size (k0_off6_inb k), P0 k⟩])
  (k : Fin k0_t1_loop.trips) (l b : Fin 128) (y : S256x2560.Idx) (hy1 : (y 1).val = 128 * k.val + b.val)
  (n : ℕ) (hk : k.val < n) (hn : n ≤ k0_t1_loop.trips)
include hst hy1 hk hn

/-- A later tile's codes are written elsewhere. -/
private theorem codes_miss (k' : Fin k0_t1_loop.trips) (hlt : k < k') (f : v.ty.Contents Val) :
    v.read Val (v.writes Val f
      [⟨Rect.unit (k0_off10 k') S128x128.size (k0_off10_inb k'), P1 k'⟩, ⟨Rect.unit (k0_off6 k') S128x128.size (k0_off6_inb k'), P0 k'⟩]) y
      = v.read Val f y := by
  have hg := b.isLt
  have hne : k.val < k'.val := hlt
  have hlo : (y 1).val < 128 * k'.val := by omega
  exact (View.read_writes_cons_unit_of_not_mem (Val := Val) _ _ _ _ _ y (k0_off10_eq k') 1 (Or.inl hlo)).trans
    (View.read_writes_cons_unit_of_not_mem (Val := Val) _ _ _ _ _ y (k0_off6_eq k') 1 (Or.inl hlo))

/-- The codes of the first half of the rows, once written. -/
theorem codes_tiles0 (hy0 : (y 0).val = l.val) : v.read Val (st n) y = P0 k (ix2 l b) := by
  refine read_run v st (fun k => [⟨Rect.unit (k0_off10 k) S128x128.size (k0_off10_inb k), P1 k⟩, ⟨Rect.unit (k0_off6 k) S128x128.size (k0_off6_inb k), P0 k⟩])
    hst k y _ (fun f => ?_) (fun k' h f => codes_miss v st P1 P0 hst k b y hy1 n hk hn k' h f) n hk hn
  refine (View.read_writes_cons_unit_of_not_mem (Val := Val) _ _ _ _ _ y (k0_off10_eq k) 0 (Or.inl ?_)).trans
    (View.read_writes_cons_unit_of_mem (Val := Val) _ _ _ _ _ y (ix2 l b) (k0_off6_eq k) fun d => ?_)
  · rw [hy0]; exact l.isLt
  · match d with
    | ⟨0, _⟩ => exact hy0.trans (Nat.zero_add _).symm
    | ⟨1, _⟩ => exact hy1

/-- The codes of the second half of the rows, once written. -/
theorem codes_tiles1 (hy0 : (y 0).val = 128 + l.val) : v.read Val (st n) y = P1 k (ix2 l b) := by
  refine read_run v st (fun k => [⟨Rect.unit (k0_off10 k) S128x128.size (k0_off10_inb k), P1 k⟩, ⟨Rect.unit (k0_off6 k) S128x128.size (k0_off6_inb k), P0 k⟩])
    hst k y _ (fun f => ?_) (fun k' h f => codes_miss v st P1 P0 hst k b y hy1 n hk hn k' h f) n hk hn
  refine View.read_writes_cons_unit_of_mem (Val := Val) _ _ _ _ _ y (ix2 l b) (k0_off10_eq k) fun d => ?_
  match d with
    | ⟨0, _⟩ => exact hy0
    | ⟨1, _⟩ => exact hy1
end codes

section sums
variable (v : View sig κ sp S8x5120 e) (st : ℕ → v.ty.Contents Val)
  (P : Fin k0_t1_loop.trips → (S8x256.Idx → Val e) → S8x256.Idx → Val e)
  (hst : ∀ k : Fin k0_t1_loop.trips, st (k.val + 1) = v.writes Val (st k.val)
    [⟨Rect.unit (k0_off2 k) S8x256.size (k0_off2_inb k), P k (v.readAt Val (Rect.unit (s := S8x5120) (k0_off2 k) S8x256.size (k0_off2_inb k)).toLoadRect (st k.val))⟩])
include hst

/-- Another tile's sums are written elsewhere. -/
private theorem sums_miss (k k' : Fin k0_t1_loop.trips) (y : S8x5120.Idx) (b : Fin 256) (hy1 : (y 1).val = 256 * k.val + b.val) (hne : k ≠ k')
    (f : v.ty.Contents Val) (w : S8x256.Idx → Val e) :
    v.read Val (v.writes Val f [⟨Rect.unit (k0_off2 k') S8x256.size (k0_off2_inb k'), w⟩]) y = v.read Val f y := by
  have hg := b.isLt
  have hne : k.val ≠ k'.val := fun h => hne (Fin.ext h)
  refine View.read_writes_cons_unit_of_not_mem (Val := Val) _ _ _ _ _ y (k0_off2_eq k') 1 ?_
  show (y 1).val < 256 * k'.val ∨ 256 * k'.val + 256 ≤ (y 1).val
  omega

/-- The column sums, once written: what one update makes of the sums of before. -/
theorem sums_tiles (k : Fin k0_t1_loop.trips) (a : Fin 8) (b : Fin 256) (y : S8x5120.Idx) (hy0 : (y 0).val = a.val)
    (hy1 : (y 1).val = 256 * k.val + b.val) (n : ℕ) (hk : k.val < n) (hn : n ≤ k0_t1_loop.trips) :
    v.read Val (st n) y = P k (fun x => v.read Val (st 0) (ix2 (x 0 : Fin 8) (Fin.ofNat 5120 (256 * k.val + (x 1).val)))) (ix2 a b) := by
  have old : v.readAt Val (Rect.unit (s := S8x5120) (k0_off2 k) S8x256.size (k0_off2_inb k)).toLoadRect (st k.val)
      = fun x => v.read Val (st 0) (ix2 (x 0 : Fin 8) (Fin.ofNat 5120 (256 * k.val + (x 1).val))) := by
    funext x
    rw [View.readAt_apply]
    have hx : (Rect.unit (s := S8x5120) (k0_off2 k) S8x256.size (k0_off2_inb k)).toLoadRect.idx x
        = ix2 (x 0 : Fin 8) (Fin.ofNat 5120 (256 * k.val + (x 1).val)) := by
      have e := k0_off2_eq k
      funext d
      apply Fin.ext
      show (k0_off2 k) d + 1 * (x d).val = _
      have ed := congrFun e d
      match d with
      | ⟨0, _⟩ =>
        change _ = 0 at ed
        refine (congrArg (fun t => t + 1 * (x 0).val) ed).trans ?_
        show 0 + 1 * (x 0).val = (x 0).val
        omega
      | ⟨1, _⟩ =>
        change _ = 256 * k.val at ed
        refine (congrArg (fun t => t + 1 * (x 1).val) ed).trans ?_
        show 256 * k.val + 1 * (x 1).val = (256 * k.val + (x 1).val) % 5120
        have hx : (x 1).val < 256 := (x 1).isLt
        have hk := lt_of_lt_of_eq k.isLt trips1
        omega
    rw [hx]
    refine read_run_untouched v st _ hst _ k.val (le_of_lt k.isLt) fun k' hk' f => ?_
    exact sums_miss v st P hst k k' _ (x 1) (by
      have hx : (x 1).val < 256 := (x 1).isLt
      have hk := lt_of_lt_of_eq k.isLt trips1
      show (256 * k.val + (x 1).val) % 5120 = 256 * k.val + (x 1).val
      omega) (fun h => by rw [h] at hk'; exact lt_irrefl _ hk') f _
  refine Eq.trans ?_ (congrArg (fun w => P k w (ix2 a b)) old)
  refine read_run v st _ hst k y _ (fun f => ?_) (fun k' h f => sums_miss v st P hst k k' y b hy1 (fun h' => by rw [h'] at h; exact lt_irrefl _ h) f _) n hk hn
  refine View.read_writes_cons_unit_of_mem (Val := Val) _ _ _ _ _ y (ix2 a b) (k0_off2_eq k) fun d => ?_
  match d with
    | ⟨0, _⟩ => exact hy0.trans (Nat.zero_add _).symm
    | ⟨1, _⟩ => exact hy1
end sums

section out
variable {F : FTy → Type} [FloatOps F] {sig' : RefSig} {κ' : Kind} {sp' : Space}

/-- The window of scale bytes: the two halves of the scratch, each turned over. -/
theorem scales_out (v : View sig κ sp S256x160 .i8) (f : v.ty.Contents (Elt F)) (v' : View sig' κ' sp' S2x160x128 .i32) (f' : v'.ty.Contents (Elt F))
    (X : S256x5120.Idx → F .bf16) (SEL : S256x256.Idx → F .bf16)
    (hf : ∀ y : S2x160x128.Idx, v'.read (Elt F) f' y = scaleWord (gmS (yS X SEL ((y 1).val / 8)) ((y 1).val % 8) (128 * (y 0).val + (y 2).val))) :
    v.read (Elt F) (v.writes (Elt F) f
      [⟨Rect.unit ![128, 0] S128x160.size inb_S256x160_S128x160_128_0, k0_pay1 (F := F) (v'.readAt (Elt F) (Rect.unit (s := S2x160x128) ![1, 0, 0] S1x160x128.size inb_S2x160x128_S1x160x128_1_0_0).toLoadRect f')⟩,
        ⟨Rect.unit ![0, 0] S128x160.size inb_S256x160_S128x160_0_0, k0_pay189 (F := F) (v'.readAt (Elt F) (Rect.unit (s := S2x160x128) ![0, 0, 0] S1x160x128.size inb_S2x160x128_S1x160x128_0_0_0).toLoadRect f')⟩])
      = scalesB X SEL := by
  funext y
  have h0 : (y 0).val < 256 := (y 0).isLt
  have tr : ∀ (x : S1x160x128.Idx → BitVec 32) (l : Fin 128) (b : Fin 160),
      k0_pay189 (F := F) x (ix2 l b) = trunc8 (x (ix3 (0 : Fin 1) b l)) := fun x l b => by
    refine congrArg trunc8 ((transpose_apply _ _ _ _ (ix2 b l) fun d => by
      match d with
      | ⟨0, _⟩ => rfl
      | ⟨1, _⟩ => rfl).trans ?_)
    refine (shapeCast_dropUnit_apply ![160, 128] x _ (ix2 b l)).trans (congrArg x (funext fun d => ?_))
    match d with
    | ⟨0, _⟩ => rfl
    | ⟨1, _⟩ => rfl
    | ⟨2, _⟩ => rfl
  by_cases h : (y 0).val < 128
  · refine (View.read_writes_cons_unit_of_not_mem (Val := Elt F) _ _ _ _ _ y rfl 0 (Or.inl h)).trans
      ((View.read_writes_cons_unit_of_mem (Val := Elt F) _ _ _ _ _ y (ix2 (⟨(y 0).val, h⟩ : Fin 128) (y 1 : Fin 160)) rfl fun d => ?_).trans
        ((tr _ _ _).trans (congrArg trunc8 ((View.readAt_apply _ _ _).trans ((hf _).trans ?_)))))
    · match d with
      | ⟨0, _⟩ => exact (Nat.zero_add _).symm
      | ⟨1, _⟩ => exact (Nat.zero_add _).symm
    · show scaleWord (gmS (yS X SEL ((0 + 1 * (y 1).val) / 8)) ((0 + 1 * (y 1).val) % 8) (128 * (0 + 1 * 0) + (0 + 1 * (y 0).val))) = _
      rw [Nat.zero_add, Nat.one_mul, Nat.zero_add, Nat.one_mul, Nat.zero_add]
  · refine (View.read_writes_cons_unit_of_mem (Val := Elt F) _ _ _ _ _ y (ix2 (⟨(y 0).val - 128, by omega⟩ : Fin 128) (y 1 : Fin 160)) rfl fun d => ?_).trans
        ((tr _ _ _).trans (congrArg trunc8 ((View.readAt_apply _ _ _).trans ((hf _).trans ?_))))
    · match d with
      | ⟨0, _⟩ => show (y 0).val = 128 + ((y 0).val - 128); omega
      | ⟨1, _⟩ => exact (Nat.zero_add _).symm
    · show scaleWord (gmS (yS X SEL ((0 + 1 * (y 1).val) / 8)) ((0 + 1 * (y 1).val) % 8) (128 * (1 + 1 * 0) + (0 + 1 * ((y 0).val - 128)))) = _
      rw [Nat.zero_add, Nat.one_mul, show 128 * (1 + 1 * 0) + (0 + 1 * ((y 0).val - 128)) = (y 0).val from by omega]
end out

end Cert.Proof.KernelIdeal
end
-- ==== Proof.K.Val4.lean ====
module

public import proofs.«01_k».proof.Proof.K.Val3
public import proofs.«01_k».proof.Proof.K.Tiles
public import proofs.«01_k».proof.Proof.K.Val2
public import proofs.«01_k».proof.Proof.K.Val1
public import proofs.«01_k».proof.Proof.K.Val
public import proofs.«01_k».proof.Proof.K.Block
public import proofs.«01_k».proof.Proof.K.Trip2
public import proofs.«01_k».proof.Proof.K.Trip3
public import proofs.«01_k».proof.Proof.Spec
public import proofs.«01_k».proof.Proof.Gen.KernelIdeal.Loops
public import proofs.«01_k».proof.Proof.Gen.KernelIdeal.Frame
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole) (arg0 : BitVec 32) (v1 : BitVec 32) (v3 : BitVec 32) (v5 : BitVec 32) (v7 : BitVec 32) (v9 : BitVec 32) (v11 : BitVec 32) (v13 : BitVec 32) (v15 : BitVec 32) (v17 : BitVec 32) (v19 : BitVec 32) (v21 : BitVec 32) (v23 : BitVec 32) (v25 : BitVec 32) (v27 : BitVec 32) (v28 : Elt F .i32) (c_m308364780_i32 : BitVec 32) (v29 : BitVec 32) (v31 : BitVec 32) (v33 : BitVec 32) (v35 : BitVec 32) (v37 : BitVec 32) (v39 : BitVec 32) (v44 : IVec S8x128 32) (v45 : IVec S8x128 32)
variable (f2 : Buf (Elt F) (arg2.view.loc (c : Thread nD τ))) (f3 : Buf (Elt F) (arg3.view.loc (c : Thread nD τ)))

variable (s0 : St (F := F) c arg4 arg6 arg8 arg9 arg10)

/-- The state after one tile more is what the tile's trip makes of the state before. -/
theorem st_step (k : Fin k0_t1_loop.trips) :
    (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 (k.val + 1)) = (trip_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val)).1 := dif_pos k.isLt

/-- One tile more, of the largest magnitudes: the maximum with the tile's two halves. -/
theorem st_step_acc (k : Fin k0_t1_loop.trips) (j : S8x128.Idx) :
    (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 (k.val + 1)).acc j = FloatOps.maximumf (FloatOps.maximumf ((st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).acc j)
      (gm c arg8 0 (w8 c arg2 arg3 arg8 f2 f3 k) j)) (gm c arg8 1 (w8 c arg2 arg3 arg8 f2 f3 k) j) := by
  rw [st_step]
  exact congrFun (congrArg St.acc (trip_k0_t1_val c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k _ _ _ _ _ _)) j

/-- One tile more, of the codes: two blocks are written, one for each half of the rows. -/
theorem st_step_f4 (k : Fin k0_t1_loop.trips) :
    (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 (k.val + 1)).f4 = arg4.view.writes (Elt F) (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).f4 [⟨Rect.unit (k0_off10 k) S128x128.size (k0_off10_inb k), k0_pay187 (arg9.view.readAt (Elt F) (Rect.unit ![0, 0] S128x128.size inb_S128x128_S128x128_0_0).toLoadRect (b9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 k (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).f9 (w8 c arg2 arg3 arg8 f2 f3 k) 8) (w8 c arg2 arg3 arg8 f2 f3 k) 8))⟩, ⟨Rect.unit (k0_off6 k) S128x128.size (k0_off6_inb k), k0_pay167 (arg9.view.readAt (Elt F) (Rect.unit ![0, 0] S128x128.size inb_S128x128_S128x128_0_0).toLoadRect (a9 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 k (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).f9 (w8 c arg2 arg3 arg8 f2 f3 k) 8))⟩] := by
  rw [st_step]
  exact congrArg St.f4 (trip_k0_t1_val c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k _ _ _ _ _ _)

/-- One tile more, of the sums: the tile's columns are written. -/
theorem st_step_f6 (k : Fin k0_t1_loop.trips) :
    (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 (k.val + 1)).f6 = arg6.view.writes (Elt F) (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).f6 [⟨Rect.unit (k0_off2 k) S8x256.size (k0_off2_inb k), k0_pay151 k0_pay182 (xt c arg2 f2 k) (arg6.view.readAt (Elt F) (Rect.unit (s := S8x5120) (k0_off2 k) S8x256.size (k0_off2_inb k)).toLoadRect (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).f6)⟩] := by
  rw [st_step]
  exact congrArg St.f6 (trip_k0_t1_val c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k _ _ _ _ _ _)

/-- One tile more, of the scales: eight rows are written in each half. -/
theorem st_step_f10 (k : Fin k0_t1_loop.trips) :
    (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 (k.val + 1)).f10 = arg10.view.writes (Elt F) (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k.val).f10 [⟨Rect.unit (k0_off7 k) S1x8x128.size (k0_off7_inb k), shapeCast S1x8x128 (fun j => scaleWord (gm c arg8 1 (w8 c arg2 arg3 arg8 f2 f3 k) j)) shapeCasts_S8x128_S1x8x128⟩, ⟨Rect.unit (k0_off3 k) S1x8x128.size (k0_off3_inb k), shapeCast S1x8x128 (fun j => scaleWord (gm c arg8 0 (w8 c arg2 arg3 arg8 f2 f3 k) j)) shapeCasts_S8x128_S1x8x128⟩] := by
  rw [st_step]
  exact congrArg St.f10 (trip_k0_t1_val c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k _ _ _ _ _ _)

/-- The running largest magnitude after the first tiles. -/
theorem acc_read (yn : ℕ → S256x256.Idx → F .f32) (hyn : ∀ k : Fin k0_t1_loop.trips, yn k.val = (yk c arg2 arg3 f2 f3 k)) (j : S8x128.Idx) :
    ∀ n, n ≤ k0_t1_loop.trips → (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).acc j = accS yn (s0.acc j) (j 0).val (j 1).val n
  | 0, _ => rfl
  | n + 1, hn => by
    rw [st_step_acc c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 ⟨n, hn⟩ j, acc_read yn hyn j n (by omega), gm_w8, gm_w8]
    rw [accS_succ, ← hyn ⟨n, hn⟩]
    show FloatOps.maximumf (FloatOps.maximumf _ (gmS (yn n) (j 0).val (128 * 0 + (j 1).val))) (gmS (yn n) (j 0).val (128 * 1 + (j 1).val)) = _
    rw [Nat.mul_zero, Nat.zero_add, Nat.mul_one]

/-- The column sums after the tile that updates a column. -/
theorem sums_read (k : Fin k0_t1_loop.trips) (a : Fin 8) (b : Fin 256) (y : S8x5120.Idx) (hy0 : (y 0).val = a.val)
    (hy1 : (y 1).val = 256 * k.val + b.val) (n : ℕ) (hk : k.val < n) (hn : n ≤ k0_t1_loop.trips) :
    arg6.view.read (Elt F) (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f6 y = k0_pay151 k0_pay182 (xt c arg2 f2 k)
      (fun x => arg6.view.read (Elt F) s0.f6 (ix2 (x 0 : Fin 8) (Fin.ofNat 5120 (256 * k.val + (x 1).val)))) (ix2 a b) :=
  sums_tiles arg6.view (fun n => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f6) (fun k w => k0_pay151 k0_pay182 (xt c arg2 f2 k) w)
    (fun k => st_step_f6 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k) k a b y hy0 hy1 n hk hn

/-- The scale bytes after the tile that finds them. -/
theorem scales_read (k : Fin k0_t1_loop.trips) (h : Fin 2) (g : Fin 8) (l : Fin 128) (y : S2x160x128.Idx) (hy0 : (y 0).val = h.val)
    (hy1 : (y 1).val = 8 * k.val + g.val) (hy2 : (y 2).val = l.val) (n : ℕ) (hk : k.val < n) (hn : n ≤ k0_t1_loop.trips) :
    arg10.view.read (Elt F) (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f10 y = scaleWord (gmS (yk c arg2 arg3 f2 f3 k) g.val (128 * h.val + l.val)) := by
  have hj : (fun a : Fin 2 => (ix3 (0 : Fin 1) g l : S1x8x128.Idx) a.succ) = (ix2 g l : S8x128.Idx) := funext fun a => by
    match a with
    | ⟨0, _⟩ => rfl
    | ⟨1, _⟩ => rfl
  have val : ∀ h : Fin 2, shapeCast S1x8x128 (fun j => scaleWord (gm c arg8 h (w8 c arg2 arg3 arg8 f2 f3 k) j)) shapeCasts_S8x128_S1x8x128 (ix3 (0 : Fin 1) g l)
      = scaleWord (gmS (yk c arg2 arg3 f2 f3 k) g.val (128 * h.val + l.val)) := fun h =>
    (shapeCast_addUnit_apply ![8, 128] _ _ _).trans ((congrArg (fun j : S8x128.Idx => scaleWord (gm c arg8 h (w8 c arg2 arg3 arg8 f2 f3 k) j)) hj).trans
      (congrArg scaleWord (gm_w8 c arg2 arg3 arg8 f2 f3 h k (ix2 g l))))
  match h with
  | 0 => exact (scales_tiles0 arg10.view (fun n => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f10) _ _ (fun k => st_step_f10 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k) k g l y hy1 hy2 n hk hn hy0).trans (val 0)
  | 1 => exact (scales_tiles1 arg10.view (fun n => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f10) _ _ (fun k => st_step_f10 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k) k g l y hy1 hy2 n hk hn hy0).trans (val 1)

/-- The codes after the tile that finds them. -/
theorem codes_read (s : ℕ) (h0 : arg0 = BitVec.ofNat 32 s) (h44 : ∀ j, v44 j = BitVec.ofNat 32 (j 1).val) (h45 : ∀ j, v45 j = BitVec.ofNat 32 (j 0).val)
    (k : Fin k0_t1_loop.trips) (h : Fin 2) (g : Fin 8) (k2 : Fin 8) (p : Fin 2) (l : Fin 128) (y : S256x2560.Idx)
    (hy0 : (y 0).val = 128 * h.val + l.val)
    (hy1 : (y 1).val = 128 * k.val + (16 * g.val + 2 * k2.val + p.val)) (n : ℕ) (hk : k.val < n) (hn : n ≤ k0_t1_loop.trips) :
    arg4.view.read (Elt F) (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f4 y = trunc8 (byteS (yk c arg2 arg3 f2 f3 k) (⟨![v1, v3, v5, v7, v9, v11, v13, v15, v17, v19], ![v21, v23, v25, v27, v29, v31, v33, v35, v37, v39]⟩ : Keys) (ctr s (128 * h.val + l.val) (8 * k.val + g.val) k2.val) g.val (128 * h.val + l.val) (2 * k2.val + p.val)) := by
  have hg := g.isLt
  have hl := l.isLt
  have hk2 := k2.isLt
  have hp := p.isLt
  have hb : 16 * g.val + 2 * k2.val + p.val < 128 := by omega
  have tr : ∀ (x : S128x128.Idx → BitVec 32), k0_pay167 (F := F) x (ix2 l ⟨_, hb⟩) = trunc8 (x (ix2 ⟨_, hb⟩ l)) := fun x =>
    congrArg trunc8 (transpose_apply _ _ _ _ (ix2 ⟨_, hb⟩ l) fun d => by
      match d with
      | ⟨0, _⟩ => rfl
      | ⟨1, _⟩ => rfl)
  have tr' : ∀ (x : S128x128.Idx → BitVec 32), k0_pay187 (F := F) x (ix2 l ⟨_, hb⟩) = trunc8 (x (ix2 ⟨_, hb⟩ l)) := tr
  match h with
  | 0 =>
    refine (codes_tiles0 arg4.view (fun n => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f4) _ _ (fun k => st_step_f4 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k) k l ⟨_, hb⟩ y hy1 n hk hn
      (by rw [hy0]; show 128 * 0 + l.val = l.val; omega)).trans ((tr _).trans (congrArg trunc8 ?_))
    refine a9_read c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v29 v31 v33 v35 v37 v39 v44 v45 f2 f3 k _ ⟨k2.val, lt_of_lt_of_eq hk2 trips2.symm⟩ p g l _ ?_ ?_ 8 hk2 (le_of_eq trips2.symm) _ ?_
    · show 0 + 1 * (16 * g.val + 2 * k2.val + p.val) = 16 * g.val + 2 * k2.val + p.val; omega
    · show 0 + 1 * l.val = l.val; omega
    · exact ctr0 s l.val g.val k.val k2.val _ _ _ h0 (h44 (ix2 g l)) (h45 (ix2 g l))
  | 1 =>
    refine (codes_tiles1 arg4.view (fun n => (st_k0_t1 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 n).f4) _ _ (fun k => st_step_f4 c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 s0 k) k l ⟨_, hb⟩ y hy1 n hk hn
      (by rw [hy0]; show 128 * 1 + l.val = 128 + l.val; omega)).trans ((tr' _).trans (congrArg trunc8 ?_))
    refine b9_read c i arg1 harg1 arg2 harg2 arg3 harg3 arg4 harg4 arg5 harg5 arg6 harg6 arg7 harg7 arg8 harg8 arg9 harg9 arg10 harg10 arg0 v1 v3 v5 v7 v9 v11 v13 v15 v17 v19 v21 v23 v25 v27 v28 c_m308364780_i32 v29 v31 v33 v35 v37 v39 v44 v45 f2 f3 k _ ⟨k2.val, lt_of_lt_of_eq hk2 trips3.symm⟩ p g l _ ?_ ?_ 8 hk2 (le_of_eq trips3.symm) _ ?_
    · show 0 + 1 * (16 * g.val + 2 * k2.val + p.val) = 16 * g.val + 2 * k2.val + p.val; omega
    · show 0 + 1 * l.val = l.val; omega
    · exact ctr1 s l.val g.val k.val k2.val _ _ _ h0 (h44 (ix2 g l)) (h45 (ix2 g l))
end

end Cert.Proof.KernelIdeal

end
-- ==== Proof.K.Val5.lean ====
module

public import proofs.«01_k».proof.Proof.Gen.KernelIdeal.Loops
public import proofs.«01_k».proof.Proof.Gen.KernelIdeal.Frame
public import proofs.«01_k».proof.Proof.K.Trip1
public import proofs.«01_k».proof.Proof.K.Body
public import proofs.«01_k».proof.Proof.K.Val1
public import proofs.«01_k».proof.Proof.K.Val4
public import proofs.«01_k».proof.Proof.K.Trip2
public import proofs.«01_k».proof.Proof.K.Trip3
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole)
variable (f1 : Buf (Elt F) (arg1.view.loc (c : Thread nD τ))) (f2 : Buf (Elt F) (arg2.view.loc (c : Thread nD τ))) (f3 : Buf (Elt F) (arg3.view.loc (c : Thread nD τ)))
/-- The state of the outer loop after its last trip. -/
def TT (s0 : St (F := F) c arg4 arg6 arg8 arg9 arg10) : St (F := F) c arg4 arg6 arg8 arg9 arg10 :=
  st_k0_t1 c i arg1 harg1 arg2 harg2 arg3 harg3 arg4 harg4 arg5 harg5 arg6 harg6 arg7 harg7 arg8 harg8 arg9 harg9 arg10 harg10 (BitVec.ofNat 32 (i 0).val) (run_first.sl.v1 c arg1 f1) (run_first.sl.v3 c arg1 f1) (run_first.sl.v5 c arg1 f1) (run_first.sl.v7 c arg1 f1) (run_first.sl.v9 c arg1 f1) (run_first.sl.v11 c arg1 f1) (run_first.sl.v13 c arg1 f1) (run_first.sl.v15 c arg1 f1) (run_first.sl.v17 c arg1 f1) (run_first.sl.v19 c arg1 f1) (run_first.sl.v21 c arg1 f1) (run_first.sl.v23 c arg1 f1) (run_first.sl.v25 c arg1 f1) (run_first.sl.v27 c arg1 f1) (run_first.sl.r_1 c arg1 f1) 3986602516#32 (run_first.sl.v29 c arg1 f1) (run_first.sl.v31 c arg1 f1) (run_first.sl.v33 c arg1 f1) (run_first.sl.v35 c arg1 f1) (run_first.sl.v37 c arg1 f1) (run_first.sl.v39 c arg1 f1) run_first.sl.v44 run_first.sl.v45 f2 f3 s0 20

/-- What the first step leaves of the codes: what the loop over tiles leaves. -/
theorem run_first_f4 (hC : cond0 i) (f4 f5 f6 f7 f8 f9 f10) : (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f4 = (TT c i arg1 harg1 arg2 harg2 arg3 harg3 arg4 harg4 arg5 harg5 arg6 harg6 arg7 harg7 arg8 harg8 arg9 harg9 arg10 harg10 f1 f2 f3 ⟨k0_pay183, f4, (arg6.view.writes (Elt F) arg6.view.junk [⟨Rect.unit ![0, 0] S8x5120.size inb_S8x5120_S8x5120_0_0, k0_pay180⟩]), f8, f9, f10⟩).f4 := by
  unfold run_first
  rfl

/-- What the first step leaves of the scale bytes: the two halves of the scales, turned. -/
theorem run_first_f5 (hC : cond0 i) (f4 f5 f6 f7 f8 f9 f10) : (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f5 = arg5.view.writes (Elt F) f5
    [⟨Rect.unit ![128, 0] S128x160.size inb_S256x160_S128x160_128_0, k0_pay1 (arg10.view.readAt (Elt F) (Rect.unit (s := S2x160x128) ![1, 0, 0] S1x160x128.size inb_S2x160x128_S1x160x128_1_0_0).toLoadRect (TT c i arg1 harg1 arg2 harg2 arg3 harg3 arg4 harg4 arg5 harg5 arg6 harg6 arg7 harg7 arg8 harg8 arg9 harg9 arg10 harg10 f1 f2 f3 ⟨k0_pay183, f4, (arg6.view.writes (Elt F) arg6.view.junk [⟨Rect.unit ![0, 0] S8x5120.size inb_S8x5120_S8x5120_0_0, k0_pay180⟩]), f8, f9, f10⟩).f10)⟩,
      ⟨Rect.unit ![0, 0] S128x160.size inb_S256x160_S128x160_0_0, k0_pay189 (arg10.view.readAt (Elt F) (Rect.unit (s := S2x160x128) ![0, 0, 0] S1x160x128.size inb_S2x160x128_S1x160x128_0_0_0).toLoadRect (TT c i arg1 harg1 arg2 harg2 arg3 harg3 arg4 harg4 arg5 harg5 arg6 harg6 arg7 harg7 arg8 harg8 arg9 harg9 arg10 harg10 f1 f2 f3 ⟨k0_pay183, f4, (arg6.view.writes (Elt F) arg6.view.junk [⟨Rect.unit ![0, 0] S8x5120.size inb_S8x5120_S8x5120_0_0, k0_pay180⟩]), f8, f9, f10⟩).f10)⟩] := by
  unfold run_first
  rfl

/-- What the first step leaves of the sums: what the loop leaves, from zero. -/
theorem run_first_f6 (hC : cond0 i) (f4 f5 f6 f7 f8 f9 f10) : (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f6 = (TT c i arg1 harg1 arg2 harg2 arg3 harg3 arg4 harg4 arg5 harg5 arg6 harg6 arg7 harg7 arg8 harg8 arg9 harg9 arg10 harg10 f1 f2 f3 ⟨k0_pay183, f4, (arg6.view.writes (Elt F) arg6.view.junk [⟨Rect.unit ![0, 0] S8x5120.size inb_S8x5120_S8x5120_0_0, k0_pay180⟩]), f8, f9, f10⟩).f6 := by
  unfold run_first
  rfl

/-- What the first step leaves of the largest magnitudes: the maximum of zero and the loop's. -/
theorem run_first_f7 (hC : cond0 i) (f4 f5 f6 f7 f8 f9 f10) : (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f7 = arg7.view.writes (Elt F) arg7.view.junk
    (⟨Rect.unit ![0, 0] S8x128.size inb_S8x128_S8x128_0_0, k0_pay188 (TT c i arg1 harg1 arg2 harg2 arg3 harg3 arg4 harg4 arg5 harg5 arg6 harg6 arg7 harg7 arg8 harg8 arg9 harg9 arg10 harg10 f1 f2 f3 ⟨k0_pay183, f4, (arg6.view.writes (Elt F) arg6.view.junk [⟨Rect.unit ![0, 0] S8x5120.size inb_S8x5120_S8x5120_0_0, k0_pay180⟩]), f8, f9, f10⟩).acc (run_first.sl.v49 arg7)⟩ :: run_first.sl.H7_1) := by
  unfold run_first
  rfl

/-- What a later step leaves of the codes: what the loop over tiles leaves. -/
theorem run_later_f4 (hC : ¬ cond0 i) (f4 f5 f6 f7 f8 f9 f10) : (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f4 = (TT c i arg1 harg1 arg2 harg2 arg3 harg3 arg4 harg4 arg5 harg5 arg6 harg6 arg7 harg7 arg8 harg8 arg9 harg9 arg10 harg10 f1 f2 f3 ⟨k0_pay183, f4, f6, f8, f9, f10⟩).f4 := by
  unfold run_later
  rfl

/-- What a later step leaves of the scale bytes: the two halves of the scales, turned. -/
theorem run_later_f5 (hC : ¬ cond0 i) (f4 f5 f6 f7 f8 f9 f10) : (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f5 = arg5.view.writes (Elt F) f5
    [⟨Rect.unit ![128, 0] S128x160.size inb_S256x160_S128x160_128_0, k0_pay1 (arg10.view.readAt (Elt F) (Rect.unit (s := S2x160x128) ![1, 0, 0] S1x160x128.size inb_S2x160x128_S1x160x128_1_0_0).toLoadRect (TT c i arg1 harg1 arg2 harg2 arg3 harg3 arg4 harg4 arg5 harg5 arg6 harg6 arg7 harg7 arg8 harg8 arg9 harg9 arg10 harg10 f1 f2 f3 ⟨k0_pay183, f4, f6, f8, f9, f10⟩).f10)⟩,
      ⟨Rect.unit ![0, 0] S128x160.size inb_S256x160_S128x160_0_0, k0_pay189 (arg10.view.readAt (Elt F) (Rect.unit (s := S2x160x128) ![0, 0, 0] S1x160x128.size inb_S2x160x128_S1x160x128_0_0_0).toLoadRect (TT c i arg1 harg1 arg2 harg2 arg3 harg3 arg4 harg4 arg5 harg5 arg6 harg6 arg7 harg7 arg8 harg8 arg9 harg9 arg10 harg10 f1 f2 f3 ⟨k0_pay183, f4, f6, f8, f9, f10⟩).f10)⟩] := by
  unfold run_later
  rfl

/-- What a later step leaves of the sums: what the loop leaves, from those it found. -/
theorem run_later_f6 (hC : ¬ cond0 i) (f4 f5 f6 f7 f8 f9 f10) : (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f6 = (TT c i arg1 harg1 arg2 harg2 arg3 harg3 arg4 harg4 arg5 harg5 arg6 harg6 arg7 harg7 arg8 harg8 arg9 harg9 arg10 harg10 f1 f2 f3 ⟨k0_pay183, f4, f6, f8, f9, f10⟩).f6 := by
  unfold run_later
  rfl

/-- What a later step leaves of the largest magnitudes: the maximum of those it found and the loop's. -/
theorem run_later_f7 (hC : ¬ cond0 i) (f4 f5 f6 f7 f8 f9 f10) : (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f7 = arg7.view.writes (Elt F) f7
    (⟨Rect.unit ![0, 0] S8x128.size inb_S8x128_S8x128_0_0, k0_pay188 (TT c i arg1 harg1 arg2 harg2 arg3 harg3 arg4 harg4 arg5 harg5 arg6 harg6 arg7 harg7 arg8 harg8 arg9 harg9 arg10 harg10 f1 f2 f3 ⟨k0_pay183, f4, f6, f8, f9, f10⟩).acc (arg7.view.readAt (Elt F) (Rect.unit ![0, 0] S8x128.size inb_S8x128_S8x128_0_0).toLoadRect f7)⟩ :: []) := by
  unfold run_later
  rfl

end

end Cert.Proof.KernelIdeal

end
-- ==== Proof.K.Val6.lean ====
module

public import proofs.«01_k».proof.Proof.Gen.KernelIdeal.Loops
public import proofs.«01_k».proof.Proof.Gen.KernelIdeal.Frame
public import proofs.«01_k».proof.Proof.K.Trip1
public import proofs.«01_k».proof.Proof.K.Body
public import proofs.«01_k».proof.Proof.K.Val1
public import proofs.«01_k».proof.Proof.K.Val5
public import proofs.«01_k».proof.Proof.K.Val4
public import proofs.«01_k».proof.Proof.K.Trip2
public import proofs.«01_k».proof.Proof.K.Trip3
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole)
variable (f1 : Buf (Elt F) (arg1.view.loc (c : Thread nD τ))) (f2 : Buf (Elt F) (arg2.view.loc (c : Thread nD τ))) (f3 : Buf (Elt F) (arg3.view.loc (c : Thread nD τ)))
/-- The key words of the ten rounds that the body computes are the seed words plus multiples of the two constants. -/
theorem keys_eq : ({ a := ![(run_first.sl.v1 c arg1 f1), (run_first.sl.v3 c arg1 f1), (run_first.sl.v5 c arg1 f1), (run_first.sl.v7 c arg1 f1), (run_first.sl.v9 c arg1 f1), (run_first.sl.v11 c arg1 f1), (run_first.sl.v13 c arg1 f1), (run_first.sl.v15 c arg1 f1), (run_first.sl.v17 c arg1 f1), (run_first.sl.v19 c arg1 f1)], b := ![(run_first.sl.v21 c arg1 f1), (run_first.sl.v23 c arg1 f1), (run_first.sl.v25 c arg1 f1), (run_first.sl.v27 c arg1 f1), (run_first.sl.v29 c arg1 f1), (run_first.sl.v31 c arg1 f1), (run_first.sl.v33 c arg1 f1), (run_first.sl.v35 c arg1 f1), (run_first.sl.v37 c arg1 f1), (run_first.sl.v39 c arg1 f1)] } : Keys) = keysOf (run_first.sl.r c arg1 f1) (run_first.sl.r_1 c arg1 f1) := by
  unfold keysOf
  congr 1
  · funext r
    fin_cases r <;> rfl
  · funext r
    fin_cases r <;> rfl

/-- The columns of the input that a trip reads are the tile. -/
theorem xt_tile (k : Fin k0_t1_loop.trips) : xt c arg2 f2 k = tile (arg2.view.read (Elt F) f2) k.val := by
  funext p
  unfold xt tile
  rw [View.readAt_apply]
  refine congrArg _ (funext fun d => Fin.ext ?_)
  have e := congrFun (k0_off1_eq k) d
  have h1 : (p 1).val < 256 := (p 1).isLt
  have hk := lt_of_lt_of_eq k.isLt trips1
  show (k0_off1 k) d + 1 * (p d).val = _
  match d with
  | ⟨0, _⟩ =>
    change _ = 0 at e
    refine (congrArg (fun t => t + 1 * (p 0).val) e).trans ?_
    show 0 + 1 * (p 0).val = (p 0).val
    omega
  | ⟨1, _⟩ =>
    change _ = 256 * k.val at e
    refine (congrArg (fun t => t + 1 * (p 1).val) e).trans ?_
    show 256 * k.val + 1 * (p 1).val = (256 * k.val + (p 1).val) % 5120
    omega

/-- The product of a trip is the product of the selection matrix and the tile. -/
theorem yk_eq (k : Fin k0_t1_loop.trips) : yk c arg2 arg3 f2 f3 k = yS (arg2.view.read (Elt F) f2) (arg3.view.read (Elt F) f3) k.val := by
  unfold yk yS
  rw [xt_tile]
  exact congrArg (k0_pay152 _) (View.ld_unit_zero (by decide) inb_S256x256_S256x256_0_0 _)

/-- The sums, once cleared, are zero. -/
theorem init6 : arg6.view.read (Elt F) (arg6.view.writes (Elt F) arg6.view.junk [⟨Rect.unit ![0, 0] S8x5120.size inb_S8x5120_S8x5120_0_0, k0_pay180⟩]) = k0_pay180 := by
  funext y
  exact View.read_writes_cons_unit_of_mem (Val := Elt F) (off' := fun _ => 0) arg6.view arg6.view.junk inb_S8x5120_S8x5120_0_0 k0_pay180 [] y y
    (by decide) fun a => (Nat.zero_add _).symm

/-- The largest magnitudes, once cleared, are zero. -/
theorem init7 : run_first.sl.v49 (F := F) arg7 = k0_pay181 := by
  unfold run_first.sl.v49 run_first.sl.H7_1
  exact View.readCov_unit_zero arg7.view (by decide) _ _

variable (s0 : St (F := F) c arg4 arg6 arg8 arg9 arg10)

/-- The codes after all tiles. -/
theorem TT_codes : arg4.view.read (Elt F) (TT c i arg1 harg1 arg2 harg2 arg3 harg3 arg4 harg4 arg5 harg5 arg6 harg6 arg7 harg7 arg8 harg8 arg9 harg9 arg10 harg10 f1 f2 f3 s0).f4 = codesB (arg2.view.read (Elt F) f2) (arg3.view.read (Elt F) f3) (run_first.sl.r c arg1 f1) (run_first.sl.r_1 c arg1 f1) (i 0).val := by
  funext y
  have h0 : (y 0).val < 256 := (y 0).isLt
  have h1 : (y 1).val < 2560 := (y 1).isLt
  unfold TT codesB
  refine (codes_read c i arg1 harg1 arg2 harg2 arg3 harg3 arg4 harg4 arg5 harg5 arg6 harg6 arg7 harg7 arg8 harg8 arg9 harg9 arg10 harg10 (BitVec.ofNat 32 (i 0).val) (run_first.sl.v1 c arg1 f1) (run_first.sl.v3 c arg1 f1) (run_first.sl.v5 c arg1 f1) (run_first.sl.v7 c arg1 f1) (run_first.sl.v9 c arg1 f1) (run_first.sl.v11 c arg1 f1) (run_first.sl.v13 c arg1 f1) (run_first.sl.v15 c arg1 f1) (run_first.sl.v17 c arg1 f1) (run_first.sl.v19 c arg1 f1) (run_first.sl.v21 c arg1 f1) (run_first.sl.v23 c arg1 f1) (run_first.sl.v25 c arg1 f1) (run_first.sl.v27 c arg1 f1) (run_first.sl.r_1 c arg1 f1) 3986602516#32 (run_first.sl.v29 c arg1 f1) (run_first.sl.v31 c arg1 f1) (run_first.sl.v33 c arg1 f1) (run_first.sl.v35 c arg1 f1) (run_first.sl.v37 c arg1 f1) (run_first.sl.v39 c arg1 f1) run_first.sl.v44 run_first.sl.v45 f2 f3 s0 (i 0).val rfl (fun j => iota_single_apply _ _ _ _ _ _) (fun j => iota_single_apply _ _ _ _ _ _)
    ⟨(y 1).val / 128, by rw [trips1]; omega⟩ ⟨(y 0).val / 128, by omega⟩ ⟨(y 1).val / 16 % 8, by omega⟩ ⟨(y 1).val % 16 / 2, by omega⟩
    ⟨(y 1).val % 2, by omega⟩ ⟨(y 0).val % 128, by omega⟩ y (by show _ = 128 * ((y 0).val / 128) + (y 0).val % 128; omega)
    (by show _ = 128 * ((y 1).val / 128) + (16 * ((y 1).val / 16 % 8) + 2 * ((y 1).val % 16 / 2) + (y 1).val % 2); omega) 20
    (by show (y 1).val / 128 < 20; omega) (le_of_eq trips1.symm)).trans ?_
  rw [keys_eq, yk_eq]
  have e1 : 128 * ((y 0).val / 128) + (y 0).val % 128 = (y 0).val := by omega
  have e2 : 8 * ((y 1).val / 128) + (y 1).val / 16 % 8 = (y 1).val / 16 := by omega
  have e3 : 2 * ((y 1).val % 16 / 2) + (y 1).val % 2 = (y 1).val % 16 := by omega
  show trunc8 (byteS _ _ (ctr _ (128 * ((y 0).val / 128) + (y 0).val % 128) (8 * ((y 1).val / 128) + (y 1).val / 16 % 8) _) _
    (128 * ((y 0).val / 128) + (y 0).val % 128) (2 * ((y 1).val % 16 / 2) + (y 1).val % 2)) = _
  rw [e1, e2, e3]

/-- The sums after all tiles. -/
theorem TT_sums : arg6.view.read (Elt F) (TT c i arg1 harg1 arg2 harg2 arg3 harg3 arg4 harg4 arg5 harg5 arg6 harg6 arg7 harg7 arg8 harg8 arg9 harg9 arg10 harg10 f1 f2 f3 s0).f6 = sumsB (arg2.view.read (Elt F) f2) (arg6.view.read (Elt F) s0.f6) := by
  funext y
  have h0 : (y 0).val < 8 := (y 0).isLt
  have h1 : (y 1).val < 5120 := (y 1).isLt
  unfold TT sumsB
  refine (sums_read c i arg1 harg1 arg2 harg2 arg3 harg3 arg4 harg4 arg5 harg5 arg6 harg6 arg7 harg7 arg8 harg8 arg9 harg9 arg10 harg10 (BitVec.ofNat 32 (i 0).val) (run_first.sl.v1 c arg1 f1) (run_first.sl.v3 c arg1 f1) (run_first.sl.v5 c arg1 f1) (run_first.sl.v7 c arg1 f1) (run_first.sl.v9 c arg1 f1) (run_first.sl.v11 c arg1 f1) (run_first.sl.v13 c arg1 f1) (run_first.sl.v15 c arg1 f1) (run_first.sl.v17 c arg1 f1) (run_first.sl.v19 c arg1 f1) (run_first.sl.v21 c arg1 f1) (run_first.sl.v23 c arg1 f1) (run_first.sl.v25 c arg1 f1) (run_first.sl.v27 c arg1 f1) (run_first.sl.r_1 c arg1 f1) 3986602516#32 (run_first.sl.v29 c arg1 f1) (run_first.sl.v31 c arg1 f1) (run_first.sl.v33 c arg1 f1) (run_first.sl.v35 c arg1 f1) (run_first.sl.v37 c arg1 f1) (run_first.sl.v39 c arg1 f1) run_first.sl.v44 run_first.sl.v45 f2 f3 s0 ⟨(y 1).val / 256, by rw [trips1]; omega⟩ (y 0) ⟨(y 1).val % 256, by omega⟩ y rfl
    (by show _ = 256 * ((y 1).val / 256) + (y 1).val % 256; omega) 20 (by show (y 1).val / 256 < 20; omega) (le_of_eq trips1.symm)).trans ?_
  rw [xt_tile]
  rfl

/-- The largest magnitudes after all tiles. -/
theorem TT_acc (j : S8x128.Idx) : (TT c i arg1 harg1 arg2 harg2 arg3 harg3 arg4 harg4 arg5 harg5 arg6 harg6 arg7 harg7 arg8 harg8 arg9 harg9 arg10 harg10 f1 f2 f3 s0).acc j = accS (yS (arg2.view.read (Elt F) f2) (arg3.view.read (Elt F) f3)) (s0.acc j) (j 0).val (j 1).val 20 := by
  unfold TT
  exact acc_read c i arg1 harg1 arg2 harg2 arg3 harg3 arg4 harg4 arg5 harg5 arg6 harg6 arg7 harg7 arg8 harg8 arg9 harg9 arg10 harg10 (BitVec.ofNat 32 (i 0).val) (run_first.sl.v1 c arg1 f1) (run_first.sl.v3 c arg1 f1) (run_first.sl.v5 c arg1 f1) (run_first.sl.v7 c arg1 f1) (run_first.sl.v9 c arg1 f1) (run_first.sl.v11 c arg1 f1) (run_first.sl.v13 c arg1 f1) (run_first.sl.v15 c arg1 f1) (run_first.sl.v17 c arg1 f1) (run_first.sl.v19 c arg1 f1) (run_first.sl.v21 c arg1 f1) (run_first.sl.v23 c arg1 f1) (run_first.sl.v25 c arg1 f1) (run_first.sl.v27 c arg1 f1) (run_first.sl.r_1 c arg1 f1) 3986602516#32 (run_first.sl.v29 c arg1 f1) (run_first.sl.v31 c arg1 f1) (run_first.sl.v33 c arg1 f1) (run_first.sl.v35 c arg1 f1) (run_first.sl.v37 c arg1 f1) (run_first.sl.v39 c arg1 f1) run_first.sl.v44 run_first.sl.v45 f2 f3 s0 _ (fun k => (yk_eq c arg2 arg3 f2 f3 k).symm) j 20 (le_of_eq trips1.symm)

/-- The scales after all tiles. -/
theorem TT_scale (y : S2x160x128.Idx) : arg10.view.read (Elt F) (TT c i arg1 harg1 arg2 harg2 arg3 harg3 arg4 harg4 arg5 harg5 arg6 harg6 arg7 harg7 arg8 harg8 arg9 harg9 arg10 harg10 f1 f2 f3 s0).f10 y
    = scaleWord (gmS (yS (arg2.view.read (Elt F) f2) (arg3.view.read (Elt F) f3) ((y 1).val / 8)) ((y 1).val % 8) (128 * (y 0).val + (y 2).val)) := by
  have h0 : (y 0).val < 2 := (y 0).isLt
  have h1 : (y 1).val < 160 := (y 1).isLt
  unfold TT
  refine (scales_read c i arg1 harg1 arg2 harg2 arg3 harg3 arg4 harg4 arg5 harg5 arg6 harg6 arg7 harg7 arg8 harg8 arg9 harg9 arg10 harg10 (BitVec.ofNat 32 (i 0).val) (run_first.sl.v1 c arg1 f1) (run_first.sl.v3 c arg1 f1) (run_first.sl.v5 c arg1 f1) (run_first.sl.v7 c arg1 f1) (run_first.sl.v9 c arg1 f1) (run_first.sl.v11 c arg1 f1) (run_first.sl.v13 c arg1 f1) (run_first.sl.v15 c arg1 f1) (run_first.sl.v17 c arg1 f1) (run_first.sl.v19 c arg1 f1) (run_first.sl.v21 c arg1 f1) (run_first.sl.v23 c arg1 f1) (run_first.sl.v25 c arg1 f1) (run_first.sl.v27 c arg1 f1) (run_first.sl.r_1 c arg1 f1) 3986602516#32 (run_first.sl.v29 c arg1 f1) (run_first.sl.v31 c arg1 f1) (run_first.sl.v33 c arg1 f1) (run_first.sl.v35 c arg1 f1) (run_first.sl.v37 c arg1 f1) (run_first.sl.v39 c arg1 f1) run_first.sl.v44 run_first.sl.v45 f2 f3 s0 ⟨(y 1).val / 8, by rw [trips1]; omega⟩ (y 0) ⟨(y 1).val % 8, by omega⟩ (y 2) y rfl
    (by show _ = 8 * ((y 1).val / 8) + (y 1).val % 8; omega) rfl 20 (by show (y 1).val / 8 < 20; omega) (le_of_eq trips1.symm)).trans ?_
  rw [yk_eq]

/-- The scale bytes, once the two halves of the scales are turned and written. -/
theorem TT_scales (f5) : arg5.view.read (Elt F) (arg5.view.writes (Elt F) f5
    [⟨Rect.unit ![128, 0] S128x160.size inb_S256x160_S128x160_128_0, k0_pay1 (arg10.view.readAt (Elt F) (Rect.unit (s := S2x160x128) ![1, 0, 0] S1x160x128.size inb_S2x160x128_S1x160x128_1_0_0).toLoadRect (TT c i arg1 harg1 arg2 harg2 arg3 harg3 arg4 harg4 arg5 harg5 arg6 harg6 arg7 harg7 arg8 harg8 arg9 harg9 arg10 harg10 f1 f2 f3 s0).f10)⟩,
      ⟨Rect.unit ![0, 0] S128x160.size inb_S256x160_S128x160_0_0, k0_pay189 (arg10.view.readAt (Elt F) (Rect.unit (s := S2x160x128) ![0, 0, 0] S1x160x128.size inb_S2x160x128_S1x160x128_0_0_0).toLoadRect (TT c i arg1 harg1 arg2 harg2 arg3 harg3 arg4 harg4 arg5 harg5 arg6 harg6 arg7 harg7 arg8 harg8 arg9 harg9 arg10 harg10 f1 f2 f3 s0).f10)⟩])
    = scalesB (arg2.view.read (Elt F) f2) (arg3.view.read (Elt F) f3) :=
  scales_out arg5.view f5 arg10.view _ _ _ (fun y => TT_scale c i arg1 harg1 arg2 harg2 arg3 harg3 arg4 harg4 arg5 harg5 arg6 harg6 arg7 harg7 arg8 harg8 arg9 harg9 arg10 harg10 f1 f2 f3 s0 y)

/-- What the body leaves in the four windows it writes. -/
theorem run_first_out (hC : cond0 i) (f4 f5 f6 f7 f8 f9 f10) :
    arg4.view.read (Elt F) (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f4 = codesB (arg2.view.read (Elt F) f2) (arg3.view.read (Elt F) f3) (run_first.sl.r c arg1 f1) (run_first.sl.r_1 c arg1 f1) (i 0).val
      ∧ arg5.view.read (Elt F) (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f5 = scalesB (arg2.view.read (Elt F) f2) (arg3.view.read (Elt F) f3)
      ∧ arg6.view.read (Elt F) (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f6 = sumsB (arg2.view.read (Elt F) f2) k0_pay180
      ∧ arg7.view.read (Elt F) (run_first c i arg1 harg1 arg2 harg2 arg3 harg3 arg4 harg4 arg5 harg5 arg6 harg6 arg7 harg7 arg8 harg8 arg9 harg9 arg10 harg10 f1 f2 f3 hC ⟨f4, f5, f6, f7, f8, f9, f10⟩).1.f7 = amaxB (arg2.view.read (Elt F) f2) (arg3.view.read (Elt F) f3) k0_pay181 := by
  refine ⟨?_, ?_, ?_, ?_⟩
  · rw [run_first_f4]
    exact TT_codes c i arg1 harg1 arg2 harg2 arg3 harg3 arg4 harg4 arg5 harg5 arg6 harg6 arg7 harg7 arg8 harg8 arg9 harg9 arg10 harg10 f1 f2 f3 _
  · rw [run_first_f5]
    exact TT_scales c i arg1 harg1 arg2 harg2 arg3 harg3 arg4 harg4 arg5 harg5 arg6 harg6 arg7 harg7 arg8 harg8 arg9 harg9 arg10 harg10 f1 f2 f3 _ f5
  · rw [run_first_f6]
    refine (TT_sums c i arg1 harg1 arg2 harg2 arg3 harg3 arg4 harg4 arg5 harg5 arg6 harg6 arg7 harg7 arg8 harg8 arg9 harg9 arg10 harg10 f1 f2 f3 _).trans (congrArg (sumsB (arg2.view.read (Elt F) f2)) ?_)
    dsimp only
    with_reducible exact init6 (F := F) arg6
  · rw [run_first_f7]
    funext y
    refine (View.read_writes_cons_unit_of_mem (Val := Elt F) (off' := fun _ => 0) arg7.view _ inb_S8x128_S8x128_0_0 _ _ y y (by decide) fun a => (Nat.zero_add _).symm).trans ?_
    unfold k0_pay188
    rw [shapeCast_self]
    refine (congrArg (fun t => FloatOps.maximumf _ t) (TT_acc c i arg1 harg1 arg2 harg2 arg3 harg3 arg4 harg4 arg5 harg5 arg6 harg6 arg7 harg7 arg8 harg8 arg9 harg9 arg10 harg10 f1 f2 f3 _ y)).trans ?_
    exact congrArg (fun t => FloatOps.maximumf (t y) _) (init7 (F := F) arg7)

/-- What the body leaves in the four windows it writes. -/
theorem run_later_out (hC : ¬ cond0 i) (f4 f5 f6 f7 f8 f9 f10) :
    arg4.view.read (Elt F) (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f4 = codesB (arg2.view.read (Elt F) f2) (arg3.view.read (Elt F) f3) (run_first.sl.r c arg1 f1) (run_first.sl.r_1 c arg1 f1) (i 0).val
      ∧ arg5.view.read (Elt F) (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f5 = scalesB (arg2.view.read (Elt F) f2) (arg3.view.read (Elt F) f3)
      ∧ arg6.view.read (Elt F) (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f6 = sumsB (arg2.view.read (Elt F) f2) (arg6.view.read (Elt F) f6)
      ∧ arg7.view.read (Elt F) (run_later c i arg1 harg1 arg2 harg2 arg3 harg3 arg4 harg4 arg5 harg5 arg6 harg6 arg7 harg7 arg8 harg8 arg9 harg9 arg10 harg10 f1 f2 f3 hC ⟨f4, f5, f6, f7, f8, f9, f10⟩).1.f7 = amaxB (arg2.view.read (Elt F) f2) (arg3.view.read (Elt F) f3) (arg7.view.read (Elt F) f7) := by
  refine ⟨?_, ?_, ?_, ?_⟩
  · rw [run_later_f4]
    exact TT_codes c i arg1 harg1 arg2 harg2 arg3 harg3 arg4 harg4 arg5 harg5 arg6 harg6 arg7 harg7 arg8 harg8 arg9 harg9 arg10 harg10 f1 f2 f3 _
  · rw [run_later_f5]
    exact TT_scales c i arg1 harg1 arg2 harg2 arg3 harg3 arg4 harg4 arg5 harg5 arg6 harg6 arg7 harg7 arg8 harg8 arg9 harg9 arg10 harg10 f1 f2 f3 _ f5
  · rw [run_later_f6]
    refine (TT_sums c i arg1 harg1 arg2 harg2 arg3 harg3 arg4 harg4 arg5 harg5 arg6 harg6 arg7 harg7 arg8 harg8 arg9 harg9 arg10 harg10 f1 f2 f3 _).trans (congrArg (sumsB (arg2.view.read (Elt F) f2)) ?_)
    rfl
  · rw [run_later_f7]
    funext y
    refine (View.read_writes_cons_unit_of_mem (Val := Elt F) (off' := fun _ => 0) arg7.view _ inb_S8x128_S8x128_0_0 _ _ y y (by decide) fun a => (Nat.zero_add _).symm).trans ?_
    unfold k0_pay188
    rw [shapeCast_self]
    refine (congrArg (fun t => FloatOps.maximumf _ t) (TT_acc c i arg1 harg1 arg2 harg2 arg3 harg3 arg4 harg4 arg5 harg5 arg6 harg6 arg7 harg7 arg8 harg8 arg9 harg9 arg10 harg10 f1 f2 f3 _ y)).trans ?_
    exact congrArg (fun t => FloatOps.maximumf (t y) _) (View.ld_unit_zero (by decide) inb_S8x128_S8x128_0_0 (arg7.view.read (Elt F) f7))

end

end Cert.Proof.KernelIdeal

end
-- ==== Proof.K.Triple.lean ====
module

public import proofs.«01_k».proof.Proof.Gen.KernelIdeal.Loops
public import proofs.«01_k».proof.Proof.Gen.KernelIdeal.Frame
public import proofs.«01_k».proof.Proof.K.Body
public import proofs.«01_k».proof.Proof.K.Val6
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable (c : Dev nD) (i : grid0.Coords) (arg1 : Memref sig .tc .smem S2 .i32) (harg1 : arg1.IsWhole) (arg2 : Memref sig .tc .vmem S256x5120 .bf16) (harg2 : arg2.IsWhole) (arg3 : Memref sig .tc .vmem S256x256 .bf16) (harg3 : arg3.IsWhole) (arg4 : Memref sig .tc .vmem S256x2560 .i8) (harg4 : arg4.IsWhole) (arg5 : Memref sig .tc .vmem S256x160 .i8) (harg5 : arg5.IsWhole) (arg6 : Memref sig .tc .vmem S8x5120 .f32) (harg6 : arg6.IsWhole) (arg7 : Memref sig .tc .vmem S8x128 .f32) (harg7 : arg7.IsWhole) (arg8 : Memref sig .tc .vmem S256x256 .f32) (harg8 : arg8.IsWhole) (arg9 : Memref sig .tc .vmem S128x128 .i32) (harg9 : arg9.IsWhole) (arg10 : Memref sig .tc .vmem S2x160x128 .i32) (harg10 : arg10.IsWhole)
variable (X1 : Vec F S2 .i32) (X : Vec F S256x5120 .bf16) (SEL : Vec F S256x256 .bf16)

/-- The windows of the body at given blocks, and its scratch at any contents. -/
def blocks (p4 : Vec F S256x2560 .i8) (p5 : Vec F S256x160 .i8) (p6 : Vec F S8x5120 .f32) (p7 : Vec F S8x128 .f32) : sProp 𝕄 :=
  iprop(owns (c : Thread nD τ) arg1 fullShare X1 ∗ owns (c : Thread nD τ) arg2 fullShare X ∗ owns (c : Thread nD τ) arg3 fullShare SEL ∗ owns (c : Thread nD τ) arg4 fullShare p4 ∗ owns (c : Thread nD τ) arg5 fullShare p5 ∗ owns (c : Thread nD τ) arg6 fullShare p6 ∗ owns (c : Thread nD τ) arg7 fullShare p7 ∗ (∃ f, (arg8.view.loc (c : Thread nD τ)) ↦[arg8.view.set]{fullShare} f) ∗ (∃ f, (arg9.view.loc (c : Thread nD τ)) ↦[arg9.view.set]{fullShare} f) ∗ (∃ f, (arg10.view.loc (c : Thread nD τ)) ↦[arg10.view.set]{fullShare} f))

/-- The first seed word the body reads. -/
theorem seed_0 (f1 : Buf (Elt F) (arg1.view.loc (c : Thread nD τ))) : run_first.sl.r c arg1 f1 = arg1.view.read (Elt F) f1 (ix1 0) := by
  unfold run_first.sl.r
  refine (View.readAt_apply _ _ _).trans (congrArg (arg1.view.read (Elt F) f1) ?_)
  funext a; match a with | ⟨0, _⟩ => rfl

/-- The second seed word the body reads. -/
theorem seed_1 (f1 : Buf (Elt F) (arg1.view.loc (c : Thread nD τ))) : run_first.sl.r_1 c arg1 f1 = arg1.view.read (Elt F) f1 (ix1 1) := by
  unfold run_first.sl.r_1
  refine (View.readAt_apply _ _ _).trans (congrArg (arg1.view.read (Elt F) f1) ?_)
  funext a; match a with | ⟨0, _⟩ => rfl

/-- The body at the first step: from the blocks it reads to the blocks it leaves. -/
theorem body_first (hC : cond0 i) (p4 p5 p6 p7) :
    blocks c arg1 arg2 arg3 arg4 arg5 arg6 arg7 arg8 arg9 arg10 X1 X SEL p4 p5 p6 p7
      ⊢ wp frame (wpE (defs₀ (F := F)) Variants.none c none) Set.univ (cc0_mxfp4_quant (F := F) i arg1 harg1 arg2 harg2 arg3 harg3 arg4 harg4 arg5 harg5 arg6 harg6 arg7 harg7 arg8 harg8 arg9 harg9 arg10 harg10)
          (fun _ => blocks c arg1 arg2 arg3 arg4 arg5 arg6 arg7 arg8 arg9 arg10 X1 X SEL
            (codesB X SEL (X1 (ix1 0)) (X1 (ix1 1)) (i 0).val) (scalesB X SEL) (sumsB X k0_pay180) (amaxB X SEL k0_pay181)) := by
  unfold blocks owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, H8⟩, ⟨%f9, H9⟩, ⟨%f10, H10⟩⟩
  have hout := run_first_out c i arg1 harg1 arg2 harg2 arg3 harg3 arg4 harg4 arg5 harg5 arg6 harg6 arg7 harg7 arg8 harg8 arg9 harg9 arg10 harg10 f1 f2 f3 hC f4 f5 f6 f7 f8 f9 f10
  rw [seed_0, seed_1, e1, e2, e3] at hout
  obtain ⟨o4, o5, o6, o7⟩ := hout
  iapply wp_wand_r
  isplitl [H1 H2 H3 H4 H5 H6 H7 H8 H9 H10]
  · iapply ((run_first c i arg1 harg1 arg2 harg2 arg3 harg3 arg4 harg4 arg5 harg5 arg6 harg6 arg7 harg7 arg8 harg8 arg9 harg9 arg10 harg10 f1 f2 f3 hC ⟨f4, f5, f6, f7, f8, f9, f10⟩).2)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %u ⟨H1, H2, H3, H4, H5, H6, H7, H8, H9, H10⟩
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact o4
  isplitl [H5]; · iexists _; isplitr; swap; · iexact H5
                  ipureintro; exact o5
  isplitl [H6]; · iexists _; isplitr; swap; · iexact H6
                  ipureintro; exact o6
  isplitl [H7]; · iexists _; isplitr; swap; · iexact H7
                  ipureintro; exact o7
  isplitl [H8]; · iexists _; iexact H8
  isplitl [H9]; · iexists _; iexact H9
  iexists _; iexact H10

/-- The body at a later step: from the blocks it reads to the blocks it leaves. -/
theorem body_later (hC : ¬ cond0 i) (p4 p5 p6 p7) :
    blocks c arg1 arg2 arg3 arg4 arg5 arg6 arg7 arg8 arg9 arg10 X1 X SEL p4 p5 p6 p7
      ⊢ wp frame (wpE (defs₀ (F := F)) Variants.none c none) Set.univ (cc0_mxfp4_quant (F := F) i arg1 harg1 arg2 harg2 arg3 harg3 arg4 harg4 arg5 harg5 arg6 harg6 arg7 harg7 arg8 harg8 arg9 harg9 arg10 harg10)
          (fun _ => blocks c arg1 arg2 arg3 arg4 arg5 arg6 arg7 arg8 arg9 arg10 X1 X SEL
            (codesB X SEL (X1 (ix1 0)) (X1 (ix1 1)) (i 0).val) (scalesB X SEL) (sumsB X p6) (amaxB X SEL p7)) := by
  unfold blocks owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, H8⟩, ⟨%f9, H9⟩, ⟨%f10, H10⟩⟩
  have hout := run_later_out c i arg1 harg1 arg2 harg2 arg3 harg3 arg4 harg4 arg5 harg5 arg6 harg6 arg7 harg7 arg8 harg8 arg9 harg9 arg10 harg10 f1 f2 f3 hC f4 f5 f6 f7 f8 f9 f10
  rw [seed_0, seed_1, e1, e2, e3, e6, e7] at hout
  obtain ⟨o4, o5, o6, o7⟩ := hout
  iapply wp_wand_r
  isplitl [H1 H2 H3 H4 H5 H6 H7 H8 H9 H10]
  · iapply ((run_later c i arg1 harg1 arg2 harg2 arg3 harg3 arg4 harg4 arg5 harg5 arg6 harg6 arg7 harg7 arg8 harg8 arg9 harg9 arg10 harg10 f1 f2 f3 hC ⟨f4, f5, f6, f7, f8, f9, f10⟩).2)
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  iintro %u ⟨H1, H2, H3, H4, H5, H6, H7, H8, H9, H10⟩
  isplitl [H1]; · iexists _; isplitr; swap; · iexact H1
                  ipureintro; exact e1
  isplitl [H2]; · iexists _; isplitr; swap; · iexact H2
                  ipureintro; exact e2
  isplitl [H3]; · iexists _; isplitr; swap; · iexact H3
                  ipureintro; exact e3
  isplitl [H4]; · iexists _; isplitr; swap; · iexact H4
                  ipureintro; exact o4
  isplitl [H5]; · iexists _; isplitr; swap; · iexact H5
                  ipureintro; exact o5
  isplitl [H6]; · iexists _; isplitr; swap; · iexact H6
                  ipureintro; exact o6
  isplitl [H7]; · iexists _; isplitr; swap; · iexact H7
                  ipureintro; exact o7
  isplitl [H8]; · iexists _; iexact H8
  isplitl [H9]; · iexists _; iexact H9
  iexists _; iexact H10
end

end Cert.Proof.KernelIdeal
end
-- ==== Proof.K.Launch.lean ====
module

public import proofs.«01_k».proof.Proof.Gen.KernelIdeal.Loops
public import proofs.«01_k».proof.Proof.Gen.KernelIdeal.Frame
public import proofs.«01_k».proof.Proof.K.Body
public import proofs.«01_k».proof.Proof.K.Triple
public import Idealize.ShloMosaic.Lib.Exec
public import Idealize.ShloMosaic.Lib.Tactic
public import Idealize.ShloMosaic.Lib.Pipeline.Value

@[expose] public section

set_option maxRecDepth 16384
set_option warn.classDefReducibility false

noncomputable section

namespace Cert.Proof.KernelIdeal

open Cert.KernelIdeal Cert.KernelIdeal.Gen
open Idealize.ShloMosaic Idealize.ShloMosaic.TcCoe Idealize.ShloMosaic.Tactic
open Idealize.ShloMosaic.Pipeline (Dat BodyObligation)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seed, the rows of step `t` and the selection table, as the kernel is given them. -/
abbrev seedB (c : Dev nD) (t : Fin cfg0.N) : Vec F S2 .i32 := iblk m c 0 t
/-- The block of the input at a step. -/
abbrev xB (c : Dev nD) (t : Fin cfg0.N) : Vec F S256x5120 .bf16 := iblk m c 1 t
/-- The block of the selection matrix at a step. -/
abbrev selB (c : Dev nD) (t : Fin cfg0.N) : Vec F S256x256 .bf16 := iblk m c 2 t

/-- The column sums after step `n`. -/
def sumsAt (c : Dev nD) : (n : ℕ) → n < cfg0.N → Vec F S8x5120 .f32
  | 0, h => sumsB (xB m c ⟨0, h⟩) k0_pay180
  | n + 1, h => sumsB (xB m c ⟨n + 1, h⟩) (sumsAt c n (Nat.lt_of_succ_lt h))

/-- The largest magnitudes after step `n`. -/
def amaxAt (c : Dev nD) : (n : ℕ) → n < cfg0.N → Vec F S8x128 .f32
  | 0, h => amaxB (xB m c ⟨0, h⟩) (selB m c ⟨0, h⟩) k0_pay181
  | n + 1, h => amaxB (xB m c ⟨n + 1, h⟩) (selB m c ⟨n + 1, h⟩) (amaxAt c n (Nat.lt_of_succ_lt h))

/-- The codes of step `t`. -/
def codesAt (c : Dev nD) (t : Fin cfg0.N) : Vec F S256x2560 .i8 :=
  codesB (xB m c t) (selB m c t) (seedB m c t (ix1 0)) (seedB m c t (ix1 1)) (grid0.coords t 0).val

/-- The scale bytes of step `t`. -/
def scalesAt (c : Dev nD) (t : Fin cfg0.N) : Vec F S256x160 .i8 := scalesB (xB m c t) (selB m c t)

/-- The arrays as the kernel finds them, and what each window holds after a step. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => codesAt m c t
    | ⟨4, _⟩ => scalesAt m c t
    | ⟨5, _⟩ => sumsAt m c t.val t.isLt
    | ⟨6, _⟩ => amaxAt m c t.val t.isLt
  Φ _ := Pipeline.ΦA spec0 c
  q _ := fullShare
  owed _ := 0

/-- An array's contents before the run are those the host lines leave. -/
theorem A_eq (c : Dev nD) (w : Fin cfg0.W) : (dats m 0 c).A w = V m c (Pipeline.arrRef spec0 w) := by dsimp only [dats]
/-- A step leaves the seed as it is. -/
theorem after_0 (c : Dev nD) (t : Fin cfg0.N) : (dats m 0 c).after 0 t = iblk m c 0 t := by dsimp only [dats]
/-- A step leaves the block of the input as it is. -/
theorem after_1 (c : Dev nD) (t : Fin cfg0.N) : (dats m 0 c).after 1 t = iblk m c 1 t := by dsimp only [dats]
/-- A step leaves the selection matrix as it is. -/
theorem after_2 (c : Dev nD) (t : Fin cfg0.N) : (dats m 0 c).after 2 t = iblk m c 2 t := by dsimp only [dats]
/-- A step leaves the codes of its block. -/
theorem after_3 (c : Dev nD) (t : Fin cfg0.N) : (dats m 0 c).after 3 t = codesAt m c t := by dsimp only [dats]
/-- A step leaves the scale bytes of its block. -/
theorem after_4 (c : Dev nD) (t : Fin cfg0.N) : (dats m 0 c).after 4 t = scalesAt m c t := by dsimp only [dats]
/-- A step leaves the sums up to it. -/
theorem after_5 (c : Dev nD) (t : Fin cfg0.N) : (dats m 0 c).after 5 t = sumsAt m c t.val t.isLt := by dsimp only [dats]
/-- A step leaves the largest magnitudes up to it. -/
theorem after_6 (c : Dev nD) (t : Fin cfg0.N) : (dats m 0 c).after 6 t = amaxAt m c t.val t.isLt := by dsimp only [dats]

/-- A step finds the seed. -/
theorem before_0 (c : Dev nD) (t : Fin cfg0.N) (d) : (dats m 0 c).before 0 t d = iblk m c 0 t := before0_0_of m _ (A_eq m c 0) (after_0 m c) t d
/-- A step finds its block of the input. -/
theorem before_1 (c : Dev nD) (t : Fin cfg0.N) (d) : (dats m 0 c).before 1 t d = iblk m c 1 t := before0_1_of m _ (A_eq m c 1) (after_1 m c) t d
/-- A step finds the selection matrix. -/
theorem before_2 (c : Dev nD) (t : Fin cfg0.N) (d) : (dats m 0 c).before 2 t d = iblk m c 2 t := before0_2_of m _ (A_eq m c 2) (after_2 m c) t d

/-- A window written back at the last step alone is not written back before a later step. -/
theorem prev_flush (w : Fin 7) (h : ∀ t : Fin cfg0.N, (cfg0.win w).flush t = true ↔ t.val % 128 = 127) (t : Fin cfg0.N) (ht : t.val ≠ 0) :
    (cfg0.win w).flush ⟨t.val - 1, Nat.lt_of_le_of_lt (Nat.sub_le _ _) t.isLt⟩ = false := by
  refine Bool.eq_false_iff.mpr fun e => ?_
  have e' := (h _).mp e
  have hN : t.val < 128 := lt_of_lt_of_eq t.isLt (by decide)
  dsimp only at e'
  omega

/-- A later step finds the sums of the step before. -/
theorem before_5 (c : Dev nD) (t : Fin cfg0.N) (ht : t.val ≠ 0) (d) :
    (dats m 0 c).before 5 t d = sumsAt m c (t.val - 1) (Nat.lt_of_le_of_lt (Nat.sub_le _ _) t.isLt) :=
  ((dats m 0 c).before_out_kept 5 rfl t ht (prev_flush 5 flush0_5 t ht) (fun _ => rfl) (fun _ _ => rfl) d).trans (after_5 m c _)

/-- A later step finds the largest magnitudes of the step before. -/
theorem before_6 (c : Dev nD) (t : Fin cfg0.N) (ht : t.val ≠ 0) (d) :
    (dats m 0 c).before 6 t d = amaxAt m c (t.val - 1) (Nat.lt_of_le_of_lt (Nat.sub_le _ _) t.isLt) :=
  ((dats m 0 c).before_out_kept 6 rfl t ht (prev_flush 6 flush0_6 t ht) (fun _ => rfl) (fun _ _ => rfl) d).trans (after_6 m c _)

/-- The kernel's test for the first step holds at step 0 alone. -/
theorem first_iff : ∀ t : Fin cfg0.N, cond0 (grid0.coords t) ↔ t.val = 0 := by decide +kernel

/-- The sums after the first step start from zero. -/
theorem sumsAt_first (c : Dev nD) (t : Fin cfg0.N) (h : t.val = 0) : sumsAt m c t.val t.isLt = sumsB (xB m c t) k0_pay180 := by
  obtain ⟨n, hn⟩ := t; dsimp only at h; subst h; rfl

/-- The largest magnitudes after the first step start from zero. -/
theorem amaxAt_first (c : Dev nD) (t : Fin cfg0.N) (h : t.val = 0) : amaxAt m c t.val t.isLt = amaxB (xB m c t) (selB m c t) k0_pay181 := by
  obtain ⟨n, hn⟩ := t; dsimp only at h; subst h; rfl

/-- The sums after a later step add its block's to those before. -/
theorem sumsAt_later (c : Dev nD) (t : Fin cfg0.N) (h : t.val ≠ 0) : sumsAt m c t.val t.isLt
    = sumsB (xB m c t) (sumsAt m c (t.val - 1) (Nat.lt_of_le_of_lt (Nat.sub_le _ _) t.isLt)) := by
  obtain ⟨n, hn⟩ := t
  cases n with
  | zero => exact absurd rfl h
  | succ n => rfl

/-- The largest magnitudes after a later step are the maximum of its block's and those before. -/
theorem amaxAt_later (c : Dev nD) (t : Fin cfg0.N) (h : t.val ≠ 0) : amaxAt m c t.val t.isLt
    = amaxB (xB m c t) (selB m c t) (amaxAt m c (t.val - 1) (Nat.lt_of_le_of_lt (Nat.sub_le _ _) t.isLt)) := by
  obtain ⟨n, hn⟩ := t
  cases n with
  | zero => exact absurd rfl h
  | succ n => rfl

/-- The windows and the scratch of the body at step `t`. -/
abbrev blocksAt (c : Dev nD) (t : Fin cfg0.N) (p4 : Vec F S256x2560 .i8) (p5 : Vec F S256x160 .i8) (p6 : Vec F S8x5120 .f32) (p7 : Vec F S8x128 .f32) : sProp 𝕄 :=
  blocks c (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6))
    (Memref.whole cc0_scratch0) (Memref.whole cc0_scratch1) (Memref.whole cc0_scratch2) (seedB m c t) (xB m c t) (selB m c t) p4 p5 p6 p7

/-- What the body does at step `t`. -/
theorem body_at (c : Dev nD) (t : Fin cfg0.N) (d3 d4 d5 d6) :
    blocksAt m c t d3 d4 ((dats m 0 c).before 5 t d5) ((dats m 0 c).before 6 t d6)
      ⊢ wp frame (wpE (defs₀ (F := F)) Variants.none c none) Set.univ (bodyAt0 t)
          (fun _ => blocksAt m c t (codesAt m c t) (scalesAt m c t) (sumsAt m c t.val t.isLt) (amaxAt m c t.val t.isLt)) := by
  by_cases h : t.val = 0
  · rw [sumsAt_first m c t h, amaxAt_first m c t h]
    exact body_first c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (seedB m c t) (xB m c t) (selB m c t) ((first_iff t).mpr h) _ _ _ _
  · rw [sumsAt_later m c t h, amaxAt_later m c t h, before_5 m c t h, before_6 m c t h]
    exact body_later c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (Memref.whole cc0_scratch0) (Memref.isWhole_whole _) (Memref.whole cc0_scratch1) (Memref.isWhole_whole _) (Memref.whole cc0_scratch2) (Memref.isWhole_whole _) (seedB m c t) (xB m c t) (selB m c t) (fun e => h ((first_iff t).mp e)) _ _ _ _

/-- What the body is given at a step: the invariant, and each window at the contents it finds. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)))
/-- What the body gives back at a step: the invariant, and each window at the contents it leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t))

/-- The scoped buffers beside the windows are the three scratch buffers, at any contents. -/
theorem scratch_eq (c : Dev nD) : (Pipeline.scopedRest (Ix := Unit) (Name := ℕ) (U := UR sig nD τ) (Lvl := ℕ) (Val := Elt F) spec0 c : sProp 𝕄)
    = iprop((∃ f, ((Memref.whole cc0_scratch0 : Memref sig .tc .vmem S256x256 .f32).view.loc (c : Thread nD τ)) ↦[(Memref.whole cc0_scratch0 : Memref sig .tc .vmem S256x256 .f32).view.set]{fullShare} f) ∗ (∃ f, ((Memref.whole cc0_scratch1 : Memref sig .tc .vmem S128x128 .i32).view.loc (c : Thread nD τ)) ↦[(Memref.whole cc0_scratch1 : Memref sig .tc .vmem S128x128 .i32).view.set]{fullShare} f) ∗ (∃ f, ((Memref.whole cc0_scratch2 : Memref sig .tc .vmem S2x160x128 .i32).view.loc (c : Thread nD τ)) ↦[(Memref.whole cc0_scratch2 : Memref sig .tc .vmem S2x160x128 .i32).view.set]{fullShare} f)) := by
  rw [scopedRest0_eq]
  simp only [View.set_whole, Memref.whole]

/-- The body takes what it is given at a step to what it must give back. -/
theorem sound_body (c : Dev nD) (t : Fin cfg0.N) :
    bodyPre m c t ⊢ wp frame (wpE (defs₀ (F := F)) Variants.none c none) Set.univ (bodyAt0 t) (fun _ => bodyPost m c t) := by
  unfold bodyPre bodyPost
  rw [show (dats m 0 c).Φ t.succ = (dats m 0 c).Φ t.castSucc from rfl, after_0, after_1, after_2, after_3, after_4, after_5, after_6]
  rw [show (dats m 0 c).Φ t.castSucc = Pipeline.ΦA spec0 c from rfl]
  unfold Pipeline.ΦA
  rw [scratch_eq]
  unfold Dat.owesAt Pipeline.owesWithin
  rw [show (dats m 0 c).owed t.castSucc = 0 from rfl, show (dats m 0 c).owed t.succ = 0 from rfl]
  simp only [before_0, before_1, before_2]
  iintro ⟨⟨⟨⟨%f8, H8⟩, ⟨%f9, H9⟩, ⟨%f10, H10⟩⟩, Hg⟩, ⟨%W, -, HW⟩, ⟨%d0, H0⟩, ⟨%d1, H1⟩, ⟨%d2, H2⟩, ⟨%d3, H3⟩, ⟨%d4, H4⟩, ⟨%d5, H5⟩, ⟨%d6, H6⟩⟩
  iapply wp_wand_r
  isplitl [H0 H1 H2 H3 H4 H5 H6 H8 H9 H10]
  · iapply (body_at m c t ((dats m 0 c).before 3 t d3) ((dats m 0 c).before 4 t d4) d5 d6)
    unfold blocksAt blocks
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H8]; · iexists _; iexact H8
    isplitl [H9]; · iexists _; iexact H9
    iexists _; iexact H10
  unfold blocksAt blocks
  iintro %u ⟨H0, H1, H2, H3, H4, H5, H6, H8, H9, H10⟩
  isplitl [H8 H9 H10 Hg]
  · isplitl [H8 H9 H10]
    · isplitl [H8]; · iexact H8
      isplitl [H9]; · iexact H9
      iexact H10
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  iexact H6

/-- The pipeline's call at a step is the body on the step's windows. -/
theorem defs₀_row (t : Fin cfg0.N) :
    defs₀ (F := F) .tc cfg0.body (cfg0.bodyArgs t (cfg0.slots t)) = bodyAt0 t := by
  unfold defs₀; rw [Defs.onTc_tc]

/-- The body meets the pipeline's obligation at every step. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The program runs to the end: each array ends at what the steps wrote, every other buffer at what the lines after the
    kernel computed from them, and every semaphore counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := fun _ _ => rfl) (hΦ := fun _ _ => rfl) (Q' := _) (hQ' := fun _ h => h)

/-- The program runs to the end with its two arguments unchanged and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c => ⟨((h.1 c).2 main_arg0 (Pipeline.mem_restRefs_of main_arg0 (by decide) (by decide))).trans (W_main_arg0 m (dats m) c),
      ((h.1 c).1 0).trans (((dats m 0 c).arrAt_in 0 rfl _).trans ((A_eq m c 0).trans (V_main_arg1 m c)))⟩, h.2⟩) (run_main m ρ)

end Cert.Proof.KernelIdeal
end
-- ==== Proof.K.KernelFrame.lean ====
module

public import proofs.«01_k».proof.Defs
public import proofs.«01_k».proof.Proof.Gen.Kernel
public import proofs.«01_k».proof.Proof.K.Launch

@[expose] public section

set_option maxRecDepth 100000

noncomputable section

namespace Cert.Proof

open Idealize.ShloMosaic Idealize.SL.Sem

variable {F : FTy → Type} [FloatOps F]

/-- The kernel as printed and the kernel read over the extended reals are one program text. -/
theorem lit0_eq : Cert.Kernel.lit0 = Cert.KernelIdeal.lit0 := rfl

/-- The kernel and its idealization have the same main program. -/
theorem main_eq : Cert.Kernel.main (F := F) = Cert.KernelIdeal.main (F := F) := by
  unfold Cert.Kernel.main Cert.KernelIdeal.main
  rw [lit0_eq]
  rfl

/-- The kernel and its idealization have the same body. -/
theorem cc0_eq : Cert.Kernel.cc0_mxfp4_quant (F := F) = Cert.KernelIdeal.cc0_mxfp4_quant (F := F) := rfl

/-- The kernel and its idealization have the same table of bodies. -/
theorem defs₀_eq : Cert.Kernel.defs₀ (F := F) = Cert.KernelIdeal.defs₀ (F := F) := by
  unfold Cert.Kernel.defs₀ Cert.KernelIdeal.defs₀
  rw [cc0_eq]
  refine congrArg Defs.onTc ?_
  funext ℓ a
  match ℓ, a with
  | ⟨0, _⟩, (t, s) => rfl
  | ⟨_ + 1, h⟩, _ => exact absurd h (Nat.not_lt.2 (Nat.le_add_left _ _))

/-- The kernel and its idealization have the same definitions. -/
theorem defs_eq : Cert.Kernel.defs (F := F) = Cert.KernelIdeal.defs (F := F) :=
  congrArg (Pipeline.defs Cert.KernelIdeal.pcfgs) defs₀_eq

/-- The kernel as printed runs to the end with its arguments unchanged and every semaphore counter at zero. -/
theorem quiescent_Kernel : Cert.quiescent_Kernel := by
  intro m g _
  rw [main_eq, defs_eq]
  exact Cert.Proof.KernelIdeal.frame (F := Bits) m g

end Cert.Proof
end
-- ==== Proof.M.Sel.lean ====
module

public import proofs.«01_k».proof.Proof.Gen.KernelIdeal
import Mathlib.Tactic.IntervalCases

@[expose] public section

set_option maxRecDepth 20000

noncomputable section

namespace Cert.Proof.KernelIdeal

open Idealize.ShloMosaic Cert.KernelIdeal

/-- Entry `m` of segment `T` of the selection matrix: row `T / 2`, column `128 (T % 2) + m`. -/
def sel (T m : ℕ) : BitVec 16 := if 128 * (T % 2) + m = T / 2 % 8 * 32 + T / 2 / 8 then 0x3f80#16 else 0#16

/-- A choice among 128 values of a function is the function. -/
theorem pick (f : ℕ → BitVec 16) (n : ℕ) : n < 128 → (match n with
    | 0 => f 0
    | 1 => f 1
    | 2 => f 2
    | 3 => f 3
    | 4 => f 4
    | 5 => f 5
    | 6 => f 6
    | 7 => f 7
    | 8 => f 8
    | 9 => f 9
    | 10 => f 10
    | 11 => f 11
    | 12 => f 12
    | 13 => f 13
    | 14 => f 14
    | 15 => f 15
    | 16 => f 16
    | 17 => f 17
    | 18 => f 18
    | 19 => f 19
    | 20 => f 20
    | 21 => f 21
    | 22 => f 22
    | 23 => f 23
    | 24 => f 24
    | 25 => f 25
    | 26 => f 26
    | 27 => f 27
    | 28 => f 28
    | 29 => f 29
    | 30 => f 30
    | 31 => f 31
    | 32 => f 32
    | 33 => f 33
    | 34 => f 34
    | 35 => f 35
    | 36 => f 36
    | 37 => f 37
    | 38 => f 38
    | 39 => f 39
    | 40 => f 40
    | 41 => f 41
    | 42 => f 42
    | 43 => f 43
    | 44 => f 44
    | 45 => f 45
    | 46 => f 46
    | 47 => f 47
    | 48 => f 48
    | 49 => f 49
    | 50 => f 50
    | 51 => f 51
    | 52 => f 52
    | 53 => f 53
    | 54 => f 54
    | 55 => f 55
    | 56 => f 56
    | 57 => f 57
    | 58 => f 58
    | 59 => f 59
    | 60 => f 60
    | 61 => f 61
    | 62 => f 62
    | 63 => f 63
    | 64 => f 64
    | 65 => f 65
    | 66 => f 66
    | 67 => f 67
    | 68 => f 68
    | 69 => f 69
    | 70 => f 70
    | 71 => f 71
    | 72 => f 72
    | 73 => f 73
    | 74 => f 74
    | 75 => f 75
    | 76 => f 76
    | 77 => f 77
    | 78 => f 78
    | 79 => f 79
    | 80 => f 80
    | 81 => f 81
    | 82 => f 82
    | 83 => f 83
    | 84 => f 84
    | 85 => f 85
    | 86 => f 86
    | 87 => f 87
    | 88 => f 88
    | 89 => f 89
    | 90 => f 90
    | 91 => f 91
    | 92 => f 92
    | 93 => f 93
    | 94 => f 94
    | 95 => f 95
    | 96 => f 96
    | 97 => f 97
    | 98 => f 98
    | 99 => f 99
    | 100 => f 100
    | 101 => f 101
    | 102 => f 102
    | 103 => f 103
    | 104 => f 104
    | 105 => f 105
    | 106 => f 106
    | 107 => f 107
    | 108 => f 108
    | 109 => f 109
    | 110 => f 110
    | 111 => f 111
    | 112 => f 112
    | 113 => f 113
    | 114 => f 114
    | 115 => f 115
    | 116 => f 116
    | 117 => f 117
    | 118 => f 118
    | 119 => f 119
    | 120 => f 120
    | 121 => f 121
    | 122 => f 122
    | 123 => f 123
    | 124 => f 124
    | 125 => f 125
    | 126 => f 126
    | 127 => f 127
    | _ => 0#16) = f n := by
  intro hn
  interval_cases n <;> rfl

/-- The first quarter of the selection matrix. -/
theorem lit0_seg0 (i : ℕ) : lit0t1_0 i = sel (128 * 0 + i / 128 % 128) (i % 128) := by
  have hm : i % 128 < 128 := Nat.mod_lt _ (by decide)
  have hn : i / 128 % 128 < 128 := Nat.mod_lt _ (by decide)
  unfold lit0t1_0
  generalize i / 128 % 128 = a at hn
  interval_cases a
  all_goals refine Eq.trans ?_ (pick (sel _) (i % 128) hm)
  all_goals rfl

/-- The second quarter of the selection matrix. -/
theorem lit0_seg1 (i : ℕ) : lit0t1_1 i = sel (128 * 1 + i / 128 % 128) (i % 128) := by
  have hm : i % 128 < 128 := Nat.mod_lt _ (by decide)
  have hn : i / 128 % 128 < 128 := Nat.mod_lt _ (by decide)
  unfold lit0t1_1
  generalize i / 128 % 128 = a at hn
  interval_cases a
  all_goals refine Eq.trans ?_ (pick (sel _) (i % 128) hm)
  all_goals rfl

/-- The third quarter of the selection matrix. -/
theorem lit0_seg2 (i : ℕ) : lit0t1_2 i = sel (128 * 2 + i / 128 % 128) (i % 128) := by
  have hm : i % 128 < 128 := Nat.mod_lt _ (by decide)
  have hn : i / 128 % 128 < 128 := Nat.mod_lt _ (by decide)
  unfold lit0t1_2
  generalize i / 128 % 128 = a at hn
  interval_cases a
  all_goals refine Eq.trans ?_ (pick (sel _) (i % 128) hm)
  all_goals rfl

/-- The last quarter of the selection matrix. -/
theorem lit0_seg3 (i : ℕ) : lit0t1_3 i = sel (128 * 3 + i / 128 % 128) (i % 128) := by
  have hm : i % 128 < 128 := Nat.mod_lt _ (by decide)
  have hn : i / 128 % 128 < 128 := Nat.mod_lt _ (by decide)
  unfold lit0t1_3
  generalize i / 128 % 128 = a at hn
  interval_cases a
  all_goals refine Eq.trans ?_ (pick (sel _) (i % 128) hm)
  all_goals rfl

/-- The selection matrix, entry by entry. -/
theorem lit0t_eq (i : ℕ) (hi : i < 65536) : lit0t i = sel (i / 128) (i % 128) := by
  have h : i / 16384 < 4 := by omega
  unfold lit0t
  obtain ⟨k, hk⟩ : ∃ k, i / 16384 = k := ⟨_, rfl⟩
  rw [hk]
  rw [hk] at h
  have e : i / 128 = 128 * k + i / 128 % 128 := by omega
  rw [e]
  interval_cases k
  · exact lit0_seg0 i
  · exact lit0_seg1 i
  · exact lit0_seg2 i
  · exact lit0_seg3 i

end Cert.Proof.KernelIdeal
end
-- ==== Proof.M.Scale.lean ====
module

public import proofs.«01_k».proof.Proof.Spec
public import Idealize.ShloMosaic.PureOps.Ideal
import Mathlib.Tactic.Linarith
import Mathlib.Tactic.NormNum
import Mathlib.Tactic.Positivity
import Mathlib.Tactic.Ring

@[expose] public section

noncomputable section

namespace Cert.Proof

open Idealize.ShloMosaic

/-- The word whose exponent field is `N` and whose other bits are zero. -/
theorem toNat_shl23 (N : ℕ) (h1 : N ≤ 255) : (IntOp.shli .vector (BitVec.ofNat 32 N) 23#32).toNat = N * 8388608 := by
  simp [IntOp.shli, BitVec.toNat_shiftLeft, Nat.shiftLeft_eq]
  omega

/-- A word with exponent field `N` and no other bits is `2 ^ (N - 127)`. -/
theorem ieee_pow (b : BitVec 32) (N : ℕ) (hb : b.toNat = N * 8388608) (h0 : 1 ≤ N) (h1 : N ≤ 254) :
    Ideal.ieee 8 23 b = (((2 : ℝ) ^ ((N : ℤ) - 127) : ℝ) : EReal) := by
  have e1 : (b.extractLsb' 23 8).toNat = N := by
    rw [BitVec.extractLsb'_toNat, Nat.shiftRight_eq_div_pow, hb]; omega
  have e2 : (b.extractLsb' 0 23).toNat = 0 := by
    rw [BitVec.extractLsb'_toNat, Nat.shiftRight_eq_div_pow, hb]; omega
  have e3 : b.extractLsb' (8 + 23) 1 = 0#1 := by
    apply BitVec.eq_of_toNat_eq
    rw [BitVec.extractLsb'_toNat, Nat.shiftRight_eq_div_pow, hb]
    simp only [BitVec.toNat_ofNat]
    omega
  unfold Ideal.ieee
  simp only [e1, e2, e3]
  rw [if_neg (by omega), if_neg (by omega)]
  congr 1
  have : ((N : ℤ) - (2 ^ (8 - 1) - 1) - (23 : ℕ)) = ((N : ℤ) - 127) + (-23) := by norm_num; ring
  rw [this, zpow_add₀ (by norm_num)]
  norm_num
  ring

/-- The word with exponent field 255 and no other bits is infinity. -/
theorem ieee_top (b : BitVec 32) (hb : b.toNat = 255 * 8388608) : Ideal.ieee 8 23 b = ⊤ := by
  have : b = 0x7F800000#32 := BitVec.eq_of_toNat_eq (by rw [hb]; rfl)
  subst this
  simp [Ideal.ieee]

/-- A power of two written as a bit pattern of exponent field `N`. -/
theorem ofBits_pow (N : ℕ) (h0 : 1 ≤ N) (h1 : N ≤ 254) :
    (FloatOps.ofBits .f32 (IntOp.shli .vector (BitVec.ofNat 32 N) 23#32) : Ideal .f32) = (((2 : ℝ) ^ ((N : ℤ) - 127) : ℝ) : EReal) := by
  rw [Ideal.ofBits_def, Ideal.ofBits]
  exact ieee_pow _ N (toNat_shl23 N (by omega)) h0 h1

/-- The pattern of the all-ones exponent field denotes infinity. -/
theorem ofBits_top :
    (FloatOps.ofBits .f32 (IntOp.shli .vector (BitVec.ofNat 32 255) 23#32) : Ideal .f32) = ⊤ := by
  rw [Ideal.ofBits_def, Ideal.ofBits]
  exact ieee_top _ (toNat_shl23 255 (by omega))

/-- A selection by a comparison is a choice by the comparison's truth. -/
theorem select_ofBool {α : Type} (p : Prop) [Decidable p] (a b : α) :
    Scalar.select (BitVec.ofBool (decide p)) a b = if p then a else b := by
  by_cases h : p <;> simp [Scalar.select, h]

/-- A choice by a comparison, at least. -/
theorem select_oge {α : Type} (x y : Ideal .f32) (a b : α) :
    Scalar.select (FloatOps.cmpf .oge x y) a b = if (y : EReal) ≤ x then a else b := select_ofBool _ a b
/-- A choice by a comparison, less than. -/
theorem select_olt {α : Type} (x y : Ideal .f32) (a b : α) :
    Scalar.select (FloatOps.cmpf .olt x y) a b = if (x : EReal) < y then a else b := select_ofBool _ a b
/-- A choice by a comparison, equal. -/
theorem select_oeq {α : Type} (x y : Ideal .f32) (a b : α) :
    Scalar.select (FloatOps.cmpf .oeq x y) a b = if (x : EReal) = y then a else b := select_ofBool _ a b

/-- `k` is the exponent field of the real `g`. -/
def HasExp (g : ℝ) (k : ℕ) : Prop := 1 ≤ k ∧ k ≤ 254 ∧ (2 : ℝ) ^ ((k : ℤ) - 127) ≤ g ∧ g < (2 : ℝ) ^ ((k : ℤ) - 126)

/-- A number with exponent field `k` is at least the power of two with field `N` just when `N ≤ k`. -/
theorem thr_iff {g : ℝ} {k : ℕ} (h : HasExp g k) (N : ℕ) (h0 : 1 ≤ N) (h1 : N ≤ 255) :
    (FloatOps.ofBits .f32 (IntOp.shli .vector (BitVec.ofNat 32 N) 23#32) : Ideal .f32) ≤ (g : EReal) ↔ N ≤ k := by
  obtain ⟨k0, k1, hl, hu⟩ := h
  rcases Nat.lt_or_ge N 255 with hN | hN
  · rw [ofBits_pow N h0 (by omega), EReal.coe_le_coe_iff]
    constructor
    · intro hle
      by_contra hc
      have : (2 : ℝ) ^ ((k : ℤ) - 126) ≤ (2 : ℝ) ^ ((N : ℤ) - 127) := zpow_le_zpow_right₀ (by norm_num) (by omega)
      linarith
    · intro hle
      exact (zpow_le_zpow_right₀ (by norm_num) (by omega)).trans hl
  · have : N = 255 := by omega
    subst this
    rw [ofBits_top]
    constructor
    · intro hle
      exact absurd (top_le_iff.mp hle) (EReal.coe_ne_top g)
    · intro hle
      omega

/-- One step of the bisection keeps a bit just when the field with it is at most `k`. -/
theorem bitStep_eq {g : ℝ} {k : ℕ} (h : HasExp g k) (b e : ℕ) (h0 : 1 ≤ e + b) (h1 : e + b ≤ 255) :
    bitStep (F := Ideal) (g : EReal) (BitVec.ofNat 32 b) (BitVec.ofNat 32 e) = BitVec.ofNat 32 (if e + b ≤ k then e + b else e) := by
  unfold bitStep
  have hadd : IntOp.addi (BitVec.ofNat 32 e) (BitVec.ofNat 32 b) = BitVec.ofNat 32 (e + b) := by
    simp [IntOp.addi, BitVec.ofNat_add]
  rw [hadd]
  rw [select_oge]
  have ht := thr_iff h (e + b) h0 h1
  by_cases hc : e + b ≤ k
  · rw [if_pos (ht.mpr hc), if_pos hc]
  · rw [if_neg (fun hh => hc (ht.mp hh)), if_neg hc]

/-- The bisection finds the exponent field. -/
theorem expField_eq {g : ℝ} {k : ℕ} (h : HasExp g k) : expField (F := Ideal) (g : EReal) = BitVec.ofNat 32 k := by
  unfold expField
  rw [show (0#32) = BitVec.ofNat 32 0 from rfl]
  have hk := h.2.1
  rw [bitStep_eq h 128 0 (by omega) (by omega)]
  generalize h1 : (if 0 + 128 ≤ k then 0 + 128 else 0) = e1
  rw [bitStep_eq h 64 e1 (by omega) (by split at h1 <;> omega)]
  generalize h2 : (if e1 + 64 ≤ k then e1 + 64 else e1) = e2
  rw [bitStep_eq h 32 e2 (by omega) (by split at h1 <;> split at h2 <;> omega)]
  generalize h3 : (if e2 + 32 ≤ k then e2 + 32 else e2) = e3
  have b3 : e3 ≤ 224 ∧ e3 % 32 = 0 ∧ e3 ≤ k ∧ k < e3 + 32 := by split at h1 <;> split at h2 <;> split at h3 <;> omega
  clear h1 h2 h3
  rw [bitStep_eq h 16 e3 (by omega) (by omega)]
  generalize h4 : (if e3 + 16 ≤ k then e3 + 16 else e3) = e4
  have b4 : e4 ≤ 240 ∧ e4 ≤ k ∧ k < e4 + 16 := by split at h4 <;> omega
  clear h4 b3
  rw [bitStep_eq h 8 e4 (by omega) (by omega)]
  generalize h5 : (if e4 + 8 ≤ k then e4 + 8 else e4) = e5
  have b5 : e5 ≤ 248 ∧ e5 ≤ k ∧ k < e5 + 8 := by split at h5 <;> omega
  clear h5 b4
  rw [bitStep_eq h 4 e5 (by omega) (by omega)]
  generalize h6 : (if e5 + 4 ≤ k then e5 + 4 else e5) = e6
  have b6 : e6 ≤ 252 ∧ e6 ≤ k ∧ k < e6 + 4 := by split at h6 <;> omega
  clear h6 b5
  rw [bitStep_eq h 2 e6 (by omega) (by omega)]
  generalize h7 : (if e6 + 2 ≤ k then e6 + 2 else e6) = e7
  have b7 : e7 ≤ 254 ∧ e7 ≤ k ∧ k < e7 + 2 := by split at h7 <;> omega
  clear h7 b6
  rw [bitStep_eq h 1 e7 (by omega) (by omega)]
  congr 1
  split <;> omega

/-- A number in range has an exponent field. -/
theorem exists_hasExp {g : ℝ} (hl : (2 : ℝ) ^ (-125 : ℤ) ≤ g) (hu : g < (2 : ℝ) ^ (128 : ℤ)) : ∃ k : ℕ, 2 ≤ k ∧ HasExp g k := by
  have hg : 0 < g := lt_of_lt_of_le (by positivity) hl
  obtain ⟨n, h1, h2⟩ := exists_mem_Ico_zpow (y := (2 : ℝ)) hg (by norm_num)
  have l1 : (-125 : ℤ) ≤ n := by
    by_contra hc
    have : (2 : ℝ) ^ (n + 1) ≤ (2 : ℝ) ^ (-125 : ℤ) := zpow_le_zpow_right₀ (by norm_num) (by omega)
    linarith
  have l2 : n ≤ 127 := by
    by_contra hc
    have : (2 : ℝ) ^ (128 : ℤ) ≤ (2 : ℝ) ^ n := zpow_le_zpow_right₀ (by norm_num) (by omega)
    linarith
  refine ⟨(n + 127).toNat, by omega, by omega, by omega, ?_, ?_⟩
  · rw [Int.toNat_of_nonneg (by omega)]
    simpa using h1
  · rw [Int.toNat_of_nonneg (by omega)]
    have : n + 127 - 126 = n + 1 := by ring
    rw [this]
    exact h2

/-- The floor of the logarithm is the exponent field less 127. -/
theorem log_eq {g : ℝ} {k : ℕ} (h : HasExp g k) : ⌊Real.log g / Real.log 2⌋ = (k : ℤ) - 127 := by
  obtain ⟨k0, k1, hl, hu⟩ := h
  have hg : 0 < g := lt_of_lt_of_le (by positivity) hl
  have h2 : 0 < Real.log 2 := Real.log_pos (by norm_num)
  rw [Int.floor_eq_iff]
  constructor
  · rw [le_div_iff₀ h2, ← Real.log_zpow]
    exact Real.log_le_log (by positivity) hl
  · have : ((((k : ℤ) - 127 : ℤ) : ℝ) + 1) = (((k : ℤ) - 126 : ℤ) : ℝ) := by push_cast; ring
    rw [this, div_lt_iff₀ h2, ← Real.log_zpow]
    exact Real.log_lt_log hg hu

/-- The constants of the two programs, as reals. -/
theorem c_zero : (Scalar.ofBits .f32 0x00000000#32 : Ideal .f32) = ((0 : ℝ) : EReal) := by
  show Ideal.ieee 8 23 (0x00000000#32) = _
  simp [Ideal.ieee]
/-- The constant 1. -/
theorem c_one : (Scalar.ofBits .f32 0x3F800000#32 : Ideal .f32) = ((1 : ℝ) : EReal) := by
  show Ideal.ieee 8 23 (0x3F800000#32) = _
  simp [Ideal.ieee, -EReal.coe_mul]; norm_num
/-- The constant 2. -/
theorem c_two : (Scalar.ofBits .f32 0x40000000#32 : Ideal .f32) = ((2 : ℝ) : EReal) := by
  show Ideal.ieee 8 23 (0x40000000#32) = _
  simp [Ideal.ieee, -EReal.coe_mul]; norm_num
/-- The constant one half. -/
theorem c_half : (Scalar.ofBits .f32 0x3F000000#32 : Ideal .f32) = ((1 / 2 : ℝ) : EReal) := by
  show Ideal.ieee 8 23 (0x3F000000#32) = _
  simp [Ideal.ieee, -EReal.coe_mul]; norm_num
/-- The constant 4. -/
theorem c_four : (Scalar.ofBits .f32 0x40800000#32 : Ideal .f32) = ((4 : ℝ) : EReal) := by
  show Ideal.ieee 8 23 (0x40800000#32) = _
  simp [Ideal.ieee, -EReal.coe_mul]; norm_num
/-- The constant 6. -/
theorem c_six : (Scalar.ofBits .f32 0x40C00000#32 : Ideal .f32) = ((6 : ℝ) : EReal) := by
  show Ideal.ieee 8 23 (0x40C00000#32) = _
  simp [Ideal.ieee, -EReal.coe_mul]; norm_num
/-- The constant three quarters. -/
theorem c_34 : (Scalar.ofBits .f32 0x3F400000#32 : Ideal .f32) = ((3 / 4 : ℝ) : EReal) := by
  show Ideal.ieee 8 23 (0x3F400000#32) = _
  simp [Ideal.ieee, -EReal.coe_mul]; norm_num
/-- The constant `2 ^ 24`. -/
theorem c_p24 : (Scalar.ofBits .f32 0x4B800000#32 : Ideal .f32) = ((16777216 : ℝ) : EReal) := by
  show Ideal.ieee 8 23 (0x4B800000#32) = _
  simp [Ideal.ieee, -EReal.coe_mul]; norm_num
/-- The constant `2 ^ (-24)`. -/
theorem c_m24 : (Scalar.ofBits .f32 0x33800000#32 : Ideal .f32) = ((1 / 16777216 : ℝ) : EReal) := by
  show Ideal.ieee 8 23 (0x33800000#32) = _
  simp [Ideal.ieee, -EReal.coe_mul]; norm_num
/-- The constant minus infinity. -/
theorem c_ninf : (Scalar.ofBits .f32 0xFF800000#32 : Ideal .f32) = (⊥ : EReal) := by
  show Ideal.ieee 8 23 (0xFF800000#32) = _
  simp [Ideal.ieee]
/-- The constant minus infinity, in bf16. -/
theorem c_ninf16 : (Scalar.ofBits .bf16 0xFF80#16 : Ideal .bf16) = (⊥ : EReal) := by
  show Ideal.ieee 8 7 (0xFF80#16) = _
  simp [Ideal.ieee]
/-- The constant 1, in bf16. -/
theorem c_one16 : (Scalar.ofBits .bf16 0x3F80#16 : Ideal .bf16) = ((1 : ℝ) : EReal) := by
  show Ideal.ieee 8 7 (0x3F80#16) = _
  simp [Ideal.ieee, -EReal.coe_mul]; norm_num
/-- The constant 0, in bf16. -/
theorem c_zero16 : (Scalar.ofBits .bf16 0x0000#16 : Ideal .bf16) = ((0 : ℝ) : EReal) := by
  show Ideal.ieee 8 7 (0x0000#16) = _
  simp [Ideal.ieee]
/-- The lower bound of the precondition is `2 ^ (-125)`. -/
theorem c_lo : (Scalar.ofBits .f32 0x01000000#32 : Ideal .f32) = (((2 : ℝ) ^ (-125 : ℤ) : ℝ) : EReal) := by
  show Ideal.ieee 8 23 (0x01000000#32) = _
  exact ieee_pow _ 2 rfl (by omega) (by omega)
/-- The upper bound of the precondition is a real below `2 ^ 128`. -/
theorem c_hi : ∃ B : ℝ, (Scalar.ofBits .f32 0x7F7F0000#32 : Ideal .f32) = (B : EReal) ∧ B < (2 : ℝ) ^ (128 : ℤ) := by
  refine ⟨(2 ^ 23 + 8323072) * (2 : ℝ) ^ (104 : ℤ), ?_, ?_⟩
  · show Ideal.ieee 8 23 (0x7F7F0000#32) = _
    simp [Ideal.ieee, -EReal.coe_mul]
    norm_num
  · have : (2 : ℝ) ^ (128 : ℤ) = 16777216 * (2 : ℝ) ^ (104 : ℤ) := by norm_num
    rw [this]
    have : (0 : ℝ) < (2 : ℝ) ^ (104 : ℤ) := by positivity
    nlinarith

end Cert.Proof

end
-- ==== Proof.M.Nib.lean ====
module

public import proofs.«01_k».proof.Proof.M.Scale
import Mathlib.Tactic.Linarith
import Mathlib.Tactic.NormNum
import Mathlib.Tactic.Positivity
import Mathlib.Tactic.Ring

@[expose] public section

noncomputable section

namespace Cert.Proof

open Idealize.ShloMosaic

section Defs

variable {F : FTy → Type} [FloatOps F]

/-- The reference's scale exponent of a group of largest magnitude `g`. -/
def refE (g : F .f32) : BitVec 32 :=
  Scalar.select (FloatOps.cmpf .oeq g (Scalar.ofBits .f32 0x00000000#32)) 0#32
    (IntOp.subi (IntOp.addi (FloatOps.fptosi 32 (FloatOps.hostUnary .floor (FloatOps.hostDivf (FloatOps.hostUnary .log g)
      (FloatOps.hostUnary .log (Scalar.ofBits .f32 0x40000000#32))))) 1#32) 3#32)

/-- The reference's reciprocal of the scale. -/
def refInv (g : F .f32) : F .f32 :=
  FloatOps.hostPowf (Scalar.ofBits .f32 0x40000000#32) (FloatOps.sitofp .f32 (-(refE g)))

/-- The reference's whole place below a scaled magnitude. -/
def refIdx (a : F .f32) : F .f32 :=
  Scalar.select (FloatOps.cmpf .olt a (Scalar.ofBits .f32 0x40000000#32))
    (FloatOps.hostUnary .floor (FloatOps.mulf (Scalar.ofBits .f32 0x40000000#32) a))
    (Scalar.select (FloatOps.cmpf .olt a (Scalar.ofBits .f32 0x40800000#32))
      (FloatOps.addf (Scalar.ofBits .f32 0x40800000#32)
        (FloatOps.hostUnary .floor (FloatOps.subf a (Scalar.ofBits .f32 0x40000000#32))))
      (Scalar.ofBits .f32 0x40C00000#32))

/-- The reference's fraction above that place. -/
def refFrac (a : F .f32) : F .f32 :=
  Scalar.select (FloatOps.cmpf .olt a (Scalar.ofBits .f32 0x40000000#32))
    (FloatOps.subf (FloatOps.mulf (Scalar.ofBits .f32 0x40000000#32) a)
      (FloatOps.hostUnary .floor (FloatOps.mulf (Scalar.ofBits .f32 0x40000000#32) a)))
    (Scalar.select (FloatOps.cmpf .olt a (Scalar.ofBits .f32 0x40800000#32))
      (FloatOps.subf (FloatOps.subf a (Scalar.ofBits .f32 0x40000000#32))
        (FloatOps.hostUnary .floor (FloatOps.subf a (Scalar.ofBits .f32 0x40000000#32))))
      (FloatOps.mulf (FloatOps.subf a (Scalar.ofBits .f32 0x40800000#32)) (Scalar.ofBits .f32 0x3F000000#32)))

/-- The reference's code of a scaled magnitude, without the sign. -/
def refMag (a : F .f32) (w : BitVec 32) : BitVec 32 :=
  IntOp.addi (FloatOps.fptosi 32 (refIdx a))
    ((FloatOps.cmpf .olt (FloatOps.mulf (FloatOps.uitofp .f32 (IntOp.shrui .host w 8#32)) (Scalar.ofBits .f32 0x33800000#32))
      (refFrac a)).setWidth 32)

/-- The reference's code of a value. -/
def refNib (inv x : F .f32) (w : BitVec 32) : BitVec 32 :=
  let m := refMag (FloatOps.mulf (FloatOps.mulf (FloatOps.hostAbsf x) (Scalar.ofBits .f32 0x3F400000#32)) inv) w
  Scalar.select (FloatOps.cmpf .olt x (Scalar.ofBits .f32 0x00000000#32)) (IntOp.ori m 8#32) m

end Defs

/-- The real numbers a group's scale consists of: exponent `E`, with every magnitude of the group below `8 · 2^E`. -/
structure ScaleOf (g : Ideal .f32) (E : ℤ) : Prop where
  lo : -127 ≤ E
  hi : E ≤ 126
  ref : refE g = BitVec.ofInt 32 E
  word : scaleWord g = BitVec.ofInt 32 (E + 127)
  inv : invScale g = (((2 : ℝ) ^ (-E) : ℝ) : EReal)
  refInv : refInv g = (((2 : ℝ) ^ (-E) : ℝ) : EReal)
  below : ∀ x : ℝ, (x : EReal) ≤ g → x * (2 : ℝ) ^ (-E) < 8

/-- The word of a difference is the difference of the words. -/
theorem ofInt_sub (a b : ℤ) : BitVec.ofInt 32 (a - b) = BitVec.ofInt 32 a - BitVec.ofInt 32 b := by
  rw [sub_eq_add_neg, BitVec.ofInt_add, BitVec.ofInt_neg, BitVec.sub_eq_add_neg]

/-- A small integer is the value of its word. -/
theorem toInt_small (n : ℤ) (h0 : -1000 ≤ n) (h1 : n ≤ 1000) : (BitVec.ofInt 32 n).toInt = n := by
  rw [BitVec.toInt_ofInt, Int.bmod_def]
  omega

/-- A small integer converts to its word. -/
theorem fptosi_int (n : ℤ) (h0 : -1000 ≤ n) (h1 : n ≤ 1000) :
    FloatOps.fptosi (F := Ideal) (φ := .f32) 32 ((n : ℝ) : EReal) = BitVec.ofInt 32 n := by
  show Ideal.fptosi 32 _ = _
  unfold Ideal.fptosi
  congr 1
  show max _ (min _ (if (0 : ℝ) ≤ (n : ℝ) then ⌊(n : ℝ)⌋ else ⌈(n : ℝ)⌉)) = n
  rw [Int.floor_intCast, Int.ceil_intCast, ite_self]
  norm_num
  omega

/-- The reference's inverse scale is `2 ^ (-E)`, where its exponent is `E`. -/
theorem refInv_of {g : Ideal .f32} {E : ℤ} (h : refE g = BitVec.ofInt 32 E) (lo : -127 ≤ E) (hi : E ≤ 126) :
    refInv g = (((2 : ℝ) ^ (-E) : ℝ) : EReal) := by
  unfold refInv
  rw [h, c_two]
  have : -(BitVec.ofInt 32 E) = BitVec.ofInt 32 (-E) := by rw [BitVec.ofInt_neg]
  rw [this]
  show Ideal.pow ((2 : ℝ) : EReal) ((((BitVec.ofInt 32 (-E)).toInt : ℝ)) : EReal) = _
  rw [toInt_small _ (by omega) (by omega)]
  show ((Real.rpow 2 ((-E : ℤ) : ℝ) : ℝ) : EReal) = _
  congr 1
  exact Real.rpow_intCast 2 (-E)

/-- The kernel's inverse scale is `2 ^ (-E)`, where its scale word is `E + 127`. -/
theorem invScale_of {g : Ideal .f32} {E : ℤ} (h : scaleWord g = BitVec.ofInt 32 (E + 127)) (lo : -127 ≤ E) (hi : E ≤ 126) :
    invScale g = (((2 : ℝ) ^ (-E) : ℝ) : EReal) := by
  unfold invScale
  rw [h]
  have : IntOp.subi 254#32 (BitVec.ofInt 32 (E + 127)) = BitVec.ofNat 32 (127 - E).toNat := by
    show 254#32 - BitVec.ofInt 32 (E + 127) = _
    rw [← BitVec.ofInt_natCast (w := 32) (127 - E).toNat, Int.toNat_of_nonneg (by omega), show (254#32) = BitVec.ofInt 32 254 from rfl,
      ← ofInt_sub]
    congr 1
    ring
  rw [this, ofBits_pow _ (by omega) (by omega), Int.toNat_of_nonneg (by omega)]
  congr 2
  ring

/-- A group of zeros has exponent 0. -/
theorem scaleOf_zero : ScaleOf ((0 : ℝ) : EReal) 0 := by
  have h1 : refE (F := Ideal) ((0 : ℝ) : EReal) = BitVec.ofInt 32 0 := by
    unfold refE
    rw [c_zero, select_oeq, if_pos rfl]
    rfl
  have h2 : scaleWord (F := Ideal) ((0 : ℝ) : EReal) = BitVec.ofInt 32 (0 + 127) := by
    unfold scaleWord
    rw [c_zero, select_oeq, if_pos rfl]
    rfl
  refine ⟨by omega, by omega, h1, h2, invScale_of h2 (by omega) (by omega), refInv_of h1 (by omega) (by omega), ?_⟩
  intro x hx
  rw [EReal.coe_le_coe_iff] at hx
  norm_num
  linarith

/-- A group whose largest magnitude has exponent field `k` has exponent `k - 129`. -/
theorem scaleOf_pos {g : ℝ} {k : ℕ} (hk : 2 ≤ k) (h : HasExp g k) : ScaleOf (g : EReal) ((k : ℤ) - 129) := by
  have hg : 0 < g := lt_of_lt_of_le (by positivity) h.2.2.1
  have hb := h.2.1
  have hne : ¬ ((g : EReal) = ((0 : ℝ) : EReal)) := by
    rw [EReal.coe_eq_coe_iff]
    exact hg.ne'
  have h1 : refE (F := Ideal) (g : EReal) = BitVec.ofInt 32 ((k : ℤ) - 129) := by
    unfold refE
    rw [c_zero, select_oeq, if_neg hne, c_two]
    have hl : (FloatOps.hostUnary .floor (FloatOps.hostDivf (FloatOps.hostUnary (F := Ideal) (φ := .f32) .log (g : EReal))
        (FloatOps.hostUnary (F := Ideal) (φ := .f32) .log ((2 : ℝ) : EReal))) : Ideal .f32) = ((((k : ℤ) - 127 : ℤ) : ℝ) : EReal) := by
      have a1 : (FloatOps.hostUnary (F := Ideal) (φ := .f32) .log (g : EReal) : Ideal .f32) = ((Real.log g : ℝ) : EReal) := by
        show (if g ≤ 0 then ⊥ else ((Real.log g : ℝ) : EReal)) = _
        rw [if_neg (by linarith)]
      have a2 : (FloatOps.hostUnary (F := Ideal) (φ := .f32) .log ((2 : ℝ) : EReal) : Ideal .f32) = ((Real.log 2 : ℝ) : EReal) := by
        show (if (2 : ℝ) ≤ 0 then ⊥ else ((Real.log 2 : ℝ) : EReal)) = _
        rw [if_neg (by norm_num)]
      rw [a1, a2]
      have a3 : (FloatOps.hostDivf (F := Ideal) (φ := .f32) ((Real.log g : ℝ) : EReal) ((Real.log 2 : ℝ) : EReal) : Ideal .f32)
          = ((Real.log g / Real.log 2 : ℝ) : EReal) := by
        show Ideal.div _ _ = _
        unfold Ideal.div
        have : ¬ (((Real.log 2 : ℝ) : EReal) = 0) := by
          rw [← EReal.coe_zero, EReal.coe_eq_coe_iff]
          exact (Real.log_pos (by norm_num)).ne'
        rw [if_neg this, ← EReal.coe_inv, ← EReal.coe_mul, div_eq_mul_inv]
      rw [a3]
      show (((⌊Real.log g / Real.log 2⌋ : ℤ) : ℝ) : EReal) = _
      rw [log_eq h]
    rw [hl, fptosi_int _ (by omega) (by omega)]
    show BitVec.ofInt 32 _ + 1#32 - 3#32 = _
    rw [show (1#32) = BitVec.ofInt 32 1 from rfl, show (3#32) = BitVec.ofInt 32 3 from rfl, ← BitVec.ofInt_add, ← ofInt_sub]
    congr 1
    ring
  have h2 : scaleWord (F := Ideal) (g : EReal) = BitVec.ofInt 32 ((k : ℤ) - 129 + 127) := by
    unfold scaleWord
    rw [c_zero, select_oeq, if_neg hne, expField_eq h]
    show BitVec.ofNat 32 k - 2#32 = _
    rw [← BitVec.ofInt_natCast, show (2#32) = BitVec.ofInt 32 2 from rfl, ← ofInt_sub]
    congr 1
    ring
  refine ⟨by omega, by omega, h1, h2, invScale_of h2 (by omega) (by omega), refInv_of h1 (by omega) (by omega), ?_⟩
  intro x hx
  rw [EReal.coe_le_coe_iff] at hx
  have h3 : x < (2 : ℝ) ^ ((k : ℤ) - 126) := lt_of_le_of_lt hx h.2.2.2
  have h4 : (2 : ℝ) ^ ((k : ℤ) - 126) * (2 : ℝ) ^ (-((k : ℤ) - 129)) = 8 := by
    rw [← zpow_add₀ (by norm_num)]
    have : (k : ℤ) - 126 + -((k : ℤ) - 129) = 3 := by ring
    rw [this]
    norm_num
  rw [← h4]
  exact mul_lt_mul_of_pos_right h3 (by positivity)

/-- What the precondition says of a group's largest magnitude. -/
def InRange (g : Ideal .f32) : Prop :=
  g = ((0 : ℝ) : EReal) ∨ ((((2 : ℝ) ^ (-125 : ℤ) : ℝ) : EReal) ≤ g ∧ g ≤ (Scalar.ofBits .f32 0x7F7F0000#32 : Ideal .f32))

/-- A largest magnitude in range is a real number. -/
theorem InRange.real {g : Ideal .f32} (h : InRange g) : ∃ r : ℝ, g = (r : EReal) := by
  rcases h with h | ⟨h1, h2⟩
  · exact ⟨_, h⟩
  · obtain ⟨B, hB, -⟩ := c_hi
    rw [hB] at h2
    induction g using EReal.rec with
    | bot => exact absurd h1 (by simp)
    | coe r => exact ⟨r, rfl⟩
    | top => exact absurd h2 (by simp)

/-- A group in range has a scale. -/
theorem InRange.scale {g : Ideal .f32} (h : InRange g) : ∃ E : ℤ, ScaleOf g E := by
  obtain ⟨r, rfl⟩ := h.real
  rcases h with h | ⟨h1, h2⟩
  · rw [h]
    exact ⟨0, scaleOf_zero⟩
  · obtain ⟨B, hB, hB'⟩ := c_hi
    rw [hB, EReal.coe_le_coe_iff] at h2
    rw [EReal.coe_le_coe_iff] at h1
    obtain ⟨k, hk, hk'⟩ := exists_hasExp h1 (lt_of_le_of_lt h2 hB')
    exact ⟨_, scaleOf_pos hk hk'⟩

/-- The kernel's scale word is the reference's. -/
theorem scale_eq {g : Ideal .f32} (h : InRange g) : IntOp.addi (refE g) 127#32 = scaleWord g := by
  obtain ⟨E, hE⟩ := h.scale
  rw [hE.ref, hE.word]
  show BitVec.ofInt 32 E + 127#32 = _
  rw [show (127#32) = BitVec.ofInt 32 127 from rfl, ← BitVec.ofInt_add]

/-- The place of a scaled magnitude among the codes, as a real. -/
def placeR (a : ℝ) : ℝ := min (min (a + a) (a + 2)) (a * (1 / 2) + 4)

/-- The place of a scaled magnitude below 2 is twice it. -/
theorem placeR_lo {a : ℝ} (h : a < 2) : placeR a = 2 * a := by
  unfold placeR
  have h1 : min (a + a) (a + 2) = a + a := min_eq_left (by linarith)
  rw [h1, min_eq_left (by linarith)]
  ring

/-- The place of a scaled magnitude from 2 to below 4 is 2 above it. -/
theorem placeR_mid {a : ℝ} (h : 2 ≤ a) (h' : a < 4) : placeR a = a + 2 := by
  unfold placeR
  have h1 : min (a + a) (a + 2) = a + 2 := min_eq_right (by linarith)
  rw [h1, min_eq_left (by linarith)]

/-- The place of a scaled magnitude of 4 and more is 4 above its half. -/
theorem placeR_hi {a : ℝ} (h : 4 ≤ a) : placeR a = a / 2 + 4 := by
  unfold placeR
  have h1 : min (a + a) (a + 2) = a + 2 := min_eq_right (by linarith)
  rw [h1, min_eq_right (by linarith)]
  ring

/-- The maximum of two reals, as an extended real. -/
theorem coe_max (a b : ℝ) : ((max a b : ℝ) : EReal) = max (a : EReal) (b : EReal) := EReal.coe_strictMono.monotone.map_max

/-- The minimum of two reals, as an extended real. -/
theorem coe_min (a b : ℝ) : ((min a b : ℝ) : EReal) = min (a : EReal) (b : EReal) := EReal.coe_strictMono.monotone.map_min

/-- The magnitude of an extended real. -/
def mag (x : EReal) : EReal := max x (-x)

/-- The kernel's magnitude is the magnitude. -/
theorem absf_mag (φ : FTy) (x : Ideal φ) : FloatOps.absf x = (mag x : EReal) := rfl
/-- The reference's magnitude is the magnitude. -/
theorem hostAbsf_mag (φ : FTy) (x : Ideal φ) : FloatOps.hostAbsf x = (mag x : EReal) := rfl

/-- The magnitude of a real. -/
theorem mag_coe (r : ℝ) : mag (r : EReal) = ((|r| : ℝ) : EReal) := by
  unfold mag
  rw [← EReal.coe_neg, ← coe_max]
  rfl
/-- The magnitude of minus infinity. -/
theorem mag_bot : mag ⊥ = ⊤ := by simp [mag]
/-- The magnitude of infinity. -/
theorem mag_top : mag ⊤ = ⊤ := by simp [mag]

/-- A magnitude is at least zero. -/
theorem mag_nonneg (x : EReal) : 0 ≤ mag x := by
  induction x using EReal.rec with
  | bot => rw [mag_bot]; exact le_top
  | coe r => rw [mag_coe]; exact EReal.coe_nonneg.mpr (abs_nonneg r)
  | top => rw [mag_top]; exact le_top

/-- A scaled magnitude from 4 to below 6 has code 6 below it. -/
theorem floor_hi {a : ℝ} (h : 4 ≤ a) (h' : a < 6) : ⌊placeR a⌋ = 6 := by
  rw [placeR_hi h, Int.floor_eq_iff]
  constructor
  · push_cast
    linarith
  · push_cast
    linarith

/-- The place of a scaled magnitude is at least zero. -/
theorem placeR_nonneg {a : ℝ} (h : 0 ≤ a) : 0 ≤ placeR a := by
  unfold placeR
  exact le_min (le_min (by linarith) (by linarith)) (by linarith)

/-- The place of a scaled magnitude below 6 is below 7. -/
theorem placeR_lt {a : ℝ} (h : a < 6) : placeR a < 7 := by
  unfold placeR
  exact lt_of_le_of_lt (min_le_right _ _) (by linarith)

/-- The code below a scaled magnitude is at least zero. -/
theorem floor_nonneg {a : ℝ} (h : 0 ≤ a) : 0 ≤ ⌊placeR a⌋ := Int.floor_nonneg.mpr (placeR_nonneg h)

/-- The code below a scaled magnitude below 6 is at most 6. -/
theorem floor_le {a : ℝ} (h : a < 6) : ⌊placeR a⌋ ≤ 6 := by
  have : ⌊placeR a⌋ < 7 := by
    rw [Int.floor_lt]
    exact_mod_cast placeR_lt h
  omega

/-- The reference's floor of a real is its floor. -/
theorem floor_coe (r : ℝ) : FloatOps.hostUnary (F := Ideal) (φ := .f32) .floor (r : EReal) = ((⌊r⌋ : ℝ) : EReal) := rfl

/-- The reference's whole place. -/
theorem refIdx_eq {a : ℝ} (h : a < 6) : refIdx (F := Ideal) (a : EReal) = ((⌊placeR a⌋ : ℝ) : EReal) := by
  unfold refIdx
  rw [c_two, c_four, c_six, select_olt, select_olt]
  simp only [Ideal.mulf_def, Ideal.subf_def, Ideal.addf_def, EReal.coe_lt_coe_iff, ← EReal.coe_mul, ← EReal.coe_sub, floor_coe,
    ← EReal.coe_add]
  by_cases h2 : a < 2
  · rw [if_pos h2, placeR_lo h2]
  · rw [if_neg h2]
    by_cases h4 : a < 4
    · rw [if_pos h4, placeR_mid (by linarith) h4]
      congr 1
      have : a + 2 = (a - 2) + ((4 : ℤ) : ℝ) := by push_cast; ring
      rw [this, Int.floor_add_intCast]
      push_cast
      ring
    · rw [if_neg h4, floor_hi (by linarith) h]
      norm_num

/-- The reference's fraction. -/
theorem refFrac_eq {a : ℝ} (h : a < 6) : refFrac (F := Ideal) (a : EReal) = ((placeR a - ⌊placeR a⌋ : ℝ) : EReal) := by
  unfold refFrac
  rw [c_two, c_four, c_half, select_olt, select_olt]
  simp only [Ideal.mulf_def, Ideal.subf_def, Ideal.addf_def, EReal.coe_lt_coe_iff, ← EReal.coe_mul, ← EReal.coe_sub, floor_coe,
    ← EReal.coe_add]
  by_cases h2 : a < 2
  · rw [if_pos h2, placeR_lo h2]
  · rw [if_neg h2]
    by_cases h4 : a < 4
    · rw [if_pos h4, placeR_mid (by linarith) h4]
      congr 1
      have : a + 2 = (a - 2) + ((4 : ℤ) : ℝ) := by push_cast; ring
      rw [this, Int.floor_add_intCast]
      push_cast
      ring
    · rw [if_neg h4, floor_hi (by linarith) h, placeR_hi (by linarith)]
      congr 1
      push_cast
      ring

/-- The kernel's place of a value, as a real. -/
theorem place_eq (inv x : ℝ) : place (F := Ideal) (inv : EReal) (x : EReal) = ((placeR (|x| * (3 / 4) * inv) : ℝ) : EReal) := by
  unfold place placeR
  rw [c_34, c_two, c_half, c_four]
  simp only [Ideal.mulf_def, Ideal.addf_def, Ideal.minimumf_def, absf_mag, mag_coe, ← EReal.coe_mul, ← EReal.coe_add, ← coe_min]

/-- An integer rounds to itself. -/
theorem roundeven_int (n : ℤ) : FloatOps.roundeven (F := Ideal) (φ := .f32) ((n : ℝ) : EReal) = ((n : ℝ) : EReal) := by
  show (((Ideal.roundHalfEven (n : ℝ) : ℤ) : ℝ) : EReal) = _
  unfold Ideal.roundHalfEven
  simp

/-- A word shifted right by eight is not negative, so it is the same read with or without a sign. -/
theorem shr8_int (w : BitVec 32) : ((IntOp.shrui .vector w 8#32).toInt : ℝ) = ((IntOp.shrui .host w 8#32).toNat : ℝ) := by
  have h1 : IntOp.shrui .vector w 8#32 = w >>> 8 := by simp [IntOp.shrui]
  have h2 : IntOp.shrui .host w 8#32 = w >>> 8 := by simp [IntOp.shrui]
  rw [h1, h2, BitVec.toInt_eq_toNat_of_lt]
  · push_cast
    rfl
  · rw [BitVec.toNat_ushiftRight, Nat.shiftRight_eq_div_pow]
    have := w.isLt
    omega

/-- Setting the sign bit of a code is adding 8. -/
theorem or8 (n : ℤ) (h0 : 0 ≤ n) (h1 : n ≤ 7) : IntOp.ori (BitVec.ofInt 32 n) 8#32 = IntOp.addi (BitVec.ofInt 32 n) 8#32 := by
  obtain ⟨k, rfl⟩ := Int.eq_ofNat_of_zero_le h0
  have : k < 8 := by omega
  revert this
  clear h0 h1
  revert k
  decide

/-- The kernel's code of a value is the reference's, for a value of a group in range. -/
theorem nib_eq {g : Ideal .f32} (h : InRange g) (x : Ideal .f32) (hx : mag x ≤ (g : EReal)) (w : BitVec 32) :
    nib (invScale g) x w = refNib (refInv g) x w ∧ ∃ n : ℕ, n < 16 ∧ nib (invScale g) x w = BitVec.ofNat 32 n := by
  obtain ⟨E, hE⟩ := h.scale
  obtain ⟨gr, hgr⟩ := h.real
  have hxr : ∃ r : ℝ, x = (r : EReal) := by
    induction x using EReal.rec with
    | bot => rw [hgr] at hx; exact absurd hx (by simp [mag_bot])
    | coe r => exact ⟨r, rfl⟩
    | top => rw [hgr] at hx; exact absurd hx (by simp [mag_top])
  obtain ⟨r, rfl⟩ := hxr
  have hx' : ((|r| : ℝ) : EReal) ≤ g := by
    rw [← mag_coe]
    exact hx
  have hb := hE.below |r| hx'
  rw [hE.inv, hE.refInv]
  generalize hv : (2 : ℝ) ^ (-E) = v at hb
  have hv0 : 0 < v := by rw [← hv]; positivity
  have ha0 : 0 ≤ |r| * (3 / 4) * v := by positivity
  have ha6 : |r| * (3 / 4) * v < 6 := by linarith
  unfold nib refNib refMag
  rw [place_eq]
  have e1 : FloatOps.mulf (F := Ideal) (φ := .f32) (FloatOps.mulf (FloatOps.hostAbsf (r : EReal)) (Scalar.ofBits .f32 0x3F400000#32)) (v : EReal)
      = ((|r| * (3 / 4) * v : ℝ) : EReal) := by
    rw [c_34]
    simp only [Ideal.mulf_def, hostAbsf_mag, mag_coe, ← EReal.coe_mul]
  rw [e1, refIdx_eq ha6, refFrac_eq ha6]
  generalize |r| * (3 / 4) * v = a at ha0 ha6
  have n0 := floor_nonneg ha0
  have n6 := floor_le ha6
  generalize hp : placeR a = p at n0 n6
  have ef : FloatOps.floor (F := Ideal) (φ := .f32) (p : EReal) = ((⌊p⌋ : ℝ) : EReal) := rfl
  simp only [ef, c_zero, c_one, c_p24, c_m24, select_olt]
  have eu : FloatOps.sitofp (F := Ideal) .f32 (IntOp.shrui .vector w 8#32) = (((IntOp.shrui .host w 8#32).toNat : ℝ) : EReal) := by
    rw [← shr8_int]
    rfl
  have eu' : FloatOps.uitofp (F := Ideal) .f32 (IntOp.shrui .host w 8#32) = (((IntOp.shrui .host w 8#32).toNat : ℝ) : EReal) := rfl
  simp only [eu, eu', Ideal.mulf_def, Ideal.subf_def, ← EReal.coe_sub, ← EReal.coe_mul, EReal.coe_lt_coe_iff]
  generalize ((IntOp.shrui .host w 8#32).toNat : ℝ) = u
  have hcmp : FloatOps.cmpf (F := Ideal) (φ := .f32) .olt ((u * (1 / 16777216) : ℝ) : EReal) ((p - ⌊p⌋ : ℝ) : EReal)
      = BitVec.ofBool (decide (u < (p - ⌊p⌋) * 16777216)) := by
    show BitVec.ofBool (decide _) = _
    congr 2
    rw [EReal.coe_lt_coe_iff, eq_iff_iff]
    constructor <;> intro hh <;> linarith
  rw [hcmp]
  have key : ∃ n : ℤ, 0 ≤ n ∧ n ≤ 7 ∧ FloatOps.fptosi (F := Ideal) (φ := .f32) 32 (FloatOps.roundeven (FloatOps.addf ((⌊p⌋ : ℝ) : EReal)
      (if u < (p - ⌊p⌋) * 16777216 then ((1 : ℝ) : EReal) else ((0 : ℝ) : EReal)))) = BitVec.ofInt 32 n
      ∧ IntOp.addi (FloatOps.fptosi (F := Ideal) (φ := .f32) 32 ((⌊p⌋ : ℝ) : EReal))
        ((BitVec.ofBool (decide (u < (p - ⌊p⌋) * 16777216))).setWidth 32) = BitVec.ofInt 32 n := by
    rw [fptosi_int _ (by omega) (by omega)]
    by_cases hc : u < (p - ⌊p⌋) * 16777216
    · refine ⟨⌊p⌋ + 1, by omega, by omega, ?_, ?_⟩
      · rw [if_pos hc, Ideal.addf_def, ← EReal.coe_add]
        have : ((⌊p⌋ : ℝ) + 1) = ((⌊p⌋ + 1 : ℤ) : ℝ) := by push_cast; rfl
        rw [this, roundeven_int, fptosi_int _ (by omega) (by omega)]
      · rw [decide_eq_true hc, BitVec.ofInt_add]
        rfl
    · refine ⟨⌊p⌋, by omega, by omega, ?_, ?_⟩
      · rw [if_neg hc, Ideal.addf_def, ← EReal.coe_add, add_zero, roundeven_int, fptosi_int _ (by omega) (by omega)]
      · rw [decide_eq_false hc]
        show _ + 0#32 = _
        rw [BitVec.add_zero]
  obtain ⟨n, h0, h7, k1, k2⟩ := key
  rw [k1, k2, or8 n h0 h7]
  refine ⟨rfl, ?_⟩
  obtain ⟨k, rfl⟩ := Int.eq_ofNat_of_zero_le h0
  split
  · refine ⟨k + 8, by omega, ?_⟩
    show BitVec.ofInt 32 (k : ℤ) + 8#32 = _
    rw [BitVec.ofInt_natCast, BitVec.ofNat_add]
  · exact ⟨k, by omega, BitVec.ofInt_natCast ..⟩

end Cert.Proof
end
-- ==== Proof.M.Lub.lean ====
module

public import proofs.«01_k».proof.Proof.M.Nib
public import proofs.«01_k».proof.Proof.K.Block
public import Idealize.ShloMosaic.PureOps.Reduce
public import Idealize.ShloMosaic.Lib.IdealHost

@[expose] public section

noncomputable section

namespace Cert.Proof

open Idealize.ShloMosaic

/-- What a running maximum lies below: its start and every value met. -/
theorem foldl_max_le_iff {ι : Type} (f : ι → EReal) (b : EReal) (l : List ι) (init : EReal) :
    l.foldl (fun r i => FloatOps.maximumf (F := Ideal) (φ := .f32) r (f i)) init ≤ b ↔ init ≤ b ∧ ∀ i ∈ l, f i ≤ b := by
  induction l generalizing init with
  | nil => simp
  | cons a l ih =>
    rw [List.foldl_cons, ih]
    show max init (f a) ≤ b ∧ _ ↔ _
    rw [max_le_iff]
    simp [and_assoc]

/-- What a host maximum lies below. -/
theorem hostReduce_le_iff {φ : FTy} {s t u : Shape} {axes : List (Fin s.rank)} (x : s.Idx → EReal) (init : u.Idx → EReal) (h : s.ReducesTo axes t)
    (hu : 0 < u.numel) (j : t.Idx) (b : EReal) :
    Host.reduce (FloatOps.maximumf (F := Ideal) (φ := φ)) x init h hu j ≤ b ↔ init (Shape.Idx.first hu) ≤ b ∧ ∀ i, h.drop i = j → x i ≤ b := by
  rw [Host.reduce_eq_foldl]
  refine (foldl_max_le_iff x b _ _).trans (and_congr Iff.rfl ⟨fun hh i hi => hh i ?_, fun hh i hi => hh i ?_⟩)
  · rw [List.mem_filter, List.mem_map]
    exact ⟨⟨s.rowMajor i, List.mem_finRange _, Equiv.symm_apply_apply _ _⟩, by simpa using hi⟩
  · rw [List.mem_filter] at hi
    simpa using hi.2

/-- A host conjunction that holds has every member true. -/
theorem foldl_and_eq {ι : Type} (f : ι → BitVec 1) (l : List ι) (init : BitVec 1)
    (h : l.foldl (fun r i => IntOp.andi r (f i)) init = 1#1) : init = 1#1 ∧ ∀ i ∈ l, f i = 1#1 := by
  induction l generalizing init with
  | nil => simpa using h
  | cons a l ih =>
    obtain ⟨h1, h2⟩ := ih _ h
    have key : ∀ q p : BitVec 1, q &&& p = 1#1 → q = 1#1 ∧ p = 1#1 := by decide
    have h3 : init = 1#1 ∧ f a = 1#1 := key _ _ h1
    refine ⟨h3.1, fun i hi => ?_⟩
    rcases List.mem_cons.1 hi with rfl | hi
    · exact h3.2
    · exact h2 i hi

/-- A host conjunction over axes that holds has every member true. -/
theorem hostReduce_and {s t u : Shape} {axes : List (Fin s.rank)} (x : s.Idx → BitVec 1) (init : u.Idx → BitVec 1)
    (h : s.ReducesTo axes t) (hu : 0 < u.numel) (j : t.Idx) (hh : Host.reduce IntOp.andi x init h hu j = 1#1) (i : s.Idx)
    (hi : h.drop i = j) : x i = 1#1 := by
  rw [Host.reduce_eq_foldl] at hh
  refine (foldl_and_eq x _ _ hh).2 i ?_
  rw [List.mem_filter, List.mem_map]
  exact ⟨⟨s.rowMajor i, List.mem_finRange _, Equiv.symm_apply_apply _ _⟩, by simpa using hi⟩

/-- What a running largest magnitude lies below. -/
theorem runMax_le_iff (y : ℕ → EReal) (n : ℕ) (b : EReal) :
    runMax (F := Ideal) y n ≤ b ↔ ∀ m ≤ n, mag (y m) ≤ b := by
  induction n with
  | zero =>
    show FloatOps.absf (F := Ideal) (φ := .f32) (y 0) ≤ b ↔ _
    rw [absf_mag]
    exact ⟨fun h m hm => by rw [Nat.le_zero.1 hm]; exact h, fun h => h 0 le_rfl⟩
  | succ n ih =>
    show max (runMax (F := Ideal) y n) (FloatOps.absf (F := Ideal) (φ := .f32) (y (n + 1))) ≤ b ↔ _
    rw [max_le_iff, ih, absf_mag]
    constructor
    · rintro ⟨h1, h2⟩ m hm
      rcases Nat.lt_or_ge n m with h | h
      · rw [show m = n + 1 by omega]
        exact h2
      · exact h1 m h
    · exact fun h => ⟨fun m hm => h m (by omega), h _ le_rfl⟩

/-- What the running largest magnitude of the tiles lies below. -/
theorem accS_le_iff (y : ℕ → Cert.KernelIdeal.S256x256.Idx → EReal) (init : EReal) (g l n : ℕ) (b : EReal) :
    KernelIdeal.accS (F := Ideal) y init g l n ≤ b
      ↔ init ≤ b ∧ ∀ k < n, KernelIdeal.gmS (F := Ideal) (y k) g l ≤ b ∧ KernelIdeal.gmS (F := Ideal) (y k) g (128 + l) ≤ b := by
  induction n with
  | zero => simp [KernelIdeal.accS]
  | succ n ih =>
    rw [KernelIdeal.accS_succ]
    show max (max _ _) _ ≤ b ↔ _
    rw [max_le_iff, max_le_iff, ih]
    constructor
    · rintro ⟨⟨⟨h1, h2⟩, h3⟩, h4⟩
      refine ⟨h1, fun k hk => ?_⟩
      rcases Nat.lt_or_ge k n with h | h
      · exact h2 k h
      · rw [show k = n by omega]
        exact ⟨h3, h4⟩
    · rintro ⟨h1, h2⟩
      exact ⟨⟨⟨h1, fun k hk => h2 k (by omega)⟩, (h2 n (by omega)).1⟩, (h2 n (by omega)).2⟩

/-- The value in row `R` and column `c` of the input. -/
def Xv {α : Type} (x0 : (⟨3, ![16, 2048, 5120]⟩ : Shape).Idx → α) (R c : ℕ) : α :=
  x0 (ix3 (Fin.ofNat 16 (R / 2048)) (Fin.ofNat 2048 R) (Fin.ofNat 5120 c))

/-- The input at an index, by its row of all batches and its column. -/
theorem Xv_eq {α : Type} (x0 : (⟨3, ![16, 2048, 5120]⟩ : Shape).Idx → α) (i : (⟨3, ![16, 2048, 5120]⟩ : Shape).Idx) (R c : ℕ)
    (h0 : (i 0).val = R / 2048 % 16) (h1 : (i 1).val = R % 2048) (h2 : (i 2).val = c % 5120) : x0 i = Xv x0 R c := by
  unfold Xv
  congr 1
  funext a
  match a with
  | ⟨0, _⟩ => exact Fin.ext h0
  | ⟨1, _⟩ => exact Fin.ext h1
  | ⟨2, _⟩ => exact Fin.ext h2

/-- `g` is the largest magnitude of group `G` of row `R`. -/
def GroupMax (x0 : (⟨3, ![16, 2048, 5120]⟩ : Shape).Idx → EReal) (R G : ℕ) (g : EReal) : Prop :=
  ∀ b, g ≤ b ↔ ∀ c < 32, mag (Xv x0 R (32 * G + c)) ≤ b

/-- A group has one largest magnitude. -/
theorem GroupMax.eq {x0 : (⟨3, ![16, 2048, 5120]⟩ : Shape).Idx → EReal} {R G : ℕ} {g g' : EReal} (h : GroupMax x0 R G g)
    (h' : GroupMax x0 R G g') : g = g' := eq_of_forall_ge_iff fun b => (h b).trans (h' b).symm

/-- A magnitude of the group is at most its largest. -/
theorem GroupMax.le {x0 : (⟨3, ![16, 2048, 5120]⟩ : Shape).Idx → EReal} {R G : ℕ} {g : EReal} (h : GroupMax x0 R G g)
    (c : ℕ) (hc : c < 32) : mag (Xv x0 R (32 * G + c)) ≤ g := (h g).1 le_rfl c hc

end Cert.Proof
end
-- ==== Proof.M.Tile.lean ====
module

public import proofs.«01_k».proof.Proof.M.Lub
public import Idealize.ShloMosaic.Lib.MatmulPlain
public import Idealize.ShloMosaic.Lib.Pipeline.Value

@[expose] public section

noncomputable section

namespace Cert.Proof.KernelIdeal

open Idealize.ShloMosaic Cert.KernelIdeal Cert.KernelIdeal.Gen
open scoped BigOperators

/-- The selection matrix: row `a` takes column `32 (a % 8) + a / 8`. -/
def IsSel (SEL : S256x256.Idx → EReal) : Prop :=
  ∀ a j : Fin 256, SEL (ix2 a j) = if j.val = a.val % 8 * 32 + a.val / 8 then 1 else 0

/-- The selected values of a tile, as sums. -/
theorem yS_sum (X : S256x5120.Idx → EReal) (SEL : S256x256.Idx → EReal) (k : ℕ) (a b : Fin 256) :
    yS (F := Ideal) X SEL k (ix2 a b) = ∑ j : Fin 256, SEL (ix2 a j) * X (ix2 b (Fin.ofNat 5120 (256 * k + j.val))) := by
  unfold yS k0_pay152 k0_pay150
  dsimp only
  rw [shapeCast_self, shapeCast_self]
  have hz : (constant S256x256 .f32 0x00000000#32 : FVec Ideal S256x256 .f32) (ValueIdx.ix2 a b) = (0 : EReal) := c_zero.trans EReal.coe_zero
  exact (Ideal.matmul_transposedRhs_apply (M := 256) (K := 256) (N := 256) none SEL (tile (F := Ideal) X k) _ a b).trans
    ((congrArg (fun z : EReal => z + _) hz).trans (zero_add _))

/-- The selected values of a tile are the tile's values, regrouped. -/
theorem yS_at (X : S256x5120.Idx → EReal) (SEL : S256x256.Idx → EReal) (hS : IsSel SEL) (x0 : S16x2048x5120.Idx → EReal) (s : ℕ)
    (hX : ∀ (r : Fin 256) (c : Fin 5120), X (ix2 r c) = Xv x0 (256 * s + r.val) c.val) (k m g r : ℕ) (hk : k < 20) (hm : m < 32)
    (hg : g < 8) (hr : r < 256) : at2 (yS (F := Ideal) X SEL k) (8 * m + g) r = Xv x0 (256 * s + r) (32 * (8 * k + g) + m) := by
  unfold at2
  rw [yS_sum, Finset.sum_eq_single (⟨32 * g + m, by omega⟩ : Fin 256)]
  · rw [hS, if_pos (by show 32 * g + m = (8 * m + g) % 256 % 8 * 32 + (8 * m + g) % 256 / 8; omega), one_mul, hX]
    congr 1
    · show 256 * s + r % 256 = _
      omega
    · show (256 * k + (32 * g + m)) % 5120 = _
      omega
  · intro j _ hj
    rw [hS, if_neg, zero_mul]
    intro h
    apply hj
    apply Fin.ext
    show j.val = 32 * g + m
    have h' : j.val = (8 * m + g) % 256 % 8 * 32 + (8 * m + g) % 256 / 8 := h
    have e : (8 * m + g) % 256 = 8 * m + g := Nat.mod_eq_of_lt (by omega)
    rw [e] at h'
    clear h hj
    omega
  · exact fun h => absurd (Finset.mem_univ _) h

/-- The largest magnitude the kernel finds is the group's. -/
theorem gmS_max (X : S256x5120.Idx → EReal) (SEL : S256x256.Idx → EReal) (hS : IsSel SEL) (x0 : S16x2048x5120.Idx → EReal) (s : ℕ)
    (hX : ∀ (r : Fin 256) (c : Fin 5120), X (ix2 r c) = Xv x0 (256 * s + r.val) c.val) (k g r : ℕ) (hk : k < 20)
    (hg : g < 8) (hr : r < 256) : GroupMax x0 (256 * s + r) (8 * k + g) (gmS (F := Ideal) (yS (F := Ideal) X SEL k) g r) := by
  intro b
  unfold gmS
  rw [runMax_le_iff]
  constructor
  · intro h c hc
    have := h c (by omega)
    rwa [yS_at X SEL hS x0 s hX k c g r hk hc hg hr] at this
  · intro h m hm
    rw [yS_at X SEL hS x0 s hX k m g r hk (by omega) hg hr]
    exact h m (by omega)

/-- The column sums after a block: the sums before it, plus the block's. -/
theorem sumsB_at (X : S256x5120.Idx → EReal) (prev : S8x5120.Idx → EReal) (a : Fin 8) (c : Fin 5120) :
    sumsB (F := Ideal) X prev (ix2 a c) = prev (ix2 a c) + ∑ r : Fin 256, X (ix2 r c) := by
  unfold sumsB k0_pay151 k0_pay150 k0_pay182
  dsimp only
  rw [shapeCast_self, shapeCast_self]
  have hc : Fin.ofNat 5120 (256 * (c.val / 256) + c.val % 256) = c := by
    apply Fin.ext
    show (256 * (c.val / 256) + c.val % 256) % 5120 = c.val
    have := c.isLt
    omega
  have hz : (constant S8x256 .f32 0x00000000#32 : FVec Ideal S8x256 .f32) (ValueIdx.ix2 a (Fin.ofNat 256 c.val)) = (0 : EReal) :=
    c_zero.trans EReal.coe_zero
  have hm := (Ideal.matmul_plain_apply (M := 8) (K := 256) (N := 256) none
    (broadcast S8x256 (Scalar.ofBits (F := Ideal) .bf16 0x3F80#16)) (tile (F := Ideal) X (c.val / 256)) (constant S8x256 .f32 0x00000000#32)
    a (Fin.ofNat 256 c.val)).trans ((congrArg (fun z : EReal => z + _) hz).trans (zero_add _))
  refine (congrArg (fun z : EReal => prev (ix2 a (Fin.ofNat 5120 (256 * (c.val / 256) + c.val % 256))) + z) hm).trans ?_
  rw [hc]
  refine congrArg (fun z : EReal => prev (ix2 a c) + z) (Finset.sum_congr rfl fun r _ => ?_)
  show Scalar.ofBits (F := Ideal) .bf16 0x3F80#16 * X (ix2 r (Fin.ofNat 5120 (256 * (c.val / 256) + c.val % 256))) = X (ix2 r c)
  rw [hc, c_one16, EReal.coe_one]
  exact one_mul _

end Cert.Proof.KernelIdeal
end
-- ==== Proof.M.Blocks.lean ====
module

public import proofs.«01_k».proof.Proof.K.Launch
public import proofs.«01_k».proof.Proof.M.Sel
public import proofs.«01_k».proof.Proof.M.Tile
public import Idealize.ShloMosaic.Lib.Pipeline.ValueKit
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat)

/-- Which block of each array a step works on. -/
theorem index_at : ∀ t : Fin cfg0.N, win0_0.index t = ![0] ∧ win0_1.index t = ![t.val, 0] ∧ win0_2.index t = ![0, 0]
    ∧ win0_3.index t = ![t.val, 0] ∧ win0_4.index t = ![t.val, 0] ∧ win0_5.index t = ![0, 0] ∧ win0_6.index t = ![0, 0]
    ∧ (grid0.coords t 0).val = t.val :=
  (by decide +kernel : ∀ t : Fin grid0.N, _)

section Any

variable {F : FTy → Type} [FloatOps F]
variable (m : (ℓ : Loc nD τ sig) → Buf (Elt F) ℓ)

/-- The input as the kernel reads it: the rows of all batches one after another. -/
theorem V_main_v0 (c : Dev nD) : V m c main_v0
    = shapeCast S32768x5120 (m ((c : Thread nD τ).loc main_arg0) : S16x2048x5120.Idx → F .bf16) shapeCasts_S16x2048x5120_S32768x5120 := by
  show StableHlo.after hostOps0 _ _ = _
  after_results
  rfl

/-- The selection table as the kernel reads it. -/
theorem V_main_cst (c : Dev nD) : V m c main_cst = fun i => FloatOps.ofBits .bf16 (lit0 (S256x256.rowMajor i)) := by
  show StableHlo.after hostOps0 _ _ = _
  after_results
  rfl

/-- The rows of a step. -/
theorem xB_eq (c : Dev nD) (t : Fin cfg0.N) (r : Fin 256) (k : Fin 5120) :
    xB m c t (ix2 r k) = Xv (m ((c : Thread nD τ).loc main_arg0) : S16x2048x5120.Idx → F .bf16) (256 * t.val + r.val) k.val := by
  have hN : t.val < 128 := lt_of_lt_of_eq t.isLt (by decide)
  have hr := r.isLt
  have hk := k.isLt
  have e : xB m c t (ix2 r k) = V m c main_v0 (ix2 (⟨256 * t.val + r.val, by omega⟩ : Fin 32768) k) := by
    unfold xB iblk
    rw [View.read_apply]
    show V m c main_v0 _ = V m c main_v0 _
    congr 1
    funext a
    apply Fin.ext
    match a with
    | ⟨0, _⟩ =>
      show win0_1.index t 0 * 256 + 1 * r.val = 256 * t.val + r.val
      rw [(index_at t).2.1]
      show t.val * 256 + 1 * r.val = _
      omega
    | ⟨1, _⟩ =>
      show win0_1.index t 1 * 5120 + 1 * k.val = k.val
      rw [(index_at t).2.1]
      show 0 * 5120 + 1 * k.val = _
      omega
  rw [e, V_main_v0]
  rw [shapeCast_apply _ _ _ (ix3 (⟨(256 * t.val + r.val) / 2048, by omega⟩ : Fin 16) (⟨(256 * t.val + r.val) % 2048, by omega⟩ : Fin 2048) k)
    (by
      rw [Shape.rowMajor_val_three, Shape.rowMajor_val_two]
      show ((256 * t.val + r.val) / 2048 * 2048 + (256 * t.val + r.val) % 2048) * 5120 + k.val = (256 * t.val + r.val) * 5120 + k.val
      omega)]
  exact Xv_eq _ _ _ _ (by show (256 * t.val + r.val) / 2048 = _; omega) rfl (by show k.val = _; omega)

/-- The seed words of a step. -/
theorem seedB_eq (c : Dev nD) (t : Fin cfg0.N) (i : Fin 2) :
    seedB m c t (ix1 i) = (m ((c : Thread nD τ).loc main_arg1) : S2.Idx → BitVec 32) (ix1 i) := by
  rw [← V_main_arg1 m c]
  unfold seedB iblk
  rw [View.read_apply]
  show V m c main_arg1 _ = V m c main_arg1 _
  congr 1
  funext a
  apply Fin.ext
  match a with
  | ⟨0, _⟩ =>
    show win0_0.index t 0 * 2 + 1 * i.val = i.val
    rw [(index_at t).1]
    show 0 * 2 + 1 * i.val = _
    omega

/-- The selection table of a step. -/
theorem selB_eq (c : Dev nD) (t : Fin cfg0.N) (a j : Fin 256) :
    selB m c t (ix2 a j) = FloatOps.ofBits .bf16 (lit0t (256 * a.val + j.val)) := by
  have e : selB m c t (ix2 a j) = V m c main_cst (ix2 a j) := by
    unfold selB iblk
    rw [View.read_apply]
    show V m c main_cst _ = V m c main_cst _
    congr 1
    funext b
    apply Fin.ext
    match b with
    | ⟨0, _⟩ =>
      show win0_2.index t 0 * 256 + 1 * a.val = a.val
      rw [(index_at t).2.2.1]
      show 0 * 256 + 1 * a.val = _
      omega
    | ⟨1, _⟩ =>
      show win0_2.index t 1 * 256 + 1 * j.val = j.val
      rw [(index_at t).2.2.1]
      show 0 * 256 + 1 * j.val = _
      omega
  rw [e, V_main_cst]
  show FloatOps.ofBits .bf16 (lit0t (S256x256.rowMajor (ix2 a j)).val) = _
  congr 2
  rw [Shape.rowMajor_val_two]
  show a.val * 256 + j.val = _
  omega

end Any

variable (m : (ℓ : Loc nD τ sig) → Buf (Elt Ideal) ℓ)

/-- The selection table regroups a tile. -/
theorem selB_isSel (c : Dev nD) (t : Fin cfg0.N) : IsSel (selB m c t) := by
  intro a j
  have ha := a.isLt
  have hj := j.isLt
  rw [selB_eq, lit0t_eq _ (by omega)]
  unfold sel
  rw [show 128 * ((256 * a.val + j.val) / 128 % 2) + (256 * a.val + j.val) % 128 = j.val by omega,
    show (256 * a.val + j.val) / 128 / 2 % 8 * 32 + (256 * a.val + j.val) / 128 / 2 / 8 = a.val % 8 * 32 + a.val / 8 by omega]
  split
  · exact c_one16.trans EReal.coe_one
  · exact c_zero16.trans EReal.coe_zero

end Cert.Proof.KernelIdeal
end
-- ==== Proof.M.Philox.lean ====
module

public import proofs.«01_k».proof.Proof.K.Block
import Mathlib.Tactic.Ring

@[expose] public section

noncomputable section

namespace Cert.Proof

open Idealize.ShloMosaic

/-- The high word of a product, from 16-bit halves, as the reference computes it. -/
def refHi (A x : BitVec 32) : BitVec 32 :=
  let ah := IntOp.shrui .host A 16#32
  let al := IntOp.andi A 65535#32
  let bh := IntOp.shrui .host x 16#32
  let bl := IntOp.andi x 65535#32
  let u1 := IntOp.addi (IntOp.muli ah bl) (IntOp.shrui .host (IntOp.muli al bl) 16#32)
  let u2 := IntOp.addi (IntOp.muli al bh) (IntOp.andi u1 65535#32)
  IntOp.addi (IntOp.addi (IntOp.muli ah bh) (IntOp.shrui .host u1 16#32)) (IntOp.shrui .host u2 16#32)

/-- One round of the reference. -/
def refRnd (k0 k1 : BitVec 32) (q : Q) : Q :=
  ⟨IntOp.xori (IntOp.xori (refHi 3449720151#32 q.x2) q.x1) k0, IntOp.muli 3449720151#32 q.x2,
    IntOp.xori (IntOp.xori (refHi 3528531795#32 q.x0) q.x3) k1, IntOp.muli 3528531795#32 q.x0⟩

/-- The reference's state after its first round, of the counter `(n, 0, 0, 0)`. -/
def refFirst (k0 k1 n : BitVec 32) : Q :=
  ⟨k0, 0#32, IntOp.xori (refHi 3528531795#32 n) k1, IntOp.muli 3528531795#32 n⟩

/-- The key word of round `r`: the seed's word, and `w` more each round. -/
def refKey (u w : BitVec 32) : ℕ → BitVec 32
  | 0 => u
  | r + 1 => IntOp.addi (refKey u w r) w

/-- The state after round `r + 1`. -/
def refState (u0 u1 n : BitVec 32) : ℕ → Q
  | 0 => refFirst u0 u1 n
  | r + 1 => refRnd (refKey u0 2654435769#32 (r + 1)) (refKey u1 3144134277#32 (r + 1)) (refState u0 u1 n r)

/-- The reference's shift by 16. -/
theorem shr_host (x : BitVec 32) : IntOp.shrui .host x 16#32 = x >>> 16 := by simp [IntOp.shrui]
/-- The kernel's shift by 16. -/
theorem shr_vec (x : BitVec 32) : IntOp.shrui .vector x 16#32 = x >>> 16 := by simp [IntOp.shrui]

/-- The high half of a word is its quotient by 65536. -/
theorem toNat_shr (x : BitVec 32) : (x >>> 16).toNat = x.toNat / 65536 := by
  rw [BitVec.toNat_ushiftRight, Nat.shiftRight_eq_div_pow]

/-- The low half of a word is its remainder by 65536. -/
theorem toNat_and (x : BitVec 32) : (x &&& 65535#32).toNat = x.toNat % 65536 := by
  rw [BitVec.toNat_and]
  exact Nat.and_two_pow_sub_one_eq_mod x.toNat 16

/-- The high word by 16-bit halves with one middle sum, on numbers. -/
theorem hiA_nat (h l p t m s q r : ℕ) (hp : 8019 * l = 65536 * p + t) (ht : t < 65536)
    (hm : 53841 * l + 8019 * h + p = 65536 * m + s) (hs : s < 65536)
    (hq : 3528531795 * (65536 * h + l) = 4294967296 * q + r) (hr : r < 4294967296) : 53841 * h + m = q := by
  omega

/-- The high word by 16-bit halves with two middle sums, on numbers. -/
theorem refHi_nat (ah al h l p t a b c d q r : ℕ) (hp : al * l = 65536 * p + t) (ht : t < 65536)
    (ha : ah * l + p = 65536 * a + b) (hb : b < 65536) (hc : al * h + b = 65536 * c + d) (hd : d < 65536)
    (hq : (65536 * ah + al) * (65536 * h + l) = 4294967296 * q + r) (hr : r < 4294967296) : ah * h + a + c = q := by
  have e : (65536 * ah + al) * (65536 * h + l) = 4294967296 * (ah * h) + 65536 * (ah * l) + 65536 * (al * h) + al * l := by ring
  rw [e] at hq
  generalize ah * h = x1 at *
  generalize ah * l = x2 at *
  generalize al * h = x3 at *
  generalize al * l = x4 at *
  omega

/-- The high word by the complement of the multiplier, on numbers: `x` in halves `h`, `l`; the product's words `q`, `65536 L + r`. -/
theorem hiB_nat (x h l q L r m t : ℕ) (hx : x = 65536 * h + l) (hl : l < 65536) (hp : 3449720151 * x = 4294967296 * q + (65536 * L + r))
    (hL : L < 65536) (hr : r < 65536) (hm : 12897 * l + 29353 * h + L + 65535 = 65536 * m + t) (ht : t < 65536) :
    x = q + 12897 * h + m := by
  subst hx
  omega

/-- A word is its high half times 65536 plus its low half. -/
theorem halves (x : BitVec 32) : ∃ h l : ℕ, h < 65536 ∧ l < 65536 ∧ x.toNat = 65536 * h + l ∧ (x >>> 16).toNat = h
    ∧ (x &&& 65535#32).toNat = l :=
  ⟨x.toNat / 65536, x.toNat % 65536, by have := x.isLt; omega, by omega, by omega, toNat_shr x, toNat_and x⟩

/-- A product of words that does not overflow. -/
theorem muli_small (a b : BitVec 32) (h : a.toNat * b.toNat < 4294967296) : (IntOp.muli a b).toNat = a.toNat * b.toNat := by
  rw [IntOp.muli, BitVec.toNat_mul]
  exact Nat.mod_eq_of_lt h

/-- A sum of words that does not overflow. -/
theorem addi_small (a b : BitVec 32) (h : a.toNat + b.toNat < 4294967296) : (IntOp.addi a b).toNat = a.toNat + b.toNat := by
  rw [IntOp.addi, BitVec.toNat_add]
  exact Nat.mod_eq_of_lt h

/-- A difference of words that does not go below zero. -/
theorem subi_small (a b : BitVec 32) (h : b.toNat ≤ a.toNat) : (IntOp.subi a b).toNat = a.toNat - b.toNat := by
  rw [IntOp.subi, BitVec.toNat_sub]
  have := a.isLt
  have := b.isLt
  omega

/-- The reference's high word is the high word of the true product. -/
theorem toNat_refHi (A x : BitVec 32) : (refHi A x).toNat = A.toNat * x.toNat / 4294967296 := by
  obtain ⟨ah, al, hah, hal, hA, hA1, hA2⟩ := halves A
  obtain ⟨h, l, hh, hl, hx, hx1, hx2⟩ := halves x
  have m1 : ah * h ≤ 65535 * 65535 := Nat.mul_le_mul (by omega) (by omega)
  have m2 : ah * l ≤ 65535 * 65535 := Nat.mul_le_mul (by omega) (by omega)
  have m3 : al * h ≤ 65535 * 65535 := Nat.mul_le_mul (by omega) (by omega)
  have m4 : al * l ≤ 65535 * 65535 := Nat.mul_le_mul (by omega) (by omega)
  unfold refHi
  simp only [shr_host, IntOp.andi]
  have e4 : (IntOp.muli (A &&& 65535#32) (x &&& 65535#32)).toNat = al * l := by rw [muli_small _ _ (by rw [hA2, hx2]; omega), hA2, hx2]
  have e2 : (IntOp.muli (A >>> 16) (x &&& 65535#32)).toNat = ah * l := by rw [muli_small _ _ (by rw [hA1, hx2]; omega), hA1, hx2]
  have e3 : (IntOp.muli (A &&& 65535#32) (x >>> 16)).toNat = al * h := by rw [muli_small _ _ (by rw [hA2, hx1]; omega), hA2, hx1]
  have e1 : (IntOp.muli (A >>> 16) (x >>> 16)).toNat = ah * h := by rw [muli_small _ _ (by rw [hA1, hx1]; omega), hA1, hx1]
  have key := refHi_nat ah al h l (al * l / 65536) (al * l % 65536) ((ah * l + al * l / 65536) / 65536)
    ((ah * l + al * l / 65536) % 65536) ((al * h + (ah * l + al * l / 65536) % 65536) / 65536)
    ((al * h + (ah * l + al * l / 65536) % 65536) % 65536) (A.toNat * x.toNat / 4294967296) (A.toNat * x.toNat % 4294967296)
    (by omega) (by omega) (by omega) (by omega) (by omega) (by omega) (by rw [← hA, ← hx]; omega) (by omega)
  have f1 : (IntOp.addi (IntOp.muli (A >>> 16) (x &&& 65535#32)) (IntOp.muli (A &&& 65535#32) (x &&& 65535#32) >>> 16)).toNat
      = ah * l + al * l / 65536 := by rw [addi_small _ _ (by rw [toNat_shr, e2, e4]; omega), toNat_shr, e2, e4]
  generalize IntOp.addi (IntOp.muli (A >>> 16) (x &&& 65535#32)) (IntOp.muli (A &&& 65535#32) (x &&& 65535#32) >>> 16) = u1 at f1
  have f2 : (IntOp.addi (IntOp.muli (A &&& 65535#32) (x >>> 16)) (u1 &&& 65535#32)).toNat
      = al * h + (ah * l + al * l / 65536) % 65536 := by rw [addi_small _ _ (by rw [toNat_and, e3, f1]; omega), toNat_and, e3, f1]
  generalize IntOp.addi (IntOp.muli (A &&& 65535#32) (x >>> 16)) (u1 &&& 65535#32) = u2 at f2
  have f3 : (IntOp.addi (IntOp.muli (A >>> 16) (x >>> 16)) (u1 >>> 16)).toNat = ah * h + (ah * l + al * l / 65536) / 65536 := by
    rw [addi_small _ _ (by rw [toNat_shr, e1, f1]; omega), toNat_shr, e1, f1]
  have hlt : A.toNat * x.toNat / 4294967296 < 4294967296 := by
    have : A.toNat * x.toNat ≤ 4294967295 * 4294967295 :=
      Nat.mul_le_mul (by have := A.isLt; omega) (by have := x.isLt; omega)
    omega
  rw [addi_small _ _ (by rw [toNat_shr, f3, f2]; omega), toNat_shr, f3, f2]
  exact key

/-- The kernel's high word by the first multiplier is the high word of the true product. -/
theorem toNat_hiA (x : BitVec 32) : (hiA x).toNat = 3528531795 * x.toNat / 4294967296 := by
  obtain ⟨h, l, hh, hl, hx, hx1, hx2⟩ := halves x
  unfold hiA
  simp only [shr_vec, IntOp.andi]
  have e4 : (IntOp.muli 8019#32 (x &&& 65535#32)).toNat = 8019 * l := by
    rw [muli_small _ _ (by rw [hx2, BitVec.toNat_ofNat]; omega), hx2]; rfl
  have e2 : (IntOp.muli 53841#32 (x &&& 65535#32)).toNat = 53841 * l := by
    rw [muli_small _ _ (by rw [hx2, BitVec.toNat_ofNat]; omega), hx2]; rfl
  have e3 : (IntOp.muli 8019#32 (x >>> 16)).toNat = 8019 * h := by
    rw [muli_small _ _ (by rw [hx1, BitVec.toNat_ofNat]; omega), hx1]; rfl
  have e1 : (IntOp.muli 53841#32 (x >>> 16)).toNat = 53841 * h := by
    rw [muli_small _ _ (by rw [hx1, BitVec.toNat_ofNat]; omega), hx1]; rfl
  generalize IntOp.muli 8019#32 (x &&& 65535#32) = y4 at e4
  generalize IntOp.muli 53841#32 (x &&& 65535#32) = y2 at e2
  generalize IntOp.muli 8019#32 (x >>> 16) = y3 at e3
  generalize IntOp.muli 53841#32 (x >>> 16) = y1 at e1
  have f1 : (IntOp.addi y2 y3).toNat = 53841 * l + 8019 * h := by rw [addi_small _ _ (by omega), e2, e3]
  generalize IntOp.addi y2 y3 = z at f1
  have f2 : (IntOp.addi z (y4 >>> 16)).toNat = 53841 * l + 8019 * h + 8019 * l / 65536 := by
    rw [addi_small _ _ (by rw [toNat_shr]; omega), toNat_shr, f1, e4]
  generalize IntOp.addi z (y4 >>> 16) = v at f2
  have key := hiA_nat h l (8019 * l / 65536) (8019 * l % 65536) ((53841 * l + 8019 * h + 8019 * l / 65536) / 65536)
    ((53841 * l + 8019 * h + 8019 * l / 65536) % 65536) (3528531795 * (65536 * h + l) / 4294967296)
    (3528531795 * (65536 * h + l) % 4294967296) (by omega) (by omega) (by omega) (by omega) (by omega) (by omega)
  rw [addi_small _ _ (by rw [toNat_shr]; omega), toNat_shr, e1, f2, hx]
  exact key

/-- The kernel's high word by the second multiplier is the high word of the true product. -/
theorem toNat_hiB (x : BitVec 32) : (hiB x).toNat = 3449720151 * x.toNat / 4294967296 := by
  obtain ⟨h, l, hh, hl, hx, hx1, hx2⟩ := halves x
  unfold hiB
  simp only [shr_vec, IntOp.andi]
  have e2 : (IntOp.muli 12897#32 (x &&& 65535#32)).toNat = 12897 * l := by
    rw [muli_small _ _ (by rw [hx2, BitVec.toNat_ofNat]; omega), hx2]; rfl
  have e3 : (IntOp.muli 29353#32 (x >>> 16)).toNat = 29353 * h := by
    rw [muli_small _ _ (by rw [hx1, BitVec.toNat_ofNat]; omega), hx1]; rfl
  have e1 : (IntOp.muli 12897#32 (x >>> 16)).toNat = 12897 * h := by
    rw [muli_small _ _ (by rw [hx1, BitVec.toNat_ofNat]; omega), hx1]; rfl
  have e4 : (loB x).toNat = 3449720151 * x.toNat % 4294967296 := by
    rw [loB, IntOp.muli, BitVec.toNat_mul, Nat.mul_comm]; rfl
  generalize IntOp.muli 12897#32 (x &&& 65535#32) = y2 at e2
  generalize IntOp.muli 29353#32 (x >>> 16) = y3 at e3
  generalize IntOp.muli 12897#32 (x >>> 16) = y1 at e1
  generalize loB x = y4 at e4
  have f1 : (IntOp.addi y2 y3).toNat = 12897 * l + 29353 * h := by rw [addi_small _ _ (by omega), e2, e3]
  generalize IntOp.addi y2 y3 = z at f1
  have hy := y4.isLt
  have f2 : (IntOp.addi z (y4 >>> 16)).toNat = 12897 * l + 29353 * h + y4.toNat / 65536 := by
    rw [addi_small _ _ (by rw [toNat_shr]; omega), toNat_shr, f1]
  generalize IntOp.addi z (y4 >>> 16) = v at f2
  have f3 : (IntOp.addi v 65535#32).toNat = 12897 * l + 29353 * h + y4.toNat / 65536 + 65535 := by
    rw [addi_small _ _ (by rw [BitVec.toNat_ofNat]; omega), f2]; rfl
  generalize IntOp.addi v 65535#32 = u at f3
  have key := hiB_nat x.toNat h l (3449720151 * x.toNat / 4294967296) (y4.toNat / 65536) (y4.toNat % 65536)
    ((12897 * l + 29353 * h + y4.toNat / 65536 + 65535) / 65536) ((12897 * l + 29353 * h + y4.toNat / 65536 + 65535) % 65536)
    hx hl (by rw [e4]; omega) (by omega) (by omega) (by omega) (by omega)
  have g1 : (IntOp.subi x y1).toNat = x.toNat - 12897 * h := by rw [subi_small _ _ (by rw [e1]; omega), e1]
  rw [subi_small _ _ (by rw [toNat_shr, g1, f3]; omega), toNat_shr, g1, f3]
  omega

/-- The high words by the first multiplier agree. -/
theorem hiA_eq (x : BitVec 32) : refHi 3528531795#32 x = hiA x := BitVec.eq_of_toNat_eq (by rw [toNat_refHi, toNat_hiA]; rfl)
/-- The high words by the second multiplier agree. -/
theorem hiB_eq (x : BitVec 32) : refHi 3449720151#32 x = hiB x := BitVec.eq_of_toNat_eq (by rw [toNat_refHi, toNat_hiB]; rfl)
/-- The low words by the first multiplier agree. -/
theorem loA_eq (x : BitVec 32) : IntOp.muli 3528531795#32 x = loA x := BitVec.mul_comm ..
/-- The low words by the second multiplier agree. -/
theorem loB_eq (x : BitVec 32) : IntOp.muli 3449720151#32 x = loB x := BitVec.mul_comm ..

/-- A round of the reference is a round of the kernel. -/
theorem refRnd_eq (k0 k1 : BitVec 32) (q : Q) : refRnd k0 k1 q = rnd k0 k1 q := by
  unfold refRnd rnd
  rw [hiA_eq, hiB_eq, loA_eq, loB_eq]

/-- The kernel's first three rounds, with what is constant in them taken out, are three rounds of the reference. -/
theorem first3_eq (k0 k1 k2 l0 l1 l2 n : BitVec 32) :
    rnd k2 l2 (rnd k1 l1 (refFirst k0 l0 n)) = first3 k0 k1 k2 l0 l1 l2 n := by
  unfold refFirst first3 rnd
  rw [hiA_eq, loA_eq]
  simp only [IntOp.xori, BitVec.xor_zero]
  have e : hiA k0 ^^^ loA n ^^^ l1 = loA n ^^^ (hiA k0 ^^^ l1) := by
    rw [BitVec.xor_comm (hiA k0) (loA n), BitVec.xor_assoc]
  rw [e, BitVec.xor_assoc (hiA _) (loA k0) l2]

/-- The reference's key word of a round, grown by addition, is the kernel's, which adds a multiple. -/
theorem refKey_eq (u : BitVec 32) (W r : ℕ) : refKey u (BitVec.ofNat 32 W) r = Scalar.addi u (BitVec.ofNat 32 (W * r)) := by
  induction r with
  | zero => simp [refKey, Scalar.addi, IntOp.addi]
  | succ r ih =>
    rw [refKey, ih]
    simp only [Scalar.addi, IntOp.addi]
    rw [BitVec.add_assoc, ← BitVec.ofNat_add, Nat.mul_succ]

/-- The kernel's words are the reference's. -/
theorem words_eq (u0 u1 n : BitVec 32) : refState u0 u1 n 9 = words (KernelIdeal.keysOf u0 u1) n := by
  have ka : ∀ r : Fin 10, refKey u0 2654435769#32 r.val = (KernelIdeal.keysOf u0 u1).a r := fun r => refKey_eq u0 2654435769 r.val
  have kb : ∀ r : Fin 10, refKey u1 3144134277#32 r.val = (KernelIdeal.keysOf u0 u1).b r := fun r => refKey_eq u1 3144134277 r.val
  have h0 := ka 0; have h1 := ka 1; have h2 := ka 2; have h3 := ka 3; have h4 := ka 4
  have h5 := ka 5; have h6 := ka 6; have h7 := ka 7; have h8 := ka 8; have h9 := ka 9
  have g0 := kb 0; have g1 := kb 1; have g2 := kb 2; have g3 := kb 3; have g4 := kb 4
  have g5 := kb 5; have g6 := kb 6; have g7 := kb 7; have g8 := kb 8; have g9 := kb 9
  unfold words
  rw [← first3_eq, ← h0, ← h1, ← h2, ← h3, ← h4, ← h5, ← h6, ← h7, ← h8, ← h9, ← g0, ← g1, ← g2, ← g3, ← g4, ← g5, ← g6, ← g7,
    ← g8, ← g9]
  simp only [refState, refRnd_eq]
  rfl

end Cert.Proof

end
-- ==== Proof.M.RefStage.lean ====
module

public import proofs.«01_k».proof.Proof.M.Philox
public import proofs.«01_k».proof.Proof.Gen.ReferenceIdeal.Read
public import Idealize.ShloMosaic.Lib.Pointwise.Index
import Mathlib.Tactic.IntervalCases

@[expose] public section

set_option maxRecDepth 20000

noncomputable section

namespace Cert.Proof.ReferenceIdeal

open Idealize.ShloMosaic Cert.ReferenceIdeal Cert.ReferenceIdeal.Gen Cert.ReferenceIdeal.Read

variable {F : FTy → Type} [FloatOps F]

/-- The contents of a buffer of a shape and a type. -/
abbrev C (s : Shape) (φ : EltTy) := (⟨s, φ⟩ : BufTy).Contents (Elt F)

/-- The state after round `r + 1`, in the buffers the reference keeps it in. -/
def stage (x1 : C (F := F) S2 .i32) (i : S16x2048x8x160.Idx) : ℕ → Q
  | 0 => ⟨val_main_v51 (F := F) x1 i, val_main_v52 (F := F) i, val_main_v54 (F := F) x1 i, val_main_v24 (F := F) i⟩
  | 1 => ⟨val_main_v115 (F := F) x1 i, val_main_v86 (F := F) x1 i, val_main_v118 (F := F) x1 i, val_main_v58 (F := F) x1 i⟩
  | 2 => ⟨val_main_v179 (F := F) x1 i, val_main_v150 (F := F) x1 i, val_main_v182 (F := F) x1 i, val_main_v122 (F := F) x1 i⟩
  | 3 => ⟨val_main_v243 (F := F) x1 i, val_main_v214 (F := F) x1 i, val_main_v246 (F := F) x1 i, val_main_v186 (F := F) x1 i⟩
  | 4 => ⟨val_main_v307 (F := F) x1 i, val_main_v278 (F := F) x1 i, val_main_v310 (F := F) x1 i, val_main_v250 (F := F) x1 i⟩
  | 5 => ⟨val_main_v371 (F := F) x1 i, val_main_v342 (F := F) x1 i, val_main_v374 (F := F) x1 i, val_main_v314 (F := F) x1 i⟩
  | 6 => ⟨val_main_v435 (F := F) x1 i, val_main_v406 (F := F) x1 i, val_main_v438 (F := F) x1 i, val_main_v378 (F := F) x1 i⟩
  | 7 => ⟨val_main_v499 (F := F) x1 i, val_main_v470 (F := F) x1 i, val_main_v502 (F := F) x1 i, val_main_v442 (F := F) x1 i⟩
  | 8 => ⟨val_main_v563 (F := F) x1 i, val_main_v534 (F := F) x1 i, val_main_v566 (F := F) x1 i, val_main_v506 (F := F) x1 i⟩
  | _ => ⟨val_main_v627 (F := F) x1 i, val_main_v598 (F := F) x1 i, val_main_v630 (F := F) x1 i, val_main_v570 (F := F) x1 i⟩

/-- The first key word of round `r + 1`. -/
def key0 (x1 : C (F := F) S2 .i32) (i : S16x2048x8x160.Idx) : ℕ → BitVec 32
  | 0 => val_main_v51 (F := F) x1 i
  | 1 => val_main_v114 (F := F) x1 i
  | 2 => val_main_v178 (F := F) x1 i
  | 3 => val_main_v242 (F := F) x1 i
  | 4 => val_main_v306 (F := F) x1 i
  | 5 => val_main_v370 (F := F) x1 i
  | 6 => val_main_v434 (F := F) x1 i
  | 7 => val_main_v498 (F := F) x1 i
  | 8 => val_main_v562 (F := F) x1 i
  | _ => val_main_v626 (F := F) x1 i

/-- The second key word of round `r + 1`. -/
def key1 (x1 : C (F := F) S2 .i32) (i : S16x2048x8x160.Idx) : ℕ → BitVec 32
  | 0 => val_main_v53 (F := F) x1 i
  | 1 => val_main_v117 (F := F) x1 i
  | 2 => val_main_v181 (F := F) x1 i
  | 3 => val_main_v245 (F := F) x1 i
  | 4 => val_main_v309 (F := F) x1 i
  | 5 => val_main_v373 (F := F) x1 i
  | 6 => val_main_v437 (F := F) x1 i
  | 7 => val_main_v501 (F := F) x1 i
  | 8 => val_main_v565 (F := F) x1 i
  | _ => val_main_v629 (F := F) x1 i

/-- The state after the first round. -/
theorem stage_zero (x1 : C (F := F) S2 .i32) (i : S16x2048x8x160.Idx) :
    stage (F := F) x1 i 0 = refFirst (key0 (F := F) x1 i 0) (key1 (F := F) x1 i 0) (val_main_v18 (F := F) i) := rfl

/-- A round takes the state before it to the state after it. -/
theorem stage_succ (x1 : C (F := F) S2 .i32) (i : S16x2048x8x160.Idx) (r : ℕ) (hr : r < 9) :
    stage (F := F) x1 i (r + 1) = refRnd (key0 (F := F) x1 i (r + 1)) (key1 (F := F) x1 i (r + 1)) (stage (F := F) x1 i r) := by
  interval_cases r <;> rfl

/-- The first key word grows by its constant in every round. -/
theorem key0_succ (x1 : C (F := F) S2 .i32) (i : S16x2048x8x160.Idx) (r : ℕ) (hr : r < 9) :
    key0 (F := F) x1 i (r + 1) = IntOp.addi (key0 (F := F) x1 i r) 2654435769#32 := by
  interval_cases r <;> rfl

/-- The second key word grows by its constant in every round. -/
theorem key1_succ (x1 : C (F := F) S2 .i32) (i : S16x2048x8x160.Idx) (r : ℕ) (hr : r < 9) :
    key1 (F := F) x1 i (r + 1) = IntOp.addi (key1 (F := F) x1 i r) 3144134277#32 := by
  interval_cases r <;> rfl

/-- The first seed word, as the reference reads it. -/
theorem v20_eq (x1 : C (F := F) S2 .i32) (z : S_.Idx) : val_main_v20 (F := F) x1 z = x1 (ix1 0) := by
  show x1 _ = x1 _
  congr 1
  funext a
  apply Fin.ext
  match a with
  | ⟨0, _⟩ =>
    have h : ∀ q : Fin 1, 0 + q.val = 0 := by decide
    exact h _

/-- The second seed word, as the reference reads it. -/
theorem v22_eq (x1 : C (F := F) S2 .i32) (z : S_.Idx) : val_main_v22 (F := F) x1 z = x1 (ix1 1) := by
  show x1 _ = x1 _
  congr 1
  funext a
  apply Fin.ext
  match a with
  | ⟨0, _⟩ =>
    have h : ∀ q : Fin 1, 1 + q.val = 1 := by decide
    exact h _

/-- The first key word of a round, from the seed. -/
theorem key0_eq (x1 : C (F := F) S2 .i32) (i : S16x2048x8x160.Idx) (r : ℕ) (hr : r ≤ 9) :
    key0 (F := F) x1 i r = refKey (x1 (ix1 0)) 2654435769#32 r := by
  induction r with
  | zero => exact v20_eq (F := F) x1 _
  | succ r ih => rw [key0_succ x1 i r (by omega), ih (by omega)]; rfl

/-- The second key word of a round, from the seed. -/
theorem key1_eq (x1 : C (F := F) S2 .i32) (i : S16x2048x8x160.Idx) (r : ℕ) (hr : r ≤ 9) :
    key1 (F := F) x1 i r = refKey (x1 (ix1 1)) 3144134277#32 r := by
  induction r with
  | zero => exact v22_eq (F := F) x1 _
  | succ r ih => rw [key1_succ x1 i r (by omega), ih (by omega)]; rfl

/-- The state after a round, from the seed and the counter. -/
theorem stage_eq (x1 : C (F := F) S2 .i32) (i : S16x2048x8x160.Idx) (r : ℕ) (hr : r ≤ 9) :
    stage (F := F) x1 i r = refState (x1 (ix1 0)) (x1 (ix1 1)) (val_main_v18 (F := F) i) r := by
  induction r with
  | zero => rw [stage_zero, key0_eq x1 i 0 hr, key1_eq x1 i 0 hr]; rfl
  | succ r ih =>
    rw [stage_succ x1 i r (by omega), key0_eq x1 i (r + 1) hr, key1_eq x1 i (r + 1) hr, ih (by omega)]
    rfl

/-- The reference's counter. -/
theorem v18_eq (i : S16x2048x8x160.Idx) : val_main_v18 (F := F) i
    = BitVec.ofNat 32 ((2048 * (i 0).val + (i 1).val) * 1280 + 8 * (i 3).val + (i 2).val) := by
  have h16 : val_main_v16 (F := F) i = IntOp.muli (BitVec.ofNat 32 (2048 * (i 0).val + (i 1).val)) 1280#32 := by
    rw [val_main_v16_apply, val_main_v14_apply, val_main_v12_apply]
    show IntOp.muli (BitVec.ofNat 32 _) 1280#32 = _
    congr 2
    show (((i 0).val * 2048 + (i 1).val) * 1 + 0) * 1 + 0 = _
    omega
  have h17 : val_main_v17 (F := F) i = IntOp.addi (BitVec.ofNat 32 (i 2).val) (IntOp.muli 8#32 (BitVec.ofNat 32 (i 3).val)) := by
    rw [val_main_v17_apply, val_main_v15_apply, val_main_v10_apply, val_main_v8_apply, val_main_v9_apply, val_main_v3_apply,
      val_main_v7_apply, val_main_v5_apply]
    rfl
  rw [val_main_v18_apply, h16, h17]
  apply BitVec.eq_of_toNat_eq
  simp only [IntOp.addi, IntOp.muli, BitVec.toNat_add, BitVec.toNat_mul, BitVec.toNat_ofNat, Nat.reducePow, Nat.reduceMod]
  have h0 : (i 0).val < 16 := (i 0).isLt
  have h1 : (i 1).val < 2048 := (i 1).isLt
  have h2 : (i 2).val < 8 := (i 2).isLt
  have h3 : (i 3).val < 160 := (i 3).isLt
  omega

end Cert.Proof.ReferenceIdeal

end
-- ==== Proof.M.RefRead.lean ====
module

public import proofs.«01_k».proof.Proof.M.Lub
public import proofs.«01_k».proof.Proof.M.RefStage

@[expose] public section

set_option maxRecDepth 20000

noncomputable section

namespace Cert.Proof.ReferenceIdeal

open Idealize.ShloMosaic Cert.ReferenceIdeal Cert.ReferenceIdeal.Gen Cert.ReferenceIdeal.Read

section Any

variable {F : FTy → Type} [FloatOps F]

/-- The regrouped input at an index. -/
theorem v1_at (x0 : C (F := F) S16x2048x5120 .bf16) (i : S16x2048x4x8x160.Idx) :
    val_main_v1 (F := F) x0 i = Xv x0 (2048 * (i 0).val + (i 1).val) (32 * (i 4).val + 4 * (i 3).val + (i 2).val) := by
  rw [val_main_v1_apply, val_main_v0_apply]
  have h0 : (i 0).val < 16 := (i 0).isLt
  have h1 : (i 1).val < 2048 := (i 1).isLt
  have h2 : (i 2).val < 4 := (i 2).isLt
  have h3 : (i 3).val < 8 := (i 3).isLt
  have h4 : (i 4).val < 160 := (i 4).isLt
  apply Xv_eq
  · show ((((((i 0).val * 2048 + (i 1).val) * 160 + (i 4).val) * 8 + (i 3).val) * 4 + (i 2).val) / 10485760) = _
    omega
  · show ((((((i 0).val * 2048 + (i 1).val) * 160 + (i 4).val) * 8 + (i 3).val) * 4 + (i 2).val) / 5120 % 2048) = _
    omega
  · show ((((((i 0).val * 2048 + (i 1).val) * 160 + (i 4).val) * 8 + (i 3).val) * 4 + (i 2).val) % 5120) = _
    omega

/-- The counter index of an index of the words. -/
abbrev drop4 (i : S16x2048x4x8x160.Idx) : S16x2048x8x160.Idx := fun a => match a with
  | ⟨0, _⟩ => ⟨(i 0).val, (i 0).isLt⟩
  | ⟨1, _⟩ => ⟨(i 1).val, (i 1).isLt⟩
  | ⟨2, _⟩ => ⟨(i 3).val, (i 3).isLt⟩
  | ⟨3, _⟩ => ⟨(i 4).val, (i 4).isLt⟩

/-- The index of one word array inside the four. -/
abbrev drop1 (i : S16x2048x4x8x160.Idx) : S16x2048x1x8x160.Idx := fun a => match a with
  | ⟨0, _⟩ => ⟨(i 0).val, (i 0).isLt⟩
  | ⟨1, _⟩ => ⟨(i 1).val, (i 1).isLt⟩
  | ⟨2, _⟩ => ⟨0, Nat.one_pos⟩
  | ⟨3, _⟩ => ⟨(i 3).val, (i 3).isLt⟩
  | ⟨4, _⟩ => ⟨(i 4).val, (i 4).isLt⟩

/-- The four words of a counter, stacked, at the place of one of them. -/
theorem piece (x1 : C (F := F) S2 .i32) (i : S16x2048x4x8x160.Idx) (k : ℕ) (hk : k < 4) (x : C (F := F) S16x2048x1x8x160 .i32)
    (hx : [(⟨S16x2048x1x8x160, val_main_v631 (F := F) x1⟩ : (s : Shape) × (s.Idx → BitVec 32)), ⟨S16x2048x1x8x160, val_main_v632 (F := F) x1⟩,
      ⟨S16x2048x1x8x160, val_main_v633 (F := F) x1⟩, ⟨S16x2048x1x8x160, val_main_v634 (F := F) x1⟩][k] = ⟨S16x2048x1x8x160, x⟩)
    (hi : (i 2).val = k) : val_main_v635 (F := F) x1 i = x (drop1 i) := by
  refine concatenate_apply_piece (2 : Fin 5) [(⟨S16x2048x1x8x160, val_main_v631 (F := F) x1⟩ : (s : Shape) × (s.Idx → BitVec 32)),
    ⟨S16x2048x1x8x160, val_main_v632 (F := F) x1⟩, ⟨S16x2048x1x8x160, val_main_v633 (F := F) x1⟩,
    ⟨S16x2048x1x8x160, val_main_v634 (F := F) x1⟩] _ i k hk S16x2048x1x8x160 x hx rfl k ?_ (drop1 i) ?_ ?_
  · interval_cases k <;> rfl
  · intro b hb
    match b with
    | ⟨0, _⟩ => rfl
    | ⟨1, _⟩ => rfl
    | ⟨2, _⟩ => exact absurd rfl hb
    | ⟨3, _⟩ => rfl
    | ⟨4, _⟩ => rfl
  · show k + 0 = (i 2).val
    omega

/-- The random word of an index. -/
theorem v635_at (x1 : C (F := F) S2 .i32) (i : S16x2048x4x8x160.Idx) :
    val_main_v635 (F := F) x1 i = (stage (F := F) x1 (drop4 i) 9).w (i 2).val := by
  have h2 : (i 2).val < 4 := (i 2).isLt
  obtain ⟨k, hk⟩ : ∃ k, (i 2).val = k := ⟨_, rfl⟩
  rw [hk]
  rw [hk] at h2
  interval_cases k
  · rw [piece x1 i 0 (by decide) _ rfl hk, val_main_v631_apply]
    rfl
  · rw [piece x1 i 1 (by decide) _ rfl hk, val_main_v632_apply]
    rfl
  · rw [piece x1 i 2 (by decide) _ rfl hk, val_main_v633_apply]
    rfl
  · rw [piece x1 i 3 (by decide) _ rfl hk, val_main_v634_apply]
    rfl

/-- The group of an index. -/
abbrev grp (i : S16x2048x4x8x160.Idx) : S16x2048x160.Idx := fun a => match a with
  | ⟨0, _⟩ => ⟨(i 0).val, (i 0).isLt⟩
  | ⟨1, _⟩ => ⟨(i 1).val, (i 1).isLt⟩
  | ⟨2, _⟩ => ⟨(i 4).val, (i 4).isLt⟩

/-- The exponent, read at a group. -/
theorem v651_at (x0 : C (F := F) S16x2048x5120 .bf16) (j : S16x2048x160.Idx) :
    val_main_v651 (F := F) x0 j = refE (val_main_v638 (F := F) x0 j) := rfl

/-- The scale byte, read at a group. -/
theorem v654_at (x0 : C (F := F) S16x2048x5120 .bf16) (j : S16x2048x160.Idx) :
    val_main_v654 (F := F) x0 j = KernelIdeal.trunc8 (IntOp.addi (refE (val_main_v638 (F := F) x0 j)) 127#32) := rfl

/-- The scaled magnitude, read at an index. -/
theorem v664_at (x0 : C (F := F) S16x2048x5120 .bf16) (i : S16x2048x4x8x160.Idx) :
    val_main_v664 (F := F) x0 i = FloatOps.mulf (FloatOps.mulf (FloatOps.hostAbsf (val_main_v636 (F := F) x0 i))
      (Scalar.ofBits .f32 0x3F400000#32)) (refInv (val_main_v638 (F := F) x0 (grp i))) := by
  rw [val_main_v664_apply, val_main_v663_apply, val_main_v662_apply]
  rfl

/-- The code, read at an index. -/
theorem v704_at (x0 : C (F := F) S16x2048x5120 .bf16) (x1 : C (F := F) S2 .i32) (i : S16x2048x4x8x160.Idx) :
    val_main_v704 (F := F) x0 x1 i = refNib (refInv (val_main_v638 (F := F) x0 (grp i))) (val_main_v636 (F := F) x0 i)
      (val_main_v635 (F := F) x1 i) := by
  have h : ∀ a, val_main_v664 (F := F) x0 i = a → val_main_v699 (F := F) x0 x1 i = refMag a (val_main_v635 (F := F) x1 i) := by
    rintro _ rfl
    rfl
  have h' := h _ (v664_at x0 i)
  unfold refNib
  rw [val_main_v704_apply, val_main_v703_apply, h']
  rfl

/-- The index of a code in the first (`h = 0`) or second half of a byte. -/
abbrev half (i : S16x2048x2x8x160.Idx) (h : Fin 2) : S16x2048x4x8x160.Idx := fun a => match a with
  | ⟨0, _⟩ => ⟨(i 0).val, (i 0).isLt⟩
  | ⟨1, _⟩ => ⟨(i 1).val, (i 1).isLt⟩
  | ⟨2, _⟩ => ⟨h.val + 2 * (i 2).val, by have : (i 2).val < 2 := (i 2).isLt; show h.val + 2 * (i 2).val < 4; omega⟩
  | ⟨3, _⟩ => ⟨(i 3).val, (i 3).isLt⟩
  | ⟨4, _⟩ => ⟨(i 4).val, (i 4).isLt⟩

/-- The values at even places in a quadruple. -/
theorem v705_at (x0 : C (F := F) S16x2048x5120 .bf16) (x1 : C (F := F) S2 .i32) (i : S16x2048x2x8x160.Idx) :
    val_main_v705 (F := F) x0 x1 i = val_main_v704 (F := F) x0 x1 (half i 0) := by
  unfold val_main_v705 Host.slice
  congr 1
  funext a
  match a with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 0 + 2 * (i 2).val = 0 + 2 * (i 2).val; omega)
  | ⟨3, _⟩ => exact Fin.ext (by show 0 + 1 * (i 3).val = (i 3).val; omega)
  | ⟨4, _⟩ => exact Fin.ext (by show 0 + 1 * (i 4).val = (i 4).val; omega)

/-- The values at odd places in a quadruple. -/
theorem v706_at (x0 : C (F := F) S16x2048x5120 .bf16) (x1 : C (F := F) S2 .i32) (i : S16x2048x2x8x160.Idx) :
    val_main_v706 (F := F) x0 x1 i = val_main_v704 (F := F) x0 x1 (half i 1) := by
  unfold val_main_v706 Host.slice
  congr 1
  funext a
  match a with
  | ⟨0, _⟩ => exact Fin.ext (by show 0 + 1 * (i 0).val = (i 0).val; omega)
  | ⟨1, _⟩ => exact Fin.ext (by show 0 + 1 * (i 1).val = (i 1).val; omega)
  | ⟨2, _⟩ => exact Fin.ext (by show 1 + 2 * (i 2).val = 1 + 2 * (i 2).val; omega)
  | ⟨3, _⟩ => exact Fin.ext (by show 0 + 1 * (i 3).val = (i 3).val; omega)
  | ⟨4, _⟩ => exact Fin.ext (by show 0 + 1 * (i 4).val = (i 4).val; omega)

/-- The byte of an index, from its two codes. -/
theorem v712_at (x0 : C (F := F) S16x2048x5120 .bf16) (x1 : C (F := F) S2 .i32) (p : S16x2048x2560.Idx) :
    val_main_v712 (F := F) x0 x1 p = KernelIdeal.trunc8 (IntOp.ori
      (val_main_v704 (F := F) x0 x1 (half (idx_main_v710 (idx_main_v711 p)) 0))
      (IntOp.shli .host (val_main_v704 (F := F) x0 x1 (half (idx_main_v710 (idx_main_v711 p)) 1)) 4#32)) := by
  rw [val_main_v712_apply, val_main_v711_apply, val_main_v710_apply, val_main_v709_apply, val_main_v708_apply, v705_at, v706_at]
  rfl

end Any

/-- The largest magnitude of a group, read at the group. -/
theorem v638_max (x0 : C (F := Ideal) S16x2048x5120 .bf16) (j : S16x2048x160.Idx) :
    GroupMax x0 (2048 * (j 0).val + (j 1).val) (j 2).val (val_main_v638 (F := Ideal) x0 j) := by
  intro b
  unfold val_main_v638
  rw [hostReduce_le_iff]
  have hval : ∀ i, val_main_v637 (F := Ideal) x0 i
      = mag (Xv x0 (2048 * (i 0).val + (i 1).val) (32 * (i 4).val + 4 * (i 3).val + (i 2).val)) := by
    intro i
    rw [val_main_v637_apply, hostAbsf_mag, val_main_v636_apply, v1_at]
    rfl
  constructor
  · rintro ⟨-, h⟩ c hc
    let i : S16x2048x4x8x160.Idx := ix5 ⟨(j 0).val, (j 0).isLt⟩ ⟨(j 1).val, (j 1).isLt⟩ ⟨c % 4, by omega⟩ ⟨c / 4, by omega⟩ ⟨(j 2).val, (j 2).isLt⟩
    have := h i (by
      funext a
      match a with
      | ⟨0, _⟩ => rfl
      | ⟨1, _⟩ => rfl
      | ⟨2, _⟩ => rfl)
    rw [hval] at this
    have e : 32 * (i 4).val + 4 * (i 3).val + (i 2).val = 32 * (j 2).val + c := by
      show 32 * (j 2).val + 4 * (c / 4) + c % 4 = _
      omega
    rw [e] at this
    exact this
  · intro h
    refine ⟨?_, fun i hi => ?_⟩
    · show Scalar.ofBits (F := Ideal) .f32 0xFF800000#32 ≤ b
      rw [c_ninf]
      exact bot_le
    · rw [hval]
      have h2 : (i 2).val < 4 := (i 2).isLt
      have h3 : (i 3).val < 8 := (i 3).isLt
      have := h (4 * (i 3).val + (i 2).val) (by omega)
      subst hi
      rw [← Nat.add_assoc] at this
      exact this

end Cert.Proof.ReferenceIdeal
end
-- ==== Proof.M.Codes.lean ====
module

public import proofs.«01_k».proof.Proof.M.Tile
public import proofs.«01_k».proof.Proof.M.RefRead

@[expose] public section

set_option maxRecDepth 20000

noncomputable section

namespace Cert.Proof.KernelIdeal

open Idealize.ShloMosaic Cert.KernelIdeal Cert.KernelIdeal.Gen
open Cert.ReferenceIdeal.Read Cert.Proof.ReferenceIdeal

/-- Every group's largest magnitude is zero or in range. -/
def AllInRange (x0 : S16x2048x5120.Idx → EReal) : Prop :=
  ∀ R < 32768, ∀ G < 160, ∀ g, GroupMax x0 R G g → InRange g

/-- Two codes in one byte: the sum is the bitwise or. -/
theorem byte_or (n n' : ℕ) (hn : n < 16) (hn' : n' < 16) :
    IntOp.addi (BitVec.ofNat 32 n) (IntOp.muli (BitVec.ofNat 32 n') 16#32)
      = IntOp.ori (BitVec.ofNat 32 n) (IntOp.shli .host (BitVec.ofNat 32 n') 4#32) := by
  have h : ∀ a b : Fin 16, IntOp.addi (BitVec.ofNat 32 a.val) (IntOp.muli (BitVec.ofNat 32 b.val) 16#32)
      = IntOp.ori (BitVec.ofNat 32 a.val) (IntOp.shli .host (BitVec.ofNat 32 b.val) 4#32) := by decide
  exact h ⟨n, hn⟩ ⟨n', hn'⟩

/-- The byte of two values of a group, as the reference forms it. -/
theorem byte_eq {g : EReal} (hg : InRange g) (x x' : EReal) (hx : mag x ≤ g) (hx' : mag x' ≤ g) (w w' : BitVec 32) :
    byte (F := Ideal) (invScale (F := Ideal) g) x x' w w'
      = IntOp.ori (refNib (F := Ideal) (refInv (F := Ideal) g) x w) (IntOp.shli .host (refNib (F := Ideal) (refInv (F := Ideal) g) x' w') 4#32) := by
  obtain ⟨h1, n, hn, h2⟩ := nib_eq hg x hx w
  obtain ⟨h1', n', hn', h2'⟩ := nib_eq hg x' hx' w'
  unfold byte
  rw [← h1, ← h1', h2, h2']
  exact byte_or n n' hn hn'

/-- The reference's code, by row, column and word. -/
theorem ref_nib (x0 : S16x2048x5120.Idx → EReal) (x1 : S2.Idx → BitVec 32) (i : Cert.ReferenceIdeal.S16x2048x4x8x160.Idx) (R G q v : ℕ) (g : EReal)
    (hg : GroupMax x0 R G g) (hR : 2048 * (i 0).val + (i 1).val = R) (hG : (i 4).val = G) (hq : (i 3).val = q) (hv : (i 2).val = v) :
    val_main_v704 (F := Ideal) x0 x1 i = refNib (F := Ideal) (refInv (F := Ideal) g) (Xv x0 R (32 * G + (4 * q + v)))
      ((words (keysOf (x1 (ix1 0)) (x1 (ix1 1))) (BitVec.ofNat 32 (R * 1280 + 8 * G + q))).w v) := by
  subst hR hG hq hv
  rw [v704_at, v635_at, stage_eq (F := Ideal) x1 _ 9 le_rfl, words_eq, v18_eq (F := Ideal), ← Nat.add_assoc]
  rw [(v638_max x0 (grp i)).eq hg]
  rw [val_main_v636_apply, v1_at (F := Ideal)]
  rfl

variable (X : S256x5120.Idx → EReal) (SEL : S256x256.Idx → EReal) (hS : IsSel SEL) (x0 : S16x2048x5120.Idx → EReal) (s : ℕ)
    (hs : s < 128) (hX : ∀ (r : Fin 256) (c : Fin 5120), X (ix2 r c) = Xv x0 (256 * s + r.val) c.val) (hR : AllInRange x0)

include hS hX hR hs in
/-- The codes of a block are the reference's. -/
theorem codes_eq (x1 : S2.Idx → BitVec 32) (p : S256x2560.Idx) (j : Cert.ReferenceIdeal.S16x2048x2560.Idx)
    (h0 : 2048 * (j 0).val + (j 1).val = 256 * s + (p 0).val) (h2 : (j 2).val = (p 1).val) :
    codesB (F := Ideal) X SEL (x1 (ix1 0)) (x1 (ix1 1)) s p = val_main_v712 (F := Ideal) x0 x1 j := by
  have hr : (p 0).val < 256 := (p 0).isLt
  have hb : (p 1).val < 2560 := (p 1).isLt
  have j0 : (j 0).val < 16 := (j 0).isLt
  have j1 : (j 1).val < 2048 := (j 1).isLt
  rw [v712_at]
  unfold codesB byteS
  congr 1
  obtain ⟨r, er⟩ : ∃ r, (p 0).val = r := ⟨_, rfl⟩
  obtain ⟨b, eb⟩ : ∃ b, (p 1).val = b := ⟨_, rfl⟩
  rw [er, eb]
  rw [er] at hr h0
  rw [eb] at hb h2
  have hg := gmS_max X SEL hS x0 s hX (b / 128) (b / 16 % 8) r (by omega) (by omega) hr
  rw [show 8 * (b / 128) + b / 16 % 8 = b / 16 by omega] at hg
  have e1 := yS_at X SEL hS x0 s hX (b / 128) (2 * (b % 16)) (b / 16 % 8) r (by omega) (by omega) (by omega) hr
  have e2 := yS_at X SEL hS x0 s hX (b / 128) (2 * (b % 16) + 1) (b / 16 % 8) r (by omega) (by omega) (by omega) hr
  rw [show 8 * (2 * (b % 16)) + b / 16 % 8 = 16 * (b % 16) + b / 16 % 8 by omega,
    show 8 * (b / 128) + b / 16 % 8 = b / 16 by omega] at e1
  rw [show 8 * (2 * (b % 16) + 1) + b / 16 % 8 = 16 * (b % 16) + 8 + b / 16 % 8 by omega,
    show 8 * (b / 128) + b / 16 % 8 = b / 16 by omega] at e2
  rw [e1, e2, byte_eq (hR _ (by omega) _ (by omega) _ hg) _ _ (hg.le _ (by omega)) (hg.le _ (by omega))]
  have hi : ∀ h : Fin 2, val_main_v704 (F := Ideal) x0 x1 (half (idx_main_v710 (idx_main_v711 j)) h)
      = refNib (F := Ideal) (refInv (F := Ideal) (gmS (F := Ideal) (yS (F := Ideal) X SEL (b / 128)) (b / 16 % 8) r))
        (Xv x0 (256 * s + r) (32 * (b / 16) + (4 * (b % 16 / 2) + (h.val + 2 * (b % 2)))))
        ((words (keysOf (x1 (ix1 0)) (x1 (ix1 1))) (BitVec.ofNat 32 ((256 * s + r) * 1280 + 8 * (b / 16) + b % 16 / 2))).w (h.val + 2 * (b % 2))) := by
    intro h
    refine ref_nib x0 x1 _ _ _ _ _ _ hg ?_ ?_ ?_ ?_
    · show 2048 * ((((j 0).val * 2048 + (j 1).val) * 2560 + (j 2).val) / 5242880)
        + ((((j 0).val * 2048 + (j 1).val) * 2560 + (j 2).val) / 2560 % 2048) = _
      omega
    · show (((j 0).val * 2048 + (j 1).val) * 2560 + (j 2).val) / 16 % 160 = _
      omega
    · show (((j 0).val * 2048 + (j 1).val) * 2560 + (j 2).val) / 2 % 8 = _
      omega
    · show h.val + 2 * ((((j 0).val * 2048 + (j 1).val) * 2560 + (j 2).val) % 2) = _
      omega
  rw [hi 0, hi 1]
  unfold ctr
  rw [show b % 16 % 2 = b % 2 by omega]
  rw [show 4 * (b % 16 / 2) + (((0 : Fin 2) : ℕ) + 2 * (b % 2)) = 2 * (b % 16) by show 4 * (b % 16 / 2) + (0 + 2 * (b % 2)) = _; omega,
    show 4 * (b % 16 / 2) + (((1 : Fin 2) : ℕ) + 2 * (b % 2)) = 2 * (b % 16) + 1 by show 4 * (b % 16 / 2) + (1 + 2 * (b % 2)) = _; omega,
    show ((0 : Fin 2) : ℕ) + 2 * (b % 2) = 2 * (b % 2) from Nat.zero_add _,
    show ((1 : Fin 2) : ℕ) + 2 * (b % 2) = 2 * (b % 2) + 1 from Nat.add_comm _ _]

include hS hX hR hs in
/-- The scale bytes of a block are the reference's. -/
theorem scales_eq (p : S256x160.Idx) (j : Cert.ReferenceIdeal.S16x2048x160.Idx)
    (h0 : 2048 * (j 0).val + (j 1).val = 256 * s + (p 0).val) (h2 : (j 2).val = (p 1).val) :
    scalesB (F := Ideal) X SEL p = val_main_v654 (F := Ideal) x0 j := by
  have hr : (p 0).val < 256 := (p 0).isLt
  have hb : (p 1).val < 160 := (p 1).isLt
  rw [v654_at]
  unfold scalesB
  have hg := gmS_max X SEL hS x0 s hX ((p 1).val / 8) ((p 1).val % 8) (p 0).val (by omega) (by omega) hr
  have hj := v638_max x0 j
  rw [h0, h2] at hj
  rw [show 8 * ((p 1).val / 8) + (p 1).val % 8 = (p 1).val by omega] at hg
  rw [hj.eq hg, scale_eq (hR _ (by omega) _ hb _ hg)]

end Cert.Proof.KernelIdeal
end
-- ==== Proof.M.Accum.lean ====
module

public import proofs.«01_k».proof.Proof.M.Tile
public import proofs.«01_k».proof.Proof.M.RefRead
public import Idealize.ShloMosaic.Lib.IdealHost
public import Mathlib.Algebra.BigOperators.Fin

@[expose] public section

set_option maxRecDepth 16384

noncomputable section

namespace Cert.Proof

open Idealize.ShloMosaic Cert.ReferenceIdeal.Read
open scoped BigOperators

/-- The sum of a column over the first `n` rows. -/
def colSum (x0 : (⟨3, ![16, 2048, 5120]⟩ : Shape).Idx → EReal) (n c : ℕ) : EReal := ∑ R ∈ Finset.range n, Xv x0 R c

/-- The sum of a column over one block of rows more. -/
theorem colSum_add (x0 : (⟨3, ![16, 2048, 5120]⟩ : Shape).Idx → EReal) (s c : ℕ) :
    colSum x0 (256 * (s + 1)) c = colSum x0 (256 * s) c + ∑ r : Fin 256, Xv x0 (256 * s + r.val) c := by
  unfold colSum
  rw [show 256 * (s + 1) = 256 * s + 256 by omega, Finset.sum_range_add, Finset.sum_range (fun r => Xv x0 (256 * s + r) c)]

/-- The reference's sum of a column is the sum over all rows. -/
theorem ref_sum (x0 : Cert.ReferenceIdeal.S16x2048x5120.Idx → EReal) (j : Cert.ReferenceIdeal.S5120.Idx) :
    val_main_v715 (F := Ideal) x0 j = colSum x0 32768 (j 0).val := by
  have j0 : (j 0).val < 5120 := (j 0).isLt
  rw [val_main_v715_apply, val_main_v714_apply]
  unfold val_main_v713
  refine (ValueIdx.hostReduceAdd_apply _ _ _ _ _).trans ?_
  refine (congrArg (fun z : EReal => z + _) (c_zero.trans EReal.coe_zero)).trans ((zero_add _).trans ?_)
  unfold colSum
  refine Finset.sum_bij' (fun i _ => 2048 * (i 0).val + (i 1).val)
    (fun R _ => ix5 (Fin.ofNat 16 (R / 2048)) (Fin.ofNat 2048 R) (Fin.ofNat 4 (j 0).val) (Fin.ofNat 8 ((j 0).val / 4)) (Fin.ofNat 160 ((j 0).val / 32)))
    ?_ ?_ ?_ ?_ ?_
  · intro i _
    have h0 : (i 0).val < 16 := (i 0).isLt
    have h1 : (i 1).val < 2048 := (i 1).isLt
    rw [Finset.mem_range]
    omega
  · intro R _
    rw [Finset.mem_filter]
    refine ⟨Finset.mem_univ _, ?_⟩
    funext a
    match a with
    | ⟨0, _⟩ => rfl
    | ⟨1, _⟩ => rfl
    | ⟨2, _⟩ =>
      apply Fin.ext
      show (j 0).val / 32 % 160 = (j 0).val / 32
      omega
  · intro i hi
    have h0 : (i 0).val < 16 := (i 0).isLt
    have h1 : (i 1).val < 2048 := (i 1).isLt
    have hd := (Finset.mem_filter.1 hi).2
    have e2 : (i 2).val = (j 0).val % 4 := congrArg (fun q : Cert.ReferenceIdeal.S4x8x160.Idx => (q 0).val) hd
    have e3 : (i 3).val = (j 0).val / 4 % 8 := congrArg (fun q : Cert.ReferenceIdeal.S4x8x160.Idx => (q 1).val) hd
    have e4 : (i 4).val = (j 0).val / 32 := congrArg (fun q : Cert.ReferenceIdeal.S4x8x160.Idx => (q 2).val) hd
    funext a
    apply Fin.ext
    match a with
    | ⟨0, _⟩ =>
      show (2048 * (i 0).val + (i 1).val) / 2048 % 16 = (i 0).val
      omega
    | ⟨1, _⟩ =>
      show (2048 * (i 0).val + (i 1).val) % 2048 = (i 1).val
      omega
    | ⟨2, _⟩ => exact e2.symm
    | ⟨3, _⟩ => exact e3.symm
    | ⟨4, _⟩ =>
      show (j 0).val / 32 % 160 = (i 4).val
      omega
  · intro R hR
    rw [Finset.mem_range] at hR
    show 2048 * (R / 2048 % 16) + R % 2048 = R
    omega
  · intro i hi
    have hd := (Finset.mem_filter.1 hi).2
    have e2 : (i 2).val = (j 0).val % 4 := congrArg (fun q : Cert.ReferenceIdeal.S4x8x160.Idx => (q 0).val) hd
    have e3 : (i 3).val = (j 0).val / 4 % 8 := congrArg (fun q : Cert.ReferenceIdeal.S4x8x160.Idx => (q 1).val) hd
    have e4 : (i 4).val = (j 0).val / 32 := congrArg (fun q : Cert.ReferenceIdeal.S4x8x160.Idx => (q 2).val) hd
    rw [val_main_v636_apply, Cert.Proof.ReferenceIdeal.v1_at]
    show Xv x0 _ _ = Xv x0 _ _
    rw [e2, e3, e4]
    congr 1
    omega

/-- What the reference's largest magnitude lies below. -/
theorem ref_amax (x0 : Cert.ReferenceIdeal.S16x2048x5120.Idx → EReal) (j : Cert.ReferenceIdeal.S_.Idx) (b : EReal) :
    (val_main_v718 (F := Ideal) x0 j : EReal) ≤ b ↔ ∀ R < 32768, ∀ c < 5120, mag (Xv x0 R c) ≤ b := by
  rw [val_main_v718_apply]
  show (val_main_v717 (F := Ideal) x0 j : EReal) ≤ b ↔ _
  unfold val_main_v717
  rw [hostReduce_le_iff]
  constructor
  · rintro ⟨-, h⟩ R hR c hc
    exact h (ix3 (Fin.ofNat 16 (R / 2048)) (Fin.ofNat 2048 R) (Fin.ofNat 5120 c)) (by funext a; exact a.elim0)
  · intro h
    refine ⟨le_of_eq_of_le c_ninf16 bot_le, fun i _ => ?_⟩
    have h0 : (i 0).val < 16 := (i 0).isLt
    have h1 : (i 1).val < 2048 := (i 1).isLt
    have h2 : (i 2).val < 5120 := (i 2).isLt
    rw [val_main_v716_apply, hostAbsf_mag]
    have e := Xv_eq x0 i (2048 * (i 0).val + (i 1).val) (i 2).val (by omega) (by omega) (by omega)
    rw [e]
    exact h _ (by omega) _ h2

/-- A bound on the magnitudes of the rows of the first `n` steps that the kernel's lane `(g, l)` sees. -/
def LaneLe (x0 : (⟨3, ![16, 2048, 5120]⟩ : Shape).Idx → EReal) (n g l : ℕ) (b : EReal) : Prop :=
  0 ≤ b ∧ ∀ s < n, ∀ k < 20, ∀ h < 2, ∀ c < 32, mag (Xv x0 (256 * s + (128 * h + l)) (32 * (8 * k + g) + c)) ≤ b

/-- All lanes together see every value. -/
theorem lanes_all (x0 : (⟨3, ![16, 2048, 5120]⟩ : Shape).Idx → EReal) (b : EReal) :
    (∀ g < 8, ∀ l < 128, LaneLe x0 128 g l b) ↔ ∀ R < 32768, ∀ c < 5120, mag (Xv x0 R c) ≤ b := by
  constructor
  · intro h R hR c hc
    have := (h (c / 32 % 8) (by omega) (R % 128) (by omega)).2 (R / 256) (by omega) (c / 256) (by omega) (R / 128 % 2) (by omega) (c % 32) (by omega)
    rw [show 256 * (R / 256) + (128 * (R / 128 % 2) + R % 128) = R by omega,
      show 32 * (8 * (c / 256) + c / 32 % 8) + c % 32 = c by omega] at this
    exact this
  · intro h g hg l hl
    exact ⟨le_trans (mag_nonneg (Xv x0 0 0)) (h 0 (by omega) 0 (by omega)), fun s hs k hk q hq c hc => h _ (by omega) _ (by omega)⟩

namespace KernelIdeal

open Cert.KernelIdeal Cert.KernelIdeal.Gen

variable (X : S256x5120.Idx → EReal) (SEL : S256x256.Idx → EReal) (hS : IsSel SEL) (x0 : S16x2048x5120.Idx → EReal) (s : ℕ)
    (hX : ∀ (r : Fin 256) (c : Fin 5120), X (ix2 r c) = Xv x0 (256 * s + r.val) c.val)

include hX in
/-- A step adds its rows to a column's sum. -/
theorem sums_step (prev : S8x5120.Idx → EReal) (a : Fin 8) (c : Fin 5120) (hp : prev (ix2 a c) = colSum x0 (256 * s) c.val) :
    sumsB (F := Ideal) X prev (ix2 a c) = colSum x0 (256 * (s + 1)) c.val := by
  rw [sumsB_at, hp, colSum_add]
  congr 1
  exact Finset.sum_congr rfl fun r _ => hX r c

include hS hX in
/-- A step joins its magnitudes to a lane's largest. -/
theorem amax_step (prev : S8x128.Idx → EReal) (g : Fin 8) (l : Fin 128) (hp : ∀ b, prev (ix2 g l) ≤ b ∧ 0 ≤ b ↔ LaneLe x0 s g.val l.val b) (b : EReal) :
    amaxB (F := Ideal) X SEL prev (ix2 g l) ≤ b ∧ 0 ≤ b ↔ LaneLe x0 (s + 1) g.val l.val b := by
  have hg := g.isLt
  have hl := l.isLt
  have hz : (k0_pay183 (F := Ideal) (ix2 g l) : EReal) = 0 := c_zero.trans EReal.coe_zero
  have e : (amaxB (F := Ideal) X SEL prev (ix2 g l) : EReal)
      = max (prev (ix2 g l)) (accS (F := Ideal) (yS (F := Ideal) X SEL) (k0_pay183 (F := Ideal) (ix2 g l)) g.val l.val 20) := rfl
  rw [e, max_le_iff, accS_le_iff]
  have hgm : ∀ k < 20, ∀ r < 256, (gmS (F := Ideal) (yS (F := Ideal) X SEL k) g.val r : EReal) ≤ b
      ↔ ∀ c < 32, mag (Xv x0 (256 * s + r) (32 * (8 * k + g.val) + c)) ≤ b := fun k hk r hr => gmS_max X SEL hS x0 s hX k g.val r hk hg hr b
  constructor
  · rintro ⟨⟨h1, h2, h3⟩, h4⟩
    have hpb := (hp b).1 ⟨h1, h4⟩
    refine ⟨h4, fun s' hs' k hk h hh c hc => ?_⟩
    by_cases hlt : s' < s
    · exact hpb.2 s' hlt k hk h hh c hc
    · obtain rfl : s' = s := by omega
      have h5 := h3 k hk
      rcases (by omega : h = 0 ∨ h = 1) with rfl | rfl
      · rw [show 128 * 0 + l.val = l.val by omega]
        exact (hgm k hk l.val (by omega)).1 h5.1 c hc
      · exact (hgm k hk (128 + l.val) (by omega)).1 h5.2 c hc
  · rintro ⟨h4, h⟩
    have hpb := (hp b).2 ⟨h4, fun s' hs' => h s' (by omega)⟩
    refine ⟨⟨hpb.1, le_of_eq_of_le hz h4, fun k hk => ⟨(hgm k hk l.val (by omega)).2 fun c hc => ?_, (hgm k hk (128 + l.val) (by omega)).2 fun c hc => ?_⟩⟩, h4⟩
    · have := h s (by omega) k hk 0 (by omega) c hc
      rw [show 128 * 0 + l.val = l.val by omega] at this
      exact this
    · exact h s (by omega) k hk 1 (by omega) c hc

end KernelIdeal

end Cert.Proof
end
-- ==== Proof.M.Arrays.lean ====
module

public import proofs.«01_k».proof.Proof.M.Blocks
public import proofs.«01_k».proof.Proof.M.Codes
public import proofs.«01_k».proof.Proof.M.Accum

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat)
open Cert.ReferenceIdeal.Read

variable (m : (ℓ : Loc nD τ sig) → Buf (Elt Ideal) ℓ) (c : Dev nD)

/-- The input. -/
abbrev X0 : S16x2048x5120.Idx → EReal := m ((c : Thread nD τ).loc main_arg0)
/-- The seed. -/
abbrev X1 : S2.Idx → BitVec 32 := m ((c : Thread nD τ).loc main_arg1)

/-- The batch and the row in the batch of a row of all batches. -/
abbrev rowAt {n : ℕ} (i : (⟨2, ![32768, n]⟩ : Shape).Idx) : (⟨3, ![16, 2048, n]⟩ : Shape).Idx :=
  ix3 (Fin.ofNat 16 ((i 0).val / 2048)) (Fin.ofNat 2048 (i 0).val) (⟨(i 1).val, (i 1).isLt⟩ : Fin n)

/-- The batch and the row in the batch make up the row of all batches. -/
theorem rowAt_row {n : ℕ} (i : (⟨2, ![32768, n]⟩ : Shape).Idx) : 2048 * (rowAt i 0).val + (rowAt i 1).val = (i 0).val := by
  have h : (i 0).val < 32768 := (i 0).isLt
  show 2048 * ((i 0).val / 2048 % 16) + (i 0).val % 2048 = _
  omega

/-- The array of codes after the run. -/
theorem codes_arr (hR : AllInRange (X0 m c)) : (dats m 0 c).arrAt 3 cfg0.N
    = fun i : S32768x2560.Idx => val_main_v712 (F := Ideal) (X0 m c) (X1 m c) (rowAt i) := by
  refine (dats m 0 c).arrAt_eq_of_covers 3 _ (by decide +kernel) fun t _ y => ?_
  have hN : t.val < 128 := lt_of_lt_of_eq t.isLt (by decide)
  have hi := index_at t
  show codesAt m c t y = val_main_v712 (F := Ideal) (X0 m c) (X1 m c) (rowAt (((cfg0.win 3).blk t).view.emb y))
  unfold codesAt
  rw [seedB_eq, seedB_eq, hi.2.2.2.2.2.2.2]
  refine codes_eq (xB m c t) (selB m c t) (selB_isSel m c t) (X0 m c) t.val hN (fun r k => xB_eq m c t r k) hR (X1 m c) y _ ?_ ?_
  · rw [rowAt_row]
    show win0_3.index t 0 * 256 + 1 * (y 0).val = _
    rw [hi.2.2.2.1]
    show t.val * 256 + 1 * (y 0).val = _
    omega
  · show win0_3.index t 1 * 2560 + 1 * (y 1).val = _
    rw [hi.2.2.2.1]
    show 0 * 2560 + 1 * (y 1).val = _
    omega

/-- The array of scale bytes after the run. -/
theorem scales_arr (hR : AllInRange (X0 m c)) : (dats m 0 c).arrAt 4 cfg0.N
    = fun i : S32768x160.Idx => val_main_v654 (F := Ideal) (X0 m c) (rowAt i) := by
  refine (dats m 0 c).arrAt_eq_of_covers 4 _ (by decide +kernel) fun t _ y => ?_
  have hN : t.val < 128 := lt_of_lt_of_eq t.isLt (by decide)
  have hi := index_at t
  show scalesAt m c t y = val_main_v654 (F := Ideal) (X0 m c) (rowAt (((cfg0.win 4).blk t).view.emb y))
  unfold scalesAt
  refine scales_eq (xB m c t) (selB m c t) (selB_isSel m c t) (X0 m c) t.val hN (fun r k => xB_eq m c t r k) hR y _ ?_ ?_
  · rw [rowAt_row]
    show win0_4.index t 0 * 256 + 1 * (y 0).val = _
    rw [hi.2.2.2.2.1]
    show t.val * 256 + 1 * (y 0).val = _
    omega
  · show win0_4.index t 1 * 160 + 1 * (y 1).val = _
    rw [hi.2.2.2.2.1]
    show 0 * 160 + 1 * (y 1).val = _
    omega

/-- The sums of the columns after each step. -/
theorem sumsAt_eq : ∀ (n : ℕ) (h : n < cfg0.N) (a : Fin 8) (k : Fin 5120),
    sumsAt m c n h (ix2 a k) = colSum (X0 m c) (256 * (n + 1)) k.val
  | 0, h, a, k => sums_step (xB m c ⟨0, h⟩) (X0 m c) 0 (fun r k => xB_eq m c ⟨0, h⟩ r k) (k0_pay180 (F := Ideal)) a k
      (c_zero.trans EReal.coe_zero)
  | n + 1, h, a, k => sums_step (xB m c ⟨n + 1, h⟩) (X0 m c) (n + 1) (fun r k => xB_eq m c ⟨n + 1, h⟩ r k) _ a k
      (sumsAt_eq n (Nat.lt_of_succ_lt h) a k)

/-- What the largest magnitudes of a lane lie below after each step. -/
theorem amaxAt_le : ∀ (n : ℕ) (h : n < cfg0.N) (g : Fin 8) (l : Fin 128) (b : EReal),
    amaxAt m c n h (ix2 g l) ≤ b ∧ 0 ≤ b ↔ LaneLe (X0 m c) (n + 1) g.val l.val b
  | 0, h, g, l, b => amax_step (xB m c ⟨0, h⟩) (selB m c ⟨0, h⟩) (selB_isSel m c ⟨0, h⟩) (X0 m c) 0 (fun r k => xB_eq m c ⟨0, h⟩ r k)
      (k0_pay181 (F := Ideal)) g l (fun b => ⟨fun q => ⟨q.2, fun s hs => absurd hs (Nat.not_lt_zero s)⟩,
        fun q => ⟨le_of_eq_of_le (c_zero.trans EReal.coe_zero) q.1, q.1⟩⟩) b
  | n + 1, h, g, l, b => amax_step (xB m c ⟨n + 1, h⟩) (selB m c ⟨n + 1, h⟩) (selB_isSel m c ⟨n + 1, h⟩) (X0 m c) (n + 1)
      (fun r k => xB_eq m c ⟨n + 1, h⟩ r k) _ g l (fun b => amaxAt_le n (Nat.lt_of_succ_lt h) g l b) b

/-- Step 127 is a step of the grid. -/
theorem last_lt : 127 < cfg0.N := by decide

/-- The array of sums after the run. -/
theorem sums_arr : (dats m 0 c).arrAt 5 cfg0.N = fun i : S8x5120.Idx => colSum (X0 m c) 32768 (i 1).val := by
  refine (dats m 0 c).arrAt_eq_of_covers 5 _ (by decide +kernel) fun t ht y => ?_
  have hN : t.val < 128 := lt_of_lt_of_eq t.isLt (by decide)
  have h127 : t.val = 127 := by have := (flush0_5 t).1 ht; omega
  have hi := index_at t
  obtain ⟨n, hn⟩ := t
  dsimp only at h127
  subst h127
  have e : (((cfg0.win 5).blk ⟨127, hn⟩).view.emb y 1).val = (y 1).val := by
    show win0_5.index ⟨127, hn⟩ 1 * 5120 + 1 * (y 1).val = (y 1).val
    rw [hi.2.2.2.2.2.1]
    show 0 * 5120 + 1 * (y 1).val = _
    omega
  show sumsAt m c 127 hn y = colSum (X0 m c) 32768 (((cfg0.win 5).blk ⟨127, hn⟩).view.emb y 1).val
  rw [e]
  have := sumsAt_eq m c 127 hn (⟨(y 0).val, (y 0).isLt⟩ : Fin 8) (⟨(y 1).val, (y 1).isLt⟩ : Fin 5120)
  refine Eq.trans (congrArg _ ?_) this
  funext a
  match a with
  | ⟨0, _⟩ => rfl
  | ⟨1, _⟩ => rfl

/-- The array of largest magnitudes after the run. -/
theorem amax_arr : (dats m 0 c).arrAt 6 cfg0.N = (amaxAt m c 127 last_lt : S8x128.Idx → EReal) := by
  refine (dats m 0 c).arrAt_eq_of_covers 6 _ (by decide +kernel) fun t ht y => ?_
  have hN : t.val < 128 := lt_of_lt_of_eq t.isLt (by decide)
  have h127 : t.val = 127 := by have := (flush0_6 t).1 ht; omega
  have hi := index_at t
  obtain ⟨n, hn⟩ := t
  dsimp only at h127
  subst h127
  show amaxAt m c 127 hn y = amaxAt m c 127 last_lt (((cfg0.win 6).blk ⟨127, hn⟩).view.emb y)
  congr 1
  funext a
  apply Fin.ext
  match a with
  | ⟨0, _⟩ =>
    show (y 0).val = win0_6.index ⟨127, hn⟩ 0 * 8 + 1 * (y 0).val
    rw [hi.2.2.2.2.2.2.1]
    show _ = 0 * 8 + 1 * (y 0).val
    omega
  | ⟨1, _⟩ =>
    show (y 1).val = win0_6.index ⟨127, hn⟩ 1 * 128 + 1 * (y 1).val
    rw [hi.2.2.2.2.2.2.1]
    show _ = 0 * 128 + 1 * (y 1).val
    omega

end Cert.Proof.KernelIdeal
end
-- ==== Proof.M.Results.lean ====
module

public import proofs.«01_k».proof.Proof.M.Arrays

@[expose] public section

set_option maxRecDepth 16384

noncomputable section

namespace Cert.Proof.KernelIdeal

open Cert.KernelIdeal Cert.KernelIdeal.Gen
open Idealize.ShloMosaic Idealize.ShloMosaic.TcCoe
open Idealize.ShloMosaic.Pipeline (Dat)
open Cert.ReferenceIdeal.Read

section Tail

variable {F : FTy → Type} [FloatOps F] (m : (ℓ : Loc nD τ sig) → Buf (Elt F) ℓ) (c : Dev nD)

/-- The codes after the run, of the array the kernel leaves. -/
theorem tail_v2 : Pipeline.afterTail₀ cfgs (dats m) 0 (V0 m) [hostOps1] c main_v2
    = shapeCast S16x2048x2560 ((dats m 0 c).arrAt 3 cfg0.N : S32768x2560.Idx → BitVec 8) shapeCasts_S32768x2560_S16x2048x2560 := by
  unfold Pipeline.afterTail₀
  show StableHlo.after hostOps1 _ _ = _
  after_results
  exact congrArg (fun z : S32768x2560.Idx → BitVec 8 => shapeCast S16x2048x2560 z shapeCasts_S32768x2560_S16x2048x2560)
    (Pipeline.withArrays_arr spec0 launch0.win.arr_inj c (V0 m c) (fun w => (dats m 0 c).arrAt w cfg0.N) 3)

/-- The scale bytes after the run, of the array the kernel leaves. -/
theorem tail_v3 : Pipeline.afterTail₀ cfgs (dats m) 0 (V0 m) [hostOps1] c main_v3
    = shapeCast S16x2048x160 ((dats m 0 c).arrAt 4 cfg0.N : S32768x160.Idx → BitVec 8) shapeCasts_S32768x160_S16x2048x160 := by
  unfold Pipeline.afterTail₀
  show StableHlo.after hostOps1 _ _ = _
  after_results
  exact congrArg (fun z : S32768x160.Idx → BitVec 8 => shapeCast S16x2048x160 z shapeCasts_S32768x160_S16x2048x160)
    (Pipeline.withArrays_arr spec0 launch0.win.arr_inj c (V0 m c) (fun w => (dats m 0 c).arrAt w cfg0.N) 4)

/-- The sums after the run are the first row of the array the kernel leaves. -/
theorem tail_v5 : Pipeline.afterTail₀ cfgs (dats m) 0 (V0 m) [hostOps1] c main_v5
    = shapeCast S5120 (extractStridedSlice S1x5120 ![0, 0] ((dats m 0 c).arrAt 5 cfg0.N : S8x5120.Idx → F .f32) slices_S8x5120_S1x5120_0_0) shapeCasts_S1x5120_S5120 := by
  unfold Pipeline.afterTail₀
  show StableHlo.after hostOps1 _ _ = _
  after_results
  exact congrArg (fun z : S8x5120.Idx → F .f32 => shapeCast S5120 (extractStridedSlice S1x5120 ![0, 0] z slices_S8x5120_S1x5120_0_0) shapeCasts_S1x5120_S5120)
    (Pipeline.withArrays_arr spec0 launch0.win.arr_inj c (V0 m c) (fun w => (dats m 0 c).arrAt w cfg0.N) 5)

/-- The largest magnitude after the run is the maximum of the array the kernel leaves. -/
theorem tail_v6 : Pipeline.afterTail₀ cfgs (dats m) 0 (V0 m) [hostOps1] c main_v6
    = Host.reduce FloatOps.maximumf ((dats m 0 c).arrAt 6 cfg0.N : FVec F S8x128 .f32) (constant S_ .f32 0xFF800000#32) reducesTo_S8x128_S_d0_1 h_S_ := by
  unfold Pipeline.afterTail₀
  show StableHlo.after hostOps1 _ _ = _
  after_results
  exact congrArg (fun z : FVec F S8x128 .f32 => Host.reduce FloatOps.maximumf z (constant S_ .f32 0xFF800000#32) reducesTo_S8x128_S_d0_1 h_S_)
    (Pipeline.withArrays_arr spec0 launch0.win.arr_inj c (V0 m c) (fun w => (dats m 0 c).arrAt w cfg0.N) 6)

end Tail

variable (m : (ℓ : Loc nD τ sig) → Buf (Elt Ideal) ℓ) (c : Dev nD)

/-- The codes are the reference's. -/
theorem result_codes (hR : AllInRange (X0 m c)) : Pipeline.afterTail₀ cfgs (dats m) 0 (V0 m) [hostOps1] c main_v2
    = val_main_v712 (F := Ideal) (X0 m c) (X1 m c) := by
  rw [tail_v2, codes_arr m c hR]
  funext j
  have h0 : (j 0).val < 16 := (j 0).isLt
  have h1 : (j 1).val < 2048 := (j 1).isLt
  rw [shapeCast_apply _ _ j (ix2 (⟨2048 * (j 0).val + (j 1).val, by omega⟩ : Fin 32768) (⟨(j 2).val, (j 2).isLt⟩ : Fin 2560)) (by
    rw [Shape.rowMajor_val_two, Shape.rowMajor_val_three]
    show (2048 * (j 0).val + (j 1).val) * 2560 + (j 2).val = ((j 0).val * 2048 + (j 1).val) * 2560 + (j 2).val
    omega)]
  congr 1
  funext a
  apply Fin.ext
  match a with
  | ⟨0, _⟩ =>
    show (2048 * (j 0).val + (j 1).val) / 2048 % 16 = (j 0).val
    omega
  | ⟨1, _⟩ =>
    show (2048 * (j 0).val + (j 1).val) % 2048 = (j 1).val
    omega
  | ⟨2, _⟩ => rfl

/-- The scale bytes are the reference's. -/
theorem result_scales (hR : AllInRange (X0 m c)) : Pipeline.afterTail₀ cfgs (dats m) 0 (V0 m) [hostOps1] c main_v3
    = val_main_v654 (F := Ideal) (X0 m c) := by
  rw [tail_v3, scales_arr m c hR]
  funext j
  have h0 : (j 0).val < 16 := (j 0).isLt
  have h1 : (j 1).val < 2048 := (j 1).isLt
  rw [shapeCast_apply _ _ j (ix2 (⟨2048 * (j 0).val + (j 1).val, by omega⟩ : Fin 32768) (⟨(j 2).val, (j 2).isLt⟩ : Fin 160)) (by
    rw [Shape.rowMajor_val_two, Shape.rowMajor_val_three]
    show (2048 * (j 0).val + (j 1).val) * 160 + (j 2).val = ((j 0).val * 2048 + (j 1).val) * 160 + (j 2).val
    omega)]
  congr 1
  funext a
  apply Fin.ext
  match a with
  | ⟨0, _⟩ =>
    show (2048 * (j 0).val + (j 1).val) / 2048 % 16 = (j 0).val
    omega
  | ⟨1, _⟩ =>
    show (2048 * (j 0).val + (j 1).val) % 2048 = (j 1).val
    omega
  | ⟨2, _⟩ => rfl

/-- The sums of the columns are the reference's. -/
theorem result_sums : Pipeline.afterTail₀ cfgs (dats m) 0 (V0 m) [hostOps1] c main_v5 = val_main_v715 (F := Ideal) (X0 m c) := by
  rw [tail_v5, sums_arr]
  funext j
  rw [ref_sum]
  rw [shapeCast_apply _ _ j (ix2 (0 : Fin 1) (⟨(j 0).val, (j 0).isLt⟩ : Fin 5120)) (by
    rw [Shape.rowMajor_val_two, Shape.rowMajor_val_one]
    show 0 * 5120 + (j 0).val = (j 0).val
    omega)]
  show colSum (X0 m c) 32768 (0 + (j 0).val) = _
  rw [Nat.zero_add]

/-- A bound on a lane's largest magnitude is not negative. -/
theorem amax_pos (X : S256x5120.Idx → EReal) (SEL : S256x256.Idx → EReal) (prev : S8x128.Idx → EReal) (p : S8x128.Idx) (b : EReal)
    (h : amaxB (F := Ideal) X SEL prev p ≤ b) : 0 ≤ b := by
  have h' : max (prev p) (accS (F := Ideal) (yS (F := Ideal) X SEL) (k0_pay183 (F := Ideal) p) (p 0).val (p 1).val 20) ≤ b := h
  have hz : (k0_pay183 (F := Ideal) p : EReal) = 0 := c_zero.trans EReal.coe_zero
  exact le_of_eq_of_le hz.symm ((accS_le_iff _ _ _ _ _ _).1 (max_le_iff.1 h').2).1

/-- The largest magnitude is the reference's. -/
theorem result_amax : Pipeline.afterTail₀ cfgs (dats m) 0 (V0 m) [hostOps1] c main_v6 = val_main_v718 (F := Ideal) (X0 m c) := by
  rw [tail_v6, amax_arr]
  funext j
  refine eq_of_forall_ge_iff fun b => ?_
  refine Iff.trans ?_ (ref_amax (X0 m c) j b).symm
  rw [← lanes_all]
  refine (hostReduce_le_iff (φ := .f32) (amaxAt m c 127 last_lt) _ _ _ _ b).trans ?_
  constructor
  · rintro ⟨-, h⟩ g hg l hl
    have hb : 0 ≤ b := amax_pos (xB m c ⟨127, last_lt⟩) (selB m c ⟨127, last_lt⟩) (amaxAt m c 126 (Nat.lt_of_succ_lt last_lt)) (ix2 0 0) b
      (h _ (by funext a; exact a.elim0))
    exact (amaxAt_le m c 127 last_lt ⟨g, hg⟩ ⟨l, hl⟩ b).1 ⟨h _ (by funext a; exact a.elim0), hb⟩
  · intro h
    refine ⟨le_of_eq_of_le c_ninf bot_le, fun i _ => ?_⟩
    have := ((amaxAt_le m c 127 last_lt ⟨(i 0).val, (i 0).isLt⟩ ⟨(i 1).val, (i 1).isLt⟩ b).2 (h _ (i 0).isLt _ (i 1).isLt)).1
    refine le_of_eq_of_le (congrArg _ ?_) this
    funext a
    match a with
    | ⟨0, _⟩ => rfl
    | ⟨1, _⟩ => rfl

end Cert.Proof.KernelIdeal
end
-- ==== Proof.M.Pre.lean ====
module

public import proofs.«01_k».proof.Defs
public import proofs.«01_k».proof.Proof.M.Codes
public import proofs.«01_k».proof.Proof.Gen.Pre_scale_in_range

@[expose] public section

set_option maxRecDepth 16384

noncomputable section

namespace Cert.Proof

open Idealize.ShloMosaic Cert.Pre_scale_in_range Cert.Pre_scale_in_range.Facts

/-- A comparison of two values as a bit. -/
theorem ofBool_iff (p : Prop) [Decidable p] : BitVec.ofBool (decide p) = 1#1 ↔ p := by
  by_cases h : p <;> simp [h]

/-- The largest magnitudes of the groups, as the precondition computes them. -/
def preMax [Cert.Pre_scale_in_range.Facts] (x0 : FVec Ideal S16x2048x5120 .bf16) : FVec Ideal S16x2048x160 .f32 :=
  Host.reduce FloatOps.maximumf
    (shapeCast S16x2048x160x32 (Host.absf (extf .f32 x0 bitsLt_bf16_f32)) shapeCasts_S16x2048x5120_S16x2048x160x32)
    (constant S_ .f32 0xFF800000#32) reducesTo_S16x2048x160x32_S16x2048x160_d3 h_S_

/-- The precondition's largest magnitude of a group is the group's largest magnitude. -/
theorem pre_max [Cert.Pre_scale_in_range.Facts] (x0 : FVec Ideal S16x2048x5120 .bf16) (j : S16x2048x160.Idx) :
    GroupMax x0 (2048 * (j 0).val + (j 1).val) (j 2).val (preMax x0 j) := by
  have j0 : (j 0).val < 16 := (j 0).isLt
  have j1 : (j 1).val < 2048 := (j 1).isLt
  have j2 : (j 2).val < 160 := (j 2).isLt
  intro b
  unfold preMax
  rw [hostReduce_le_iff]
  have hval : ∀ i : S16x2048x160x32.Idx, shapeCast S16x2048x160x32 (Host.absf (extf .f32 x0 bitsLt_bf16_f32)) shapeCasts_S16x2048x5120_S16x2048x160x32 i
      = mag (Xv x0 (2048 * (i 0).val + (i 1).val) (32 * (i 2).val + (i 3).val)) := by
    intro i
    have i0 : (i 0).val < 16 := (i 0).isLt
    have i1 : (i 1).val < 2048 := (i 1).isLt
    have i2 : (i 2).val < 160 := (i 2).isLt
    have i3 : (i 3).val < 32 := (i 3).isLt
    rw [shapeCast_apply _ _ _ (ix3 (⟨(i 0).val, i0⟩ : Fin 16) (⟨(i 1).val, i1⟩ : Fin 2048) (⟨32 * (i 2).val + (i 3).val, by omega⟩ : Fin 5120))
      (by
        rw [Shape.rowMajor_val_three, Shape.rowMajor_val_four]
        show ((i 0).val * 2048 + (i 1).val) * 5120 + (32 * (i 2).val + (i 3).val) = (((i 0).val * 2048 + (i 1).val) * 160 + (i 2).val) * 32 + (i 3).val
        omega)]
    show mag (x0 _) = _
    congr 1
    exact Xv_eq _ _ _ _ (by show (i 0).val = _; omega) (by show (i 1).val = _; omega) (by show 32 * (i 2).val + (i 3).val = _; omega)
  constructor
  · rintro ⟨-, h⟩ c hc
    have := h (ix4 (⟨(j 0).val, j0⟩ : Fin 16) (⟨(j 1).val, j1⟩ : Fin 2048) (⟨(j 2).val, j2⟩ : Fin 160) (⟨c, hc⟩ : Fin 32)) (by
      funext a
      match a with
      | ⟨0, _⟩ => rfl
      | ⟨1, _⟩ => rfl
      | ⟨2, _⟩ => rfl)
    rw [hval] at this
    exact this
  · intro h
    refine ⟨le_of_eq_of_le c_ninf bot_le, fun i hi => ?_⟩
    rw [hval]
    have e0 : (i 0).val = (j 0).val := congrArg (fun q : S16x2048x160.Idx => (q 0).val) hi
    have e1 : (i 1).val = (j 1).val := congrArg (fun q : S16x2048x160.Idx => (q 1).val) hi
    have e2 : (i 2).val = (j 2).val := congrArg (fun q : S16x2048x160.Idx => (q 2).val) hi
    rw [e0, e1, e2]
    exact h _ (i 3).isLt

/-- What the precondition's bit says of a group. -/
theorem inRange_of_bit (P c0 c1 c2 : FVec Ideal S16x2048x160 .f32) (j : S16x2048x160.Idx)
    (h : ori (cmpf .oeq P c0) (andi (cmpf .oge P c1) (cmpf .ole P c2)) j = 1#1)
    (h0 : c0 j = Scalar.ofBits .f32 0x00000000#32) (h1 : c1 j = Scalar.ofBits .f32 0x01000000#32)
    (h2 : c2 j = Scalar.ofBits .f32 0x7F7F0000#32) : InRange (P j) := by
  have hor : ∀ p q r : BitVec 1, IntOp.ori p (IntOp.andi q r) = 1#1 → p = 1#1 ∨ (q = 1#1 ∧ r = 1#1) := by decide
  rcases hor _ _ _ h with h4 | ⟨h4, h5⟩
  · exact Or.inl (((ofBool_iff _).1 h4).trans (h0.trans c_zero))
  · exact Or.inr ⟨le_of_eq_of_le (h1.trans c_lo).symm ((ofBool_iff _).1 h4), le_of_le_of_eq ((ofBool_iff _).1 h5) h2⟩

/-- The precondition, over the groups' largest magnitudes. -/
theorem fn_eq [Cert.Pre_scale_in_range.Facts] (x0 : FVec Ideal S16x2048x5120 .bf16) (x1 : IVec S2 32) :
    Cert.Pre_scale_in_range.fn (F := Ideal) x0 x1
      = Host.reduce IntOp.andi (ori (cmpf .oeq (preMax x0) (broadcastInDim S16x2048x160 ![] bcast_S_S16x2048x160 (constant S_ .f32 0x00000000#32)))
          (andi (cmpf .oge (preMax x0) (broadcastInDim S16x2048x160 ![] bcast_S_S16x2048x160 (constant S_ .f32 0x01000000#32)))
            (cmpf .ole (preMax x0) (broadcastInDim S16x2048x160 ![] bcast_S_S16x2048x160 (constant S_ .f32 0x7F7F0000#32)))))
        (constantI S_ 1 1#1) reducesTo_S16x2048x160_S_d0_1_2 h_S_ := by
  unfold Cert.Pre_scale_in_range.fn preMax
  dsimp only

/-- The precondition puts every group's largest magnitude in range. -/
theorem inRange_of_pre [Cert.Pre_scale_in_range.Facts] (x0 : FVec Ideal S16x2048x5120 .bf16) (x1 : IVec S2 32)
    (h : Cert.Pre_scale_in_range.fn (F := Ideal) x0 x1 = fun _ => 1#1) : KernelIdeal.AllInRange x0 := by
  intro R hR G hG g hg
  rw [fn_eq] at h
  have h2 := hostReduce_and _ _ _ _ _ (congrFun h (Shape.Idx.first h_S_))
    (ix3 (⟨R / 2048, by omega⟩ : Fin 16) (⟨R % 2048, by omega⟩ : Fin 2048) (⟨G, hG⟩ : Fin 160)) (by funext a; exact a.elim0)
  have hm := pre_max x0 (ix3 (⟨R / 2048, by omega⟩ : Fin 16) (⟨R % 2048, by omega⟩ : Fin 2048) (⟨G, hG⟩ : Fin 160))
  have hm' : GroupMax x0 (2048 * (R / 2048) + R % 2048) G _ := hm
  rw [show 2048 * (R / 2048) + R % 2048 = R by omega] at hm'
  rw [hg.eq hm']
  exact inRange_of_bit _ _ _ _ _ h2 rfl rfl rfl

end Cert.Proof
end
-- ==== Proof.M.Algebraic.lean ====
module

public import proofs.«01_k».proof.Defs
public import proofs.«01_k».proof.Proof.M.Results
public import proofs.«01_k».proof.Proof.M.Pre
public import proofs.«01_k».proof.Proof.Gen.ReferenceIdeal.Run

@[expose] public section

set_option maxRecDepth 16384

noncomputable section

namespace Cert.Proof

open Idealize.ShloMosaic Idealize.ShloMosaic.TcCoe Idealize.SL.Sem
open Cert.KernelIdeal Cert.KernelIdeal.Gen

/-- The kernel ends with its four results at the reference's functions of its arguments, which it leaves unchanged. -/
theorem kernel_run (m : (ℓ : Loc nD τ sig) → Buf (Elt Ideal) ℓ) (g : Dev nD → PrngReg)
    (hR : ∀ c, KernelIdeal.AllInRange (KernelIdeal.X0 m c)) :
    θ_run (Cert.KernelIdeal.defs (F := Ideal)) (onTc (τ := τ) (main (F := Ideal))) ⟨m, fun _ => 0, g⟩ (fun r => ∀ c : Dev nD,
      r.2.mem ((c.tc : Thread nD τ).loc main_v2) = Cert.ReferenceIdeal.Read.val_main_v712 (F := Ideal) (KernelIdeal.X0 m c) (KernelIdeal.X1 m c)
      ∧ r.2.mem ((c.tc : Thread nD τ).loc main_v3) = Cert.ReferenceIdeal.Read.val_main_v654 (F := Ideal) (KernelIdeal.X0 m c)
      ∧ r.2.mem ((c.tc : Thread nD τ).loc main_v5) = Cert.ReferenceIdeal.Read.val_main_v715 (F := Ideal) (KernelIdeal.X0 m c)
      ∧ r.2.mem ((c.tc : Thread nD τ).loc main_v6) = Cert.ReferenceIdeal.Read.val_main_v718 (F := Ideal) (KernelIdeal.X0 m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run Cert.KernelIdeal.defs _ _).mono (fun r h c =>
    ⟨((h.1 c).2 main_v2 (Pipeline.mem_restRefs_of main_v2 (by decide) (by decide))).trans (KernelIdeal.result_codes m c (hR c)),
     ((h.1 c).2 main_v3 (Pipeline.mem_restRefs_of main_v3 (by decide) (by decide))).trans (KernelIdeal.result_scales m c (hR c)),
     ((h.1 c).2 main_v5 (Pipeline.mem_restRefs_of main_v5 (by decide) (by decide))).trans (KernelIdeal.result_sums m c),
     ((h.1 c).2 main_v6 (Pipeline.mem_restRefs_of main_v6 (by decide) (by decide))).trans (KernelIdeal.result_amax m c),
     ((h.1 c).2 main_arg0 (Pipeline.mem_restRefs_of main_arg0 (by decide) (by decide))).trans (W_main_arg0 m (KernelIdeal.dats m) c),
     ((h.1 c).1 0).trans (((KernelIdeal.dats m 0 c).arrAt_in 0 rfl _).trans ((KernelIdeal.A_eq m c 0).trans (V_main_arg1 m c)))⟩)
    (KernelIdeal.run_main m g)

/-- Started on the same arguments, with every group's largest magnitude in range, the kernel and the reference end with
the same four results. -/
theorem algebraic : Cert.algebraic_KernelIdeal_ReferenceIdeal_pre_scale_in_range := by
  intro m g m' g' hpre hagree
  refine ⟨_, _, _, _, kernel_run m g (fun c => inRange_of_pre _ _ (hpre c)), ?_⟩
  refine (θ_run Cert.ReferenceIdeal.defs _ _).mono (fun r h c => ?_) (Cert.ReferenceIdeal.Value.run (F := Ideal) m' g')
  have e0 := (hagree c).1
  have e1 := (hagree c).2
  have h := h c
  refine ⟨h.1.trans ((Cert.ReferenceIdeal.Read.val_main_v712_eq (F := Ideal) _).trans ?_),
    h.2.1.trans ((Cert.ReferenceIdeal.Read.val_main_v654_eq (F := Ideal) _).trans ?_),
    h.2.2.1.trans ((Cert.ReferenceIdeal.Read.val_main_v715_eq (F := Ideal) _).trans ?_),
    h.2.2.2.1.trans ((Cert.ReferenceIdeal.Read.val_main_v718_eq (F := Ideal) _).trans ?_), h.2.2.2.2⟩
  · exact congrArg₂ (Cert.ReferenceIdeal.Read.val_main_v712 (F := Ideal)) e0 e1
  · exact congrArg (Cert.ReferenceIdeal.Read.val_main_v654 (F := Ideal)) e0
  · exact congrArg (Cert.ReferenceIdeal.Read.val_main_v715 (F := Ideal)) e0
  · exact congrArg (Cert.ReferenceIdeal.Read.val_main_v718 (F := Ideal)) e0

end Cert.Proof
end
-- ==== Proof.RefFrame.lean ====
module

public import proofs.«01_k».proof.Defs
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.SL.Sem

/-- The reference runs to the end with its arguments unchanged and every semaphore counter at zero. -/
theorem quiescent_ReferenceIdeal : Cert.quiescent_ReferenceIdeal := fun m g _ =>
  (θ_run Cert.ReferenceIdeal.defs _ _).mono (fun r h => ⟨fun c => (h c).2.2.2.2, sem_eq_zero_of_no_sems (by decide) r.2⟩)
    (Cert.ReferenceIdeal.Value.run (F := Ideal) m g)

end Cert.Proof
end
-- ==== Proof.lean ====
/- The claims, assembled from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_scale_in_range
public import proofs.«01_k».proof.Proof.K.KernelFrame
public import proofs.«01_k».proof.Proof.K.Launch
public import proofs.«01_k».proof.Proof.M.Algebraic
public import proofs.«01_k».proof.Proof.RefFrame

@[expose] public section

noncomputable section

namespace Cert.Proof

theorem claim : Cert.Claim := ⟨Cert.Kernel.Gen.facts, Cert.KernelIdeal.Gen.facts, Cert.ReferenceIdeal.Gen.facts, Cert.Pre_scale_in_range.Gen.facts,
  quiescent_Kernel, fun m g _ => Cert.Proof.KernelIdeal.frame m g, fun m g _ => Cert.Proof.KernelIdeal.frame m g,
  quiescent_ReferenceIdeal, fun m g _ => quiescent_ReferenceIdeal m g trivial, trivial, algebraic⟩

end Cert.Proof

end
